-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_keys.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S2x256x8x64 : Shape := ⟨4, ![2, 256, 8, 64]⟩
abbrev S2x256x32 : Shape := ⟨3, ![2, 256, 32]⟩
abbrev S_ : Shape := ⟨0, ![]⟩
abbrev S1 : Shape := ⟨1, ![1]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8192x8x32 : S_.BroadcastsInDim S2x8192x8x32 (![] : Fin 0 → Fin S2x8192x8x32.rank)
  reducesTo_S2x8192x8x32_S_d0_1_2_3 : S2x8192x8x32.ReducesTo [0, 1, 2, 3] S_
  bcast_S_S2x8192x32 : S_.BroadcastsInDim S2x8192x32 (![] : Fin 0 → Fin S2x8192x32.rank)
  reducesTo_S2x8192x32_S_d0_1_2 : S2x8192x32.ReducesTo [0, 1, 2] S_
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  bcast_S_S2x256x32 : S_.BroadcastsInDim S2x256x32 (![] : Fin 0 → Fin S2x256x32.rank)
  reducesTo_S2x256x32_S_d0_1_2 : S2x256x32.ReducesTo [0, 1, 2] S_
  bcast_S_S1 : S_.BroadcastsInDim S1 (![] : Fin 0 → Fin S1.rank)

variable [Facts]

def fn_part1 {F : FTy → Type} [FloatOps F] (main_arg5 : FVec F S2x256x8x64 .f32) (main_arg6 : FVec F S2x256x32 .f32) (main_v13 : IVec S_ 1) (main_v16 : IVec S2x8192x32 1) : IVec S1 1 :=
  let main_c_5 : IVec S_ 1 := constantI S_ 1 1#1
  let main_v17 : IVec S_ 1 := (fun x v => Host.reduce IntOp.andi x v reducesTo_S2x8192x32_S_d0_1_2 h_S_) main_v16 main_c_5
  let main_v18 : IVec S_ 1 := andi main_v13 main_v17
  let main_v19 : FVec F S2x256x8x64 .f32 := Host.absf main_arg5
  let main_cst_6 : FVec F S_ .f32 := constant S_ .f32 0x7F800000#32
  let main_v20 : FVec F S2x256x8x64 .f32 := broadcastInDim S2x256x8x64 ![] bcast_S_S2x256x8x64 main_cst_6
  let main_v21 : IVec S2x256x8x64 1 := cmpf .olt main_v19 main_v20
  let main_c_7 : IVec S_ 1 := constantI S_ 1 1#1
  let main_v22 : IVec S_ 1 := (fun x v => Host.reduce IntOp.andi x v reducesTo_S2x256x8x64_S_d0_1_2_3 h_S_) main_v21 main_c_7
  let main_v23 : IVec S_ 1 := andi main_v18 main_v22
  let main_v24 : FVec F S2x256x32 .f32 := Host.absf main_arg6
  let main_cst_8 : FVec F S_ .f32 := constant S_ .f32 0x7F800000#32
  let main_v25 : FVec F S2x256x32 .f32 := broadcastInDim S2x256x32 ![] bcast_S_S2x256x32 main_cst_8
  let main_v26 : IVec S2x256x32 1 := cmpf .olt main_v24 main_v25
  let main_c_9 : IVec S_ 1 := constantI S_ 1 1#1
  let main_v27 : IVec S_ 1 := (fun x v => Host.reduce IntOp.andi x v reducesTo_S2x256x32_S_d0_1_2 h_S_) main_v26 main_c_9
  let main_v28 : IVec S_ 1 := andi main_v23 main_v27
  let main_v29 : IVec S1 1 := broadcastInDim S1 ![] bcast_S_S1 main_v28
  main_v29

def fn {F : FTy → Type} [FloatOps F] (main_arg0 : FVec F S2x8192x8x64 .f32) (main_arg1 : FVec F S2x8192x8x32 .f32) (main_arg2 : FVec F S2x8192x8x64 .f32) (main_arg3 : FVec F S2x8192x32 .f32) (main_arg4 : FVec F S2x8192x8x64 .f32) (main_arg5 : FVec F S2x256x8x64 .f32) (main_arg6 : FVec F S2x256x32 .f32) (main_arg7 : FVec F S2x256x8x64 .f32) : IVec S1 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x32 .f32 := Host.absf main_arg1
  let main_cst_0 : FVec F S_ .f32 := constant S_ .f32 0x7F800000#32
  let main_v5 : FVec F S2x8192x8x32 .f32 := broadcastInDim S2x8192x8x32 ![] bcast_S_S2x8192x8x32 main_cst_0
  let main_v6 : IVec S2x8192x8x32 1 := cmpf .olt main_v4 main_v5
  let main_c_1 : IVec S_ 1 := constantI S_ 1 1#1
  let main_v7 : IVec S_ 1 := (fun x v => Host.reduce IntOp.andi x v reducesTo_S2x8192x8x32_S_d0_1_2_3 h_S_) main_v6 main_c_1
  let main_v8 : IVec S_ 1 := andi main_v3 main_v7
  let main_v9 : FVec F S2x8192x8x64 .f32 := Host.absf main_arg2
  let main_cst_2 : FVec F S_ .f32 := constant S_ .f32 0x7F800000#32
  let main_v10 : FVec F S2x8192x8x64 .f32 := broadcastInDim S2x8192x8x64 ![] bcast_S_S2x8192x8x64 main_cst_2
  let main_v11 : IVec S2x8192x8x64 1 := cmpf .olt main_v9 main_v10
  let main_c_3 : IVec S_ 1 := constantI S_ 1 1#1
  let main_v12 : IVec S_ 1 := (fun x v => Host.reduce IntOp.andi x v reducesTo_S2x8192x8x64_S_d0_1_2_3 h_S_) main_v11 main_c_3
  let main_v13 : IVec S_ 1 := andi main_v8 main_v12
  let main_v14 : FVec F S2x8192x32 .f32 := Host.absf main_arg3
  let main_cst_4 : FVec F S_ .f32 := constant S_ .f32 0x7F800000#32
  let main_v15 : FVec F S2x8192x32 .f32 := broadcastInDim S2x8192x32 ![] bcast_S_S2x8192x32 main_cst_4
  let main_v16 : IVec S2x8192x32 1 := cmpf .olt main_v14 main_v15
  fn_part1 (F := F) main_arg5 main_arg6 main_v13 main_v16
-- ==== Kernel.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S2x256x8x64 : Shape := ⟨4, ![2, 256, 8, 64]⟩
abbrev S2x256x32 : Shape := ⟨3, ![2, 256, 32]⟩
abbrev S_ : Shape := ⟨0, ![]⟩
abbrev S2x8192x8x128 : Shape := ⟨4, ![2, 8192, 8, 128]⟩
abbrev S16384x1024 : Shape := ⟨2, ![16384, 1024]⟩
abbrev S1024x16384 : Shape := ⟨2, ![1024, 16384]⟩
abbrev S2x8192x1x32 : Shape := ⟨4, ![2, 8192, 1, 32]⟩
abbrev S2x256x1x32 : Shape := ⟨4, ![2, 256, 1, 32]⟩
abbrev S2x256x8x32 : Shape := ⟨4, ![2, 256, 8, 32]⟩
abbrev S2x256x8x128 : Shape := ⟨4, ![2, 256, 8, 128]⟩
abbrev S512x1024 : Shape := ⟨2, ![512, 1024]⟩
abbrev S16384x512 : Shape := ⟨2, ![16384, 512]⟩
abbrev S512x16384 : Shape := ⟨2, ![512, 16384]⟩
abbrev S512x512 : Shape := ⟨2, ![512, 512]⟩
abbrev S1024x512 : Shape := ⟨2, ![1024, 512]⟩
abbrev S8192x1024 : Shape := ⟨2, ![8192, 1024]⟩
abbrev S512x8192 : Shape := ⟨2, ![512, 8192]⟩
abbrev S256x1024 : Shape := ⟨2, ![256, 1024]⟩
abbrev S512x256 : Shape := ⟨2, ![512, 256]⟩
abbrev S8x1x512 : Shape := ⟨3, ![8, 1, 512]⟩
abbrev S2x4096x640 : Shape := ⟨3, ![2, 4096, 640]⟩
abbrev S16x512 : Shape := ⟨2, ![16, 512]⟩
abbrev S512x128 : Shape := ⟨2, ![512, 128]⟩
abbrev S128x512 : Shape := ⟨2, ![128, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S64x512 : Shape := ⟨2, ![64, 512]⟩
abbrev S80x512 : Shape := ⟨2, ![80, 512]⟩
abbrev S16x256 : Shape := ⟨2, ![16, 256]⟩
abbrev S256x128 : Shape := ⟨2, ![256, 128]⟩
abbrev S256x512 : Shape := ⟨2, ![256, 512]⟩
abbrev S1x256x512 : Shape := ⟨3, ![1, 256, 512]⟩
abbrev S64x256 : Shape := ⟨2, ![64, 256]⟩
abbrev S80x256 : Shape := ⟨2, ![80, 256]⟩

abbrev nBuf : Space → Nat
  | .hbm => 42
  | .vmem => 12
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x8x64, .f32⟩
  | .hbm, ⟨3, _⟩ => ⟨S2x8192x32, .f32⟩
  | .hbm, ⟨4, _⟩ => ⟨S2x8192x8x64, .f32⟩
  | .hbm, ⟨5, _⟩ => ⟨S2x256x8x64, .f32⟩
  | .hbm, ⟨6, _⟩ => ⟨S2x256x32, .f32⟩
  | .hbm, ⟨7, _⟩ => ⟨S2x256x8x64, .f32⟩
  | .hbm, ⟨8, _⟩ => ⟨S_, .f32⟩
  | .hbm, ⟨9, _⟩ => ⟨S2x8192x8x32, .f32⟩
  | .hbm, ⟨10, _⟩ => ⟨S2x8192x8x128, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S1024x16384, .f32⟩
  | .hbm, ⟨20, _⟩ => ⟨S1024x16384, .bf16⟩
  | .hbm, ⟨21, _⟩ => ⟨S2x8192x1x32, .f32⟩
  | .hbm, ⟨22, _⟩ => ⟨S2x8192x8x32, .f32⟩
  | .hbm, ⟨23, _⟩ => ⟨S_, .f32⟩
  | .hbm, ⟨24, _⟩ => ⟨S2x8192x8x32, .f32⟩
  | .hbm, ⟨25, _⟩ => ⟨S2x8192x8x128, .f32⟩
  | .hbm, ⟨26, _⟩ => ⟨S16384x1024, .f32⟩
  | .hbm, ⟨27, _⟩ => ⟨S16384x1024, .bf16⟩
  | .hbm, ⟨28, _⟩ => ⟨S2x256x1x32, .f32⟩
  | .hbm, ⟨29, _⟩ => ⟨S2x256x8x32, .f32⟩
  | .hbm, ⟨30, _⟩ => ⟨S_, .f32⟩
  | .hbm, ⟨31, _⟩ => ⟨S2x256x8x32, .f32⟩
  | .hbm, ⟨32, _⟩ => ⟨S2x256x8x128, .f32⟩
  | .hbm, ⟨33, _⟩ => ⟨S512x1024, .f32⟩
  | .hbm, ⟨34, _⟩ => ⟨S512x1024, .bf16⟩
  | .hbm, ⟨35, _⟩ => ⟨S16384x512, .f32⟩
  | .hbm, ⟨36, _⟩ => ⟨S512x16384, .f32⟩
  | .hbm, ⟨37, _⟩ => ⟨S512x16384, .bf16⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S8192x1024, .bf16⟩
  | .local _ .vmem, ⟨3, _⟩ => ⟨S512x8192, .bf16⟩
  | .local _ .vmem, ⟨4, _⟩ => ⟨S256x1024, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S8x1x512, .f32⟩
  | .local _ .vmem, ⟨9, _⟩ => ⟨S8x1x512, .f32⟩
  | .local _ .vmem, ⟨10, _⟩ => ⟨S512x512, .f32⟩
  | .local _ .vmem, ⟨11, _⟩ => ⟨S2x4096x640, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32 : BitVec 32 := 2#32
  let v12 : BitVec 32 := Scalar.addi c0_i32 c2_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v502 : BitVec 32 := v439
  let v503 : Index := Scalar.indexCast v502
  let c0_357 : Index := 0#32
  ![v503.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  v440
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let v514 : BitVec 32 := v440
  let v515 : Index := Scalar.indexCast v514
  let c0_365 : Index := 0#32
  ![v515.toNat, 0]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  v441
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let v527 : BitVec 32 := v441
  let v528 : Index := Scalar.indexCast v527
  let c0_373 : Index := 0#32
  ![v528.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  v442
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let v540 : BitVec 32 := v442
  let v541 : Index := Scalar.indexCast v540
  let c0_380 : Index := 0#32
  ![v541.toNat, 0]
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  v443
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let v553 : BitVec 32 := v443
  let v554 : Index := Scalar.indexCast v553
  let c0_387 : Index := 0#32
  ![v554.toNat, 0]
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  v444
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let v566 : BitVec 32 := v444
  let v567 : Index := Scalar.indexCast v566
  let c0_394 : Index := 0#32
  ![v567.toNat, 0]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  v445
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  let v579 : BitVec 32 := v445
  let v580 : Index := Scalar.indexCast v579
  let c0_401 : Index := 0#32
  ![v580.toNat, 0]
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  let c512_i32_306 : BitVec 32 := 512#32
  let v446 : BitVec 32 := Scalar.addi v445 c512_i32_306
  v446
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  let c512_i32_306 : BitVec 32 := 512#32
  let v446 : BitVec 32 := Scalar.addi v445 c512_i32_306
  let v592 : BitVec 32 := v446
  let v593 : Index := Scalar.indexCast v592
  let c0_408 : Index := 0#32
  ![v593.toNat, 0]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v613 : BitVec 32 := v439
  let v614 : Index := Scalar.indexCast v613
  let c128_421 : Index := 128#32
  ![v614.toNat, 128]
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off10 (k0_t1 : Fin k0_t1_loop.trips) : Fin 2 → Nat :=
  let c0_432 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v631 : BitVec 32 := v439
  let v632 : Index := Scalar.indexCast v631
  ![0, v632.toNat]
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  v447
def k0_off11 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let v637 : BitVec 32 := v447
  let v638 : Index := Scalar.indexCast v637
  let c128_434 : Index := 128#32
  ![v638.toNat, 128]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  v440
def k0_off12 (k0_t1 : Fin k0_t1_loop.trips) : Fin 2 → Nat :=
  let c0_445 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let v656 : BitVec 32 := v440
  let v657 : Index := Scalar.indexCast v656
  ![0, v657.toNat]
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  v448
def k0_off13 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let v663 : BitVec 32 := v448
  let v664 : Index := Scalar.indexCast v663
  let c128_447 : Index := 128#32
  ![v664.toNat, 128]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  v441
def k0_off14 (k0_t1 : Fin k0_t1_loop.trips) : Fin 2 → Nat :=
  let c0_458 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let v682 : BitVec 32 := v441
  let v683 : Index := Scalar.indexCast v682
  ![0, v683.toNat]
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  v449
def k0_off15 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let v689 : BitVec 32 := v449
  let v690 : Index := Scalar.indexCast v689
  let c128_460 : Index := 128#32
  ![v690.toNat, 128]
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  v442
def k0_off16 (k0_t1 : Fin k0_t1_loop.trips) : Fin 2 → Nat :=
  let c0_471 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let v708 : BitVec 32 := v442
  let v709 : Index := Scalar.indexCast v708
  ![0, v709.toNat]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  v450
def k0_off17 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let v715 : BitVec 32 := v450
  let v716 : Index := Scalar.indexCast v715
  let c128_473 : Index := 128#32
  ![v716.toNat, 128]
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  v443
def k0_off18 (k0_t1 : Fin k0_t1_loop.trips) : Fin 2 → Nat :=
  let c0_484 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let v734 : BitVec 32 := v443
  let v735 : Index := Scalar.indexCast v734
  ![0, v735.toNat]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  v451
def k0_off19 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let v741 : BitVec 32 := v451
  let v742 : Index := Scalar.indexCast v741
  let c128_486 : Index := 128#32
  ![v742.toNat, 128]
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  v444
def k0_off20 (k0_t1 : Fin k0_t1_loop.trips) : Fin 2 → Nat :=
  let c0_497 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let v760 : BitVec 32 := v444
  let v761 : Index := Scalar.indexCast v760
  ![0, v761.toNat]
def k0_mult21 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  v452
def k0_off21 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  let v767 : BitVec 32 := v452
  let v768 : Index := Scalar.indexCast v767
  let c128_499 : Index := 128#32
  ![v768.toNat, 128]
def k0_mult22 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  v445
def k0_off22 (k0_t1 : Fin k0_t1_loop.trips) : Fin 2 → Nat :=
  let c0_510 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  let v786 : BitVec 32 := v445
  let v787 : Index := Scalar.indexCast v786
  ![0, v787.toNat]
def k0_mult23 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  let c512_i32_313 : BitVec 32 := 512#32
  let v453 : BitVec 32 := Scalar.addi v452 c512_i32_313
  v453
def k0_off23 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  let c512_i32_313 : BitVec 32 := 512#32
  let v453 : BitVec 32 := Scalar.addi v452 c512_i32_313
  let v793 : BitVec 32 := v453
  let v794 : Index := Scalar.indexCast v793
  let c128_512 : Index := 128#32
  ![v794.toNat, 128]
def k0_mult24 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  let c512_i32_306 : BitVec 32 := 512#32
  let v446 : BitVec 32 := Scalar.addi v445 c512_i32_306
  v446
def k0_off24 (k0_t1 : Fin k0_t1_loop.trips) : Fin 2 → Nat :=
  let c0_523 : Index := 0#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32 : BitVec 32 := 512#32
  let v440 : BitVec 32 := Scalar.addi v439 c512_i32
  let c512_i32_301 : BitVec 32 := 512#32
  let v441 : BitVec 32 := Scalar.addi v440 c512_i32_301
  let c512_i32_302 : BitVec 32 := 512#32
  let v442 : BitVec 32 := Scalar.addi v441 c512_i32_302
  let c512_i32_303 : BitVec 32 := 512#32
  let v443 : BitVec 32 := Scalar.addi v442 c512_i32_303
  let c512_i32_304 : BitVec 32 := 512#32
  let v444 : BitVec 32 := Scalar.addi v443 c512_i32_304
  let c512_i32_305 : BitVec 32 := 512#32
  let v445 : BitVec 32 := Scalar.addi v444 c512_i32_305
  let c512_i32_306 : BitVec 32 := 512#32
  let v446 : BitVec 32 := Scalar.addi v445 c512_i32_306
  let v812 : BitVec 32 := v446
  let v813 : Index := Scalar.indexCast v812
  ![0, v813.toNat]
def k0_mult25 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off25 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v843 : BitVec 32 := v439
  let v844 : Index := Scalar.indexCast v843
  let c256_541 : Index := 256#32
  ![v844.toNat, 256]
def k0_mult26 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off26 (k0_t1 : Fin k0_t1_loop.trips) : Fin 2 → Nat :=
  let c64_552 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v861 : BitVec 32 := v439
  let v862 : Index := Scalar.indexCast v861
  ![64, v862.toNat]
def k0_mult27 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  v454
def k0_off27 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let v867 : BitVec 32 := v454
  let v868 : Index := Scalar.indexCast v867
  let c256_554 : Index := 256#32
  ![v868.toNat, 256]
def k0_mult28 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  v447
def k0_off28 (k0_t1 : Fin k0_t1_loop.trips) : Fin 2 → Nat :=
  let c64_565 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let v886 : BitVec 32 := v447
  let v887 : Index := Scalar.indexCast v886
  ![64, v887.toNat]
def k0_mult29 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  v455
def k0_off29 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let v893 : BitVec 32 := v455
  let v894 : Index := Scalar.indexCast v893
  let c256_567 : Index := 256#32
  ![v894.toNat, 256]
def k0_mult30 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  v448
def k0_off30 (k0_t1 : Fin k0_t1_loop.trips) : Fin 2 → Nat :=
  let c64_578 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let v912 : BitVec 32 := v448
  let v913 : Index := Scalar.indexCast v912
  ![64, v913.toNat]
def k0_mult31 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  v456
def k0_off31 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let v919 : BitVec 32 := v456
  let v920 : Index := Scalar.indexCast v919
  let c256_580 : Index := 256#32
  ![v920.toNat, 256]
def k0_mult32 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  v449
def k0_off32 (k0_t1 : Fin k0_t1_loop.trips) : Fin 2 → Nat :=
  let c64_591 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let v938 : BitVec 32 := v449
  let v939 : Index := Scalar.indexCast v938
  ![64, v939.toNat]
def k0_mult33 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  v457
def k0_off33 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let v945 : BitVec 32 := v457
  let v946 : Index := Scalar.indexCast v945
  let c256_593 : Index := 256#32
  ![v946.toNat, 256]
def k0_mult34 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  v450
def k0_off34 (k0_t1 : Fin k0_t1_loop.trips) : Fin 2 → Nat :=
  let c64_604 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let v964 : BitVec 32 := v450
  let v965 : Index := Scalar.indexCast v964
  ![64, v965.toNat]
def k0_mult35 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  v458
def k0_off35 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let v971 : BitVec 32 := v458
  let v972 : Index := Scalar.indexCast v971
  let c256_606 : Index := 256#32
  ![v972.toNat, 256]
def k0_mult36 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  v451
def k0_off36 (k0_t1 : Fin k0_t1_loop.trips) : Fin 2 → Nat :=
  let c64_617 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let v990 : BitVec 32 := v451
  let v991 : Index := Scalar.indexCast v990
  ![64, v991.toNat]
def k0_mult37 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  v459
def k0_off37 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  let v997 : BitVec 32 := v459
  let v998 : Index := Scalar.indexCast v997
  let c256_619 : Index := 256#32
  ![v998.toNat, 256]
def k0_mult38 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  v452
def k0_off38 (k0_t1 : Fin k0_t1_loop.trips) : Fin 2 → Nat :=
  let c64_630 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  let v1016 : BitVec 32 := v452
  let v1017 : Index := Scalar.indexCast v1016
  ![64, v1017.toNat]
def k0_mult39 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  let c512_i32_320 : BitVec 32 := 512#32
  let v460 : BitVec 32 := Scalar.addi v459 c512_i32_320
  v460
def k0_off39 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  let c512_i32_320 : BitVec 32 := 512#32
  let v460 : BitVec 32 := Scalar.addi v459 c512_i32_320
  let v1023 : BitVec 32 := v460
  let v1024 : Index := Scalar.indexCast v1023
  let c256_632 : Index := 256#32
  ![v1024.toNat, 256]
def k0_mult40 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  let c512_i32_313 : BitVec 32 := 512#32
  let v453 : BitVec 32 := Scalar.addi v452 c512_i32_313
  v453
def k0_off40 (k0_t1 : Fin k0_t1_loop.trips) : Fin 2 → Nat :=
  let c64_643 : Index := 64#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_307 : BitVec 32 := 512#32
  let v447 : BitVec 32 := Scalar.addi v439 c512_i32_307
  let c512_i32_308 : BitVec 32 := 512#32
  let v448 : BitVec 32 := Scalar.addi v447 c512_i32_308
  let c512_i32_309 : BitVec 32 := 512#32
  let v449 : BitVec 32 := Scalar.addi v448 c512_i32_309
  let c512_i32_310 : BitVec 32 := 512#32
  let v450 : BitVec 32 := Scalar.addi v449 c512_i32_310
  let c512_i32_311 : BitVec 32 := 512#32
  let v451 : BitVec 32 := Scalar.addi v450 c512_i32_311
  let c512_i32_312 : BitVec 32 := 512#32
  let v452 : BitVec 32 := Scalar.addi v451 c512_i32_312
  let c512_i32_313 : BitVec 32 := 512#32
  let v453 : BitVec 32 := Scalar.addi v452 c512_i32_313
  let v1042 : BitVec 32 := v453
  let v1043 : Index := Scalar.indexCast v1042
  ![64, v1043.toNat]
def k0_mult41 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off41 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1073 : BitVec 32 := v439
  let v1074 : Index := Scalar.indexCast v1073
  let c384_661 : Index := 384#32
  ![v1074.toNat, 384]
def k0_mult42 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off42 (k0_t1 : Fin k0_t1_loop.trips) : Fin 2 → Nat :=
  let c128_672 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1091 : BitVec 32 := v439
  let v1092 : Index := Scalar.indexCast v1091
  ![128, v1092.toNat]
def k0_mult43 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  v461
def k0_off43 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let v1097 : BitVec 32 := v461
  let v1098 : Index := Scalar.indexCast v1097
  let c384_674 : Index := 384#32
  ![v1098.toNat, 384]
def k0_mult44 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  v454
def k0_off44 (k0_t1 : Fin k0_t1_loop.trips) : Fin 2 → Nat :=
  let c128_685 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let v1116 : BitVec 32 := v454
  let v1117 : Index := Scalar.indexCast v1116
  ![128, v1117.toNat]
def k0_mult45 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  v462
def k0_off45 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let v1123 : BitVec 32 := v462
  let v1124 : Index := Scalar.indexCast v1123
  let c384_687 : Index := 384#32
  ![v1124.toNat, 384]
def k0_mult46 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  v455
def k0_off46 (k0_t1 : Fin k0_t1_loop.trips) : Fin 2 → Nat :=
  let c128_698 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let v1142 : BitVec 32 := v455
  let v1143 : Index := Scalar.indexCast v1142
  ![128, v1143.toNat]
def k0_mult47 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  v463
def k0_off47 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let v1149 : BitVec 32 := v463
  let v1150 : Index := Scalar.indexCast v1149
  let c384_700 : Index := 384#32
  ![v1150.toNat, 384]
def k0_mult48 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  v456
def k0_off48 (k0_t1 : Fin k0_t1_loop.trips) : Fin 2 → Nat :=
  let c128_711 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let v1168 : BitVec 32 := v456
  let v1169 : Index := Scalar.indexCast v1168
  ![128, v1169.toNat]
def k0_mult49 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  v464
def k0_off49 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let v1175 : BitVec 32 := v464
  let v1176 : Index := Scalar.indexCast v1175
  let c384_713 : Index := 384#32
  ![v1176.toNat, 384]
def k0_mult50 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  v457
def k0_off50 (k0_t1 : Fin k0_t1_loop.trips) : Fin 2 → Nat :=
  let c128_724 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let v1194 : BitVec 32 := v457
  let v1195 : Index := Scalar.indexCast v1194
  ![128, v1195.toNat]
def k0_mult51 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  v465
def k0_off51 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let v1201 : BitVec 32 := v465
  let v1202 : Index := Scalar.indexCast v1201
  let c384_726 : Index := 384#32
  ![v1202.toNat, 384]
def k0_mult52 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  v458
def k0_off52 (k0_t1 : Fin k0_t1_loop.trips) : Fin 2 → Nat :=
  let c128_737 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let v1220 : BitVec 32 := v458
  let v1221 : Index := Scalar.indexCast v1220
  ![128, v1221.toNat]
def k0_mult53 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  v466
def k0_off53 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  let v1227 : BitVec 32 := v466
  let v1228 : Index := Scalar.indexCast v1227
  let c384_739 : Index := 384#32
  ![v1228.toNat, 384]
def k0_mult54 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  v459
def k0_off54 (k0_t1 : Fin k0_t1_loop.trips) : Fin 2 → Nat :=
  let c128_750 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  let v1246 : BitVec 32 := v459
  let v1247 : Index := Scalar.indexCast v1246
  ![128, v1247.toNat]
def k0_mult55 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  let c512_i32_327 : BitVec 32 := 512#32
  let v467 : BitVec 32 := Scalar.addi v466 c512_i32_327
  v467
def k0_off55 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  let c512_i32_327 : BitVec 32 := 512#32
  let v467 : BitVec 32 := Scalar.addi v466 c512_i32_327
  let v1253 : BitVec 32 := v467
  let v1254 : Index := Scalar.indexCast v1253
  let c384_752 : Index := 384#32
  ![v1254.toNat, 384]
def k0_mult56 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  let c512_i32_320 : BitVec 32 := 512#32
  let v460 : BitVec 32 := Scalar.addi v459 c512_i32_320
  v460
def k0_off56 (k0_t1 : Fin k0_t1_loop.trips) : Fin 2 → Nat :=
  let c128_763 : Index := 128#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_314 : BitVec 32 := 512#32
  let v454 : BitVec 32 := Scalar.addi v439 c512_i32_314
  let c512_i32_315 : BitVec 32 := 512#32
  let v455 : BitVec 32 := Scalar.addi v454 c512_i32_315
  let c512_i32_316 : BitVec 32 := 512#32
  let v456 : BitVec 32 := Scalar.addi v455 c512_i32_316
  let c512_i32_317 : BitVec 32 := 512#32
  let v457 : BitVec 32 := Scalar.addi v456 c512_i32_317
  let c512_i32_318 : BitVec 32 := 512#32
  let v458 : BitVec 32 := Scalar.addi v457 c512_i32_318
  let c512_i32_319 : BitVec 32 := 512#32
  let v459 : BitVec 32 := Scalar.addi v458 c512_i32_319
  let c512_i32_320 : BitVec 32 := 512#32
  let v460 : BitVec 32 := Scalar.addi v459 c512_i32_320
  let v1272 : BitVec 32 := v460
  let v1273 : Index := Scalar.indexCast v1272
  ![128, v1273.toNat]
def k0_mult57 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off57 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1303 : BitVec 32 := v439
  let v1304 : Index := Scalar.indexCast v1303
  let c512_781 : Index := 512#32
  ![v1304.toNat, 512]
def k0_mult58 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off58 (k0_t1 : Fin k0_t1_loop.trips) : Fin 2 → Nat :=
  let c192_792 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1321 : BitVec 32 := v439
  let v1322 : Index := Scalar.indexCast v1321
  ![192, v1322.toNat]
def k0_mult59 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  v468
def k0_off59 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let v1327 : BitVec 32 := v468
  let v1328 : Index := Scalar.indexCast v1327
  let c512_794 : Index := 512#32
  ![v1328.toNat, 512]
def k0_mult60 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  v461
def k0_off60 (k0_t1 : Fin k0_t1_loop.trips) : Fin 2 → Nat :=
  let c192_805 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let v1346 : BitVec 32 := v461
  let v1347 : Index := Scalar.indexCast v1346
  ![192, v1347.toNat]
def k0_mult61 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  v469
def k0_off61 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let v1353 : BitVec 32 := v469
  let v1354 : Index := Scalar.indexCast v1353
  let c512_807 : Index := 512#32
  ![v1354.toNat, 512]
def k0_mult62 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  v462
def k0_off62 (k0_t1 : Fin k0_t1_loop.trips) : Fin 2 → Nat :=
  let c192_818 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let v1372 : BitVec 32 := v462
  let v1373 : Index := Scalar.indexCast v1372
  ![192, v1373.toNat]
def k0_mult63 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  v470
def k0_off63 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let v1379 : BitVec 32 := v470
  let v1380 : Index := Scalar.indexCast v1379
  let c512_820 : Index := 512#32
  ![v1380.toNat, 512]
def k0_mult64 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  v463
def k0_off64 (k0_t1 : Fin k0_t1_loop.trips) : Fin 2 → Nat :=
  let c192_831 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let v1398 : BitVec 32 := v463
  let v1399 : Index := Scalar.indexCast v1398
  ![192, v1399.toNat]
def k0_mult65 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  v471
def k0_off65 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let v1405 : BitVec 32 := v471
  let v1406 : Index := Scalar.indexCast v1405
  let c512_833 : Index := 512#32
  ![v1406.toNat, 512]
def k0_mult66 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  v464
def k0_off66 (k0_t1 : Fin k0_t1_loop.trips) : Fin 2 → Nat :=
  let c192_844 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let v1424 : BitVec 32 := v464
  let v1425 : Index := Scalar.indexCast v1424
  ![192, v1425.toNat]
def k0_mult67 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  v472
def k0_off67 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let v1431 : BitVec 32 := v472
  let v1432 : Index := Scalar.indexCast v1431
  let c512_846 : Index := 512#32
  ![v1432.toNat, 512]
def k0_mult68 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  v465
def k0_off68 (k0_t1 : Fin k0_t1_loop.trips) : Fin 2 → Nat :=
  let c192_857 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let v1450 : BitVec 32 := v465
  let v1451 : Index := Scalar.indexCast v1450
  ![192, v1451.toNat]
def k0_mult69 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  v473
def k0_off69 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  let v1457 : BitVec 32 := v473
  let v1458 : Index := Scalar.indexCast v1457
  let c512_859 : Index := 512#32
  ![v1458.toNat, 512]
def k0_mult70 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  v466
def k0_off70 (k0_t1 : Fin k0_t1_loop.trips) : Fin 2 → Nat :=
  let c192_870 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  let v1476 : BitVec 32 := v466
  let v1477 : Index := Scalar.indexCast v1476
  ![192, v1477.toNat]
def k0_mult71 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  let c512_i32_334 : BitVec 32 := 512#32
  let v474 : BitVec 32 := Scalar.addi v473 c512_i32_334
  v474
def k0_off71 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  let c512_i32_334 : BitVec 32 := 512#32
  let v474 : BitVec 32 := Scalar.addi v473 c512_i32_334
  let v1483 : BitVec 32 := v474
  let v1484 : Index := Scalar.indexCast v1483
  let c512_872 : Index := 512#32
  ![v1484.toNat, 512]
def k0_mult72 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  let c512_i32_327 : BitVec 32 := 512#32
  let v467 : BitVec 32 := Scalar.addi v466 c512_i32_327
  v467
def k0_off72 (k0_t1 : Fin k0_t1_loop.trips) : Fin 2 → Nat :=
  let c192_883 : Index := 192#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_321 : BitVec 32 := 512#32
  let v461 : BitVec 32 := Scalar.addi v439 c512_i32_321
  let c512_i32_322 : BitVec 32 := 512#32
  let v462 : BitVec 32 := Scalar.addi v461 c512_i32_322
  let c512_i32_323 : BitVec 32 := 512#32
  let v463 : BitVec 32 := Scalar.addi v462 c512_i32_323
  let c512_i32_324 : BitVec 32 := 512#32
  let v464 : BitVec 32 := Scalar.addi v463 c512_i32_324
  let c512_i32_325 : BitVec 32 := 512#32
  let v465 : BitVec 32 := Scalar.addi v464 c512_i32_325
  let c512_i32_326 : BitVec 32 := 512#32
  let v466 : BitVec 32 := Scalar.addi v465 c512_i32_326
  let c512_i32_327 : BitVec 32 := 512#32
  let v467 : BitVec 32 := Scalar.addi v466 c512_i32_327
  let v1502 : BitVec 32 := v467
  let v1503 : Index := Scalar.indexCast v1502
  ![192, v1503.toNat]
def k0_mult73 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off73 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1533 : BitVec 32 := v439
  let v1534 : Index := Scalar.indexCast v1533
  let c640_901 : Index := 640#32
  ![v1534.toNat, 640]
def k0_mult74 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off74 (k0_t1 : Fin k0_t1_loop.trips) : Fin 2 → Nat :=
  let c256_912 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1551 : BitVec 32 := v439
  let v1552 : Index := Scalar.indexCast v1551
  ![256, v1552.toNat]
def k0_mult75 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  v475
def k0_off75 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let v1557 : BitVec 32 := v475
  let v1558 : Index := Scalar.indexCast v1557
  let c640_914 : Index := 640#32
  ![v1558.toNat, 640]
def k0_mult76 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  v468
def k0_off76 (k0_t1 : Fin k0_t1_loop.trips) : Fin 2 → Nat :=
  let c256_925 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let v1576 : BitVec 32 := v468
  let v1577 : Index := Scalar.indexCast v1576
  ![256, v1577.toNat]
def k0_mult77 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  v476
def k0_off77 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let v1583 : BitVec 32 := v476
  let v1584 : Index := Scalar.indexCast v1583
  let c640_927 : Index := 640#32
  ![v1584.toNat, 640]
def k0_mult78 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  v469
def k0_off78 (k0_t1 : Fin k0_t1_loop.trips) : Fin 2 → Nat :=
  let c256_938 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let v1602 : BitVec 32 := v469
  let v1603 : Index := Scalar.indexCast v1602
  ![256, v1603.toNat]
def k0_mult79 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  v477
def k0_off79 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let v1609 : BitVec 32 := v477
  let v1610 : Index := Scalar.indexCast v1609
  let c640_940 : Index := 640#32
  ![v1610.toNat, 640]
def k0_mult80 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  v470
def k0_off80 (k0_t1 : Fin k0_t1_loop.trips) : Fin 2 → Nat :=
  let c256_951 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let v1628 : BitVec 32 := v470
  let v1629 : Index := Scalar.indexCast v1628
  ![256, v1629.toNat]
def k0_mult81 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  v478
def k0_off81 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let v1635 : BitVec 32 := v478
  let v1636 : Index := Scalar.indexCast v1635
  let c640_953 : Index := 640#32
  ![v1636.toNat, 640]
def k0_mult82 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  v471
def k0_off82 (k0_t1 : Fin k0_t1_loop.trips) : Fin 2 → Nat :=
  let c256_964 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let v1654 : BitVec 32 := v471
  let v1655 : Index := Scalar.indexCast v1654
  ![256, v1655.toNat]
def k0_mult83 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  v479
def k0_off83 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let v1661 : BitVec 32 := v479
  let v1662 : Index := Scalar.indexCast v1661
  let c640_966 : Index := 640#32
  ![v1662.toNat, 640]
def k0_mult84 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  v472
def k0_off84 (k0_t1 : Fin k0_t1_loop.trips) : Fin 2 → Nat :=
  let c256_977 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let v1680 : BitVec 32 := v472
  let v1681 : Index := Scalar.indexCast v1680
  ![256, v1681.toNat]
def k0_mult85 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  v480
def k0_off85 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  let v1687 : BitVec 32 := v480
  let v1688 : Index := Scalar.indexCast v1687
  let c640_979 : Index := 640#32
  ![v1688.toNat, 640]
def k0_mult86 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  v473
def k0_off86 (k0_t1 : Fin k0_t1_loop.trips) : Fin 2 → Nat :=
  let c256_990 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  let v1706 : BitVec 32 := v473
  let v1707 : Index := Scalar.indexCast v1706
  ![256, v1707.toNat]
def k0_mult87 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  let c512_i32_341 : BitVec 32 := 512#32
  let v481 : BitVec 32 := Scalar.addi v480 c512_i32_341
  v481
def k0_off87 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  let c512_i32_341 : BitVec 32 := 512#32
  let v481 : BitVec 32 := Scalar.addi v480 c512_i32_341
  let v1713 : BitVec 32 := v481
  let v1714 : Index := Scalar.indexCast v1713
  let c640_992 : Index := 640#32
  ![v1714.toNat, 640]
def k0_mult88 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  let c512_i32_334 : BitVec 32 := 512#32
  let v474 : BitVec 32 := Scalar.addi v473 c512_i32_334
  v474
def k0_off88 (k0_t1 : Fin k0_t1_loop.trips) : Fin 2 → Nat :=
  let c256_1003 : Index := 256#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_328 : BitVec 32 := 512#32
  let v468 : BitVec 32 := Scalar.addi v439 c512_i32_328
  let c512_i32_329 : BitVec 32 := 512#32
  let v469 : BitVec 32 := Scalar.addi v468 c512_i32_329
  let c512_i32_330 : BitVec 32 := 512#32
  let v470 : BitVec 32 := Scalar.addi v469 c512_i32_330
  let c512_i32_331 : BitVec 32 := 512#32
  let v471 : BitVec 32 := Scalar.addi v470 c512_i32_331
  let c512_i32_332 : BitVec 32 := 512#32
  let v472 : BitVec 32 := Scalar.addi v471 c512_i32_332
  let c512_i32_333 : BitVec 32 := 512#32
  let v473 : BitVec 32 := Scalar.addi v472 c512_i32_333
  let c512_i32_334 : BitVec 32 := 512#32
  let v474 : BitVec 32 := Scalar.addi v473 c512_i32_334
  let v1732 : BitVec 32 := v474
  let v1733 : Index := Scalar.indexCast v1732
  ![256, v1733.toNat]
def k0_mult89 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off89 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1763 : BitVec 32 := v439
  let v1764 : Index := Scalar.indexCast v1763
  let c768_1021 : Index := 768#32
  ![v1764.toNat, 768]
def k0_mult90 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off90 (k0_t1 : Fin k0_t1_loop.trips) : Fin 2 → Nat :=
  let c320_1032 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1781 : BitVec 32 := v439
  let v1782 : Index := Scalar.indexCast v1781
  ![320, v1782.toNat]
def k0_mult91 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  v482
def k0_off91 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let v1787 : BitVec 32 := v482
  let v1788 : Index := Scalar.indexCast v1787
  let c768_1034 : Index := 768#32
  ![v1788.toNat, 768]
def k0_mult92 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  v475
def k0_off92 (k0_t1 : Fin k0_t1_loop.trips) : Fin 2 → Nat :=
  let c320_1045 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let v1806 : BitVec 32 := v475
  let v1807 : Index := Scalar.indexCast v1806
  ![320, v1807.toNat]
def k0_mult93 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  v483
def k0_off93 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let v1813 : BitVec 32 := v483
  let v1814 : Index := Scalar.indexCast v1813
  let c768_1047 : Index := 768#32
  ![v1814.toNat, 768]
def k0_mult94 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  v476
def k0_off94 (k0_t1 : Fin k0_t1_loop.trips) : Fin 2 → Nat :=
  let c320_1058 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let v1832 : BitVec 32 := v476
  let v1833 : Index := Scalar.indexCast v1832
  ![320, v1833.toNat]
def k0_mult95 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  v484
def k0_off95 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let v1839 : BitVec 32 := v484
  let v1840 : Index := Scalar.indexCast v1839
  let c768_1060 : Index := 768#32
  ![v1840.toNat, 768]
def k0_mult96 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  v477
def k0_off96 (k0_t1 : Fin k0_t1_loop.trips) : Fin 2 → Nat :=
  let c320_1071 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let v1858 : BitVec 32 := v477
  let v1859 : Index := Scalar.indexCast v1858
  ![320, v1859.toNat]
def k0_mult97 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  v485
def k0_off97 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let v1865 : BitVec 32 := v485
  let v1866 : Index := Scalar.indexCast v1865
  let c768_1073 : Index := 768#32
  ![v1866.toNat, 768]
def k0_mult98 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  v478
def k0_off98 (k0_t1 : Fin k0_t1_loop.trips) : Fin 2 → Nat :=
  let c320_1084 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let v1884 : BitVec 32 := v478
  let v1885 : Index := Scalar.indexCast v1884
  ![320, v1885.toNat]
def k0_mult99 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  v486
def k0_off99 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let v1891 : BitVec 32 := v486
  let v1892 : Index := Scalar.indexCast v1891
  let c768_1086 : Index := 768#32
  ![v1892.toNat, 768]
def k0_mult100 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  v479
def k0_off100 (k0_t1 : Fin k0_t1_loop.trips) : Fin 2 → Nat :=
  let c320_1097 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let v1910 : BitVec 32 := v479
  let v1911 : Index := Scalar.indexCast v1910
  ![320, v1911.toNat]
def k0_mult101 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  v487
def k0_off101 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  let v1917 : BitVec 32 := v487
  let v1918 : Index := Scalar.indexCast v1917
  let c768_1099 : Index := 768#32
  ![v1918.toNat, 768]
def k0_mult102 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  v480
def k0_off102 (k0_t1 : Fin k0_t1_loop.trips) : Fin 2 → Nat :=
  let c320_1110 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  let v1936 : BitVec 32 := v480
  let v1937 : Index := Scalar.indexCast v1936
  ![320, v1937.toNat]
def k0_mult103 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  let c512_i32_348 : BitVec 32 := 512#32
  let v488 : BitVec 32 := Scalar.addi v487 c512_i32_348
  v488
def k0_off103 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  let c512_i32_348 : BitVec 32 := 512#32
  let v488 : BitVec 32 := Scalar.addi v487 c512_i32_348
  let v1943 : BitVec 32 := v488
  let v1944 : Index := Scalar.indexCast v1943
  let c768_1112 : Index := 768#32
  ![v1944.toNat, 768]
def k0_mult104 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  let c512_i32_341 : BitVec 32 := 512#32
  let v481 : BitVec 32 := Scalar.addi v480 c512_i32_341
  v481
def k0_off104 (k0_t1 : Fin k0_t1_loop.trips) : Fin 2 → Nat :=
  let c320_1123 : Index := 320#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_335 : BitVec 32 := 512#32
  let v475 : BitVec 32 := Scalar.addi v439 c512_i32_335
  let c512_i32_336 : BitVec 32 := 512#32
  let v476 : BitVec 32 := Scalar.addi v475 c512_i32_336
  let c512_i32_337 : BitVec 32 := 512#32
  let v477 : BitVec 32 := Scalar.addi v476 c512_i32_337
  let c512_i32_338 : BitVec 32 := 512#32
  let v478 : BitVec 32 := Scalar.addi v477 c512_i32_338
  let c512_i32_339 : BitVec 32 := 512#32
  let v479 : BitVec 32 := Scalar.addi v478 c512_i32_339
  let c512_i32_340 : BitVec 32 := 512#32
  let v480 : BitVec 32 := Scalar.addi v479 c512_i32_340
  let c512_i32_341 : BitVec 32 := 512#32
  let v481 : BitVec 32 := Scalar.addi v480 c512_i32_341
  let v1962 : BitVec 32 := v481
  let v1963 : Index := Scalar.indexCast v1962
  ![320, v1963.toNat]
def k0_mult105 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off105 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v1993 : BitVec 32 := v439
  let v1994 : Index := Scalar.indexCast v1993
  let c896_1141 : Index := 896#32
  ![v1994.toNat, 896]
def k0_mult106 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off106 (k0_t1 : Fin k0_t1_loop.trips) : Fin 2 → Nat :=
  let c384_1152 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v2011 : BitVec 32 := v439
  let v2012 : Index := Scalar.indexCast v2011
  ![384, v2012.toNat]
def k0_mult107 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  v489
def k0_off107 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let v2017 : BitVec 32 := v489
  let v2018 : Index := Scalar.indexCast v2017
  let c896_1154 : Index := 896#32
  ![v2018.toNat, 896]
def k0_mult108 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  v482
def k0_off108 (k0_t1 : Fin k0_t1_loop.trips) : Fin 2 → Nat :=
  let c384_1165 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let v2036 : BitVec 32 := v482
  let v2037 : Index := Scalar.indexCast v2036
  ![384, v2037.toNat]
def k0_mult109 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  v490
def k0_off109 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let v2043 : BitVec 32 := v490
  let v2044 : Index := Scalar.indexCast v2043
  let c896_1167 : Index := 896#32
  ![v2044.toNat, 896]
def k0_mult110 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  v483
def k0_off110 (k0_t1 : Fin k0_t1_loop.trips) : Fin 2 → Nat :=
  let c384_1178 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let v2062 : BitVec 32 := v483
  let v2063 : Index := Scalar.indexCast v2062
  ![384, v2063.toNat]
def k0_mult111 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  v491
def k0_off111 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let v2069 : BitVec 32 := v491
  let v2070 : Index := Scalar.indexCast v2069
  let c896_1180 : Index := 896#32
  ![v2070.toNat, 896]
def k0_mult112 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  v484
def k0_off112 (k0_t1 : Fin k0_t1_loop.trips) : Fin 2 → Nat :=
  let c384_1191 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let v2088 : BitVec 32 := v484
  let v2089 : Index := Scalar.indexCast v2088
  ![384, v2089.toNat]
def k0_mult113 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  v492
def k0_off113 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let v2095 : BitVec 32 := v492
  let v2096 : Index := Scalar.indexCast v2095
  let c896_1193 : Index := 896#32
  ![v2096.toNat, 896]
def k0_mult114 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  v485
def k0_off114 (k0_t1 : Fin k0_t1_loop.trips) : Fin 2 → Nat :=
  let c384_1204 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let v2114 : BitVec 32 := v485
  let v2115 : Index := Scalar.indexCast v2114
  ![384, v2115.toNat]
def k0_mult115 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  v493
def k0_off115 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let v2121 : BitVec 32 := v493
  let v2122 : Index := Scalar.indexCast v2121
  let c896_1206 : Index := 896#32
  ![v2122.toNat, 896]
def k0_mult116 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  v486
def k0_off116 (k0_t1 : Fin k0_t1_loop.trips) : Fin 2 → Nat :=
  let c384_1217 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let v2140 : BitVec 32 := v486
  let v2141 : Index := Scalar.indexCast v2140
  ![384, v2141.toNat]
def k0_mult117 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  v494
def k0_off117 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  let v2147 : BitVec 32 := v494
  let v2148 : Index := Scalar.indexCast v2147
  let c896_1219 : Index := 896#32
  ![v2148.toNat, 896]
def k0_mult118 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  v487
def k0_off118 (k0_t1 : Fin k0_t1_loop.trips) : Fin 2 → Nat :=
  let c384_1230 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  let v2166 : BitVec 32 := v487
  let v2167 : Index := Scalar.indexCast v2166
  ![384, v2167.toNat]
def k0_mult119 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  let c512_i32_355 : BitVec 32 := 512#32
  let v495 : BitVec 32 := Scalar.addi v494 c512_i32_355
  v495
def k0_off119 (k0_t1 : Fin k0_t1_loop.trips) : Fin 2 → Nat :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  let c512_i32_355 : BitVec 32 := 512#32
  let v495 : BitVec 32 := Scalar.addi v494 c512_i32_355
  let v2173 : BitVec 32 := v495
  let v2174 : Index := Scalar.indexCast v2173
  let c896_1232 : Index := 896#32
  ![v2174.toNat, 896]
def k0_mult120 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  let c512_i32_348 : BitVec 32 := 512#32
  let v488 : BitVec 32 := Scalar.addi v487 c512_i32_348
  v488
def k0_off120 (k0_t1 : Fin k0_t1_loop.trips) : Fin 2 → Nat :=
  let c384_1243 : Index := 384#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_342 : BitVec 32 := 512#32
  let v482 : BitVec 32 := Scalar.addi v439 c512_i32_342
  let c512_i32_343 : BitVec 32 := 512#32
  let v483 : BitVec 32 := Scalar.addi v482 c512_i32_343
  let c512_i32_344 : BitVec 32 := 512#32
  let v484 : BitVec 32 := Scalar.addi v483 c512_i32_344
  let c512_i32_345 : BitVec 32 := 512#32
  let v485 : BitVec 32 := Scalar.addi v484 c512_i32_345
  let c512_i32_346 : BitVec 32 := 512#32
  let v486 : BitVec 32 := Scalar.addi v485 c512_i32_346
  let c512_i32_347 : BitVec 32 := 512#32
  let v487 : BitVec 32 := Scalar.addi v486 c512_i32_347
  let c512_i32_348 : BitVec 32 := 512#32
  let v488 : BitVec 32 := Scalar.addi v487 c512_i32_348
  let v2192 : BitVec 32 := v488
  let v2193 : Index := Scalar.indexCast v2192
  ![384, v2193.toNat]
def k0_mult121 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  v439
def k0_off121 (k0_t1 : Fin k0_t1_loop.trips) : Fin 2 → Nat :=
  let c448_1264 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let v2229 : BitVec 32 := v439
  let v2230 : Index := Scalar.indexCast v2229
  ![448, v2230.toNat]
def k0_mult122 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  v489
def k0_off122 (k0_t1 : Fin k0_t1_loop.trips) : Fin 2 → Nat :=
  let c448_1269 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let v2241 : BitVec 32 := v489
  let v2242 : Index := Scalar.indexCast v2241
  ![448, v2242.toNat]
def k0_mult123 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  v490
def k0_off123 (k0_t1 : Fin k0_t1_loop.trips) : Fin 2 → Nat :=
  let c448_1274 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let v2254 : BitVec 32 := v490
  let v2255 : Index := Scalar.indexCast v2254
  ![448, v2255.toNat]
def k0_mult124 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  v491
def k0_off124 (k0_t1 : Fin k0_t1_loop.trips) : Fin 2 → Nat :=
  let c448_1279 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let v2267 : BitVec 32 := v491
  let v2268 : Index := Scalar.indexCast v2267
  ![448, v2268.toNat]
def k0_mult125 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  v492
def k0_off125 (k0_t1 : Fin k0_t1_loop.trips) : Fin 2 → Nat :=
  let c448_1284 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let v2280 : BitVec 32 := v492
  let v2281 : Index := Scalar.indexCast v2280
  ![448, v2281.toNat]
def k0_mult126 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  v493
def k0_off126 (k0_t1 : Fin k0_t1_loop.trips) : Fin 2 → Nat :=
  let c448_1289 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let v2293 : BitVec 32 := v493
  let v2294 : Index := Scalar.indexCast v2293
  ![448, v2294.toNat]
def k0_mult127 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  v494
def k0_off127 (k0_t1 : Fin k0_t1_loop.trips) : Fin 2 → Nat :=
  let c448_1294 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  let v2306 : BitVec 32 := v494
  let v2307 : Index := Scalar.indexCast v2306
  ![448, v2307.toNat]
def k0_mult128 (k0_t1 : Fin k0_t1_loop.trips) : BitVec 32 :=
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  let c512_i32_355 : BitVec 32 := 512#32
  let v495 : BitVec 32 := Scalar.addi v494 c512_i32_355
  v495
def k0_off128 (k0_t1 : Fin k0_t1_loop.trips) : Fin 2 → Nat :=
  let c448_1299 : Index := 448#32
  let c0_i32 : BitVec 32 := 0#32
  let c1_i32 : BitVec 32 := 1#32
  let arg12 : BitVec 32 := Scf.iv c0_i32 c1_i32 k0_t1
  let c4096_i32 : BitVec 32 := 4096#32
  let v439 : BitVec 32 := Scalar.muli arg12 c4096_i32
  let c512_i32_349 : BitVec 32 := 512#32
  let v489 : BitVec 32 := Scalar.addi v439 c512_i32_349
  let c512_i32_350 : BitVec 32 := 512#32
  let v490 : BitVec 32 := Scalar.addi v489 c512_i32_350
  let c512_i32_351 : BitVec 32 := 512#32
  let v491 : BitVec 32 := Scalar.addi v490 c512_i32_351
  let c512_i32_352 : BitVec 32 := 512#32
  let v492 : BitVec 32 := Scalar.addi v491 c512_i32_352
  let c512_i32_353 : BitVec 32 := 512#32
  let v493 : BitVec 32 := Scalar.addi v492 c512_i32_353
  let c512_i32_354 : BitVec 32 := 512#32
  let v494 : BitVec 32 := Scalar.addi v493 c512_i32_354
  let c512_i32_355 : BitVec 32 := 512#32
  let v495 : BitVec 32 := Scalar.addi v494 c512_i32_355
  let v2319 : BitVec 32 := v495
  let v2320 : Index := Scalar.indexCast v2319
  ![448, v2320.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S2x256x8x64 : Shape := ⟨4, ![2, 256, 8, 64]⟩
abbrev S2x256x32 : Shape := ⟨3, ![2, 256, 32]⟩
abbrev S2x8448x8x64 : Shape := ⟨4, ![2, 8448, 8, 64]⟩
abbrev S2x8448x32 : Shape := ⟨3, ![2, 8448, 32]⟩
abbrev S2x8x8192x8448 : Shape := ⟨4, ![2, 8, 8192, 8448]⟩
abbrev S2x8448x8192x8 : Shape := ⟨4, ![2, 8448, 8192, 8]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x8x64, .f32⟩
  | .hbm, ⟨3, _⟩ => ⟨S2x8192x32, .f32⟩
  | .hbm, ⟨4, _⟩ => ⟨S2x8192x8x64, .f32⟩
  | .hbm, ⟨5, _⟩ => ⟨S2x256x8x64, .f32⟩
  | .hbm, ⟨6, _⟩ => ⟨S2x256x32, .f32⟩
  | .hbm, ⟨7, _⟩ => ⟨S2x256x8x64, .f32⟩
  | .hbm, ⟨8, _⟩ => ⟨S2x8448x8x64, .f32⟩
  | .hbm, ⟨9, _⟩ => ⟨S2x8448x32, .f32⟩
  | .hbm, ⟨10, _⟩ => ⟨S2x8448x8x64, .f32⟩
  | .hbm, ⟨11, _⟩ => ⟨S2x8x8192x8448, .f32⟩
  | .hbm, ⟨12, _⟩ => ⟨S2x8448x8192x8, .f32⟩
  | .hbm, ⟨13, _⟩ => ⟨S2x8x8192x8448, .f32⟩
  | .hbm, ⟨14, _⟩ => ⟨S2x8x8192x8448, .f32⟩
  | .hbm, ⟨15, _⟩ => ⟨S_, .f32⟩
  | .hbm, ⟨16, _⟩ => ⟨S2x8x8192x8448, .f32⟩
  | .hbm, ⟨17, _⟩ => ⟨S2x8x8192x8448, .f32⟩
  | .hbm, ⟨18, _⟩ => ⟨S_, .f32⟩
  | .hbm, ⟨19, _⟩ => ⟨S2x8x8192, .f32⟩
  | .hbm, ⟨20, _⟩ => ⟨S_, .f32⟩
  | .hbm, ⟨21, _⟩ => ⟨S2x8x8192, .f32⟩
  | .hbm, ⟨22, _⟩ => ⟨S2x8x8192, .f32⟩
  | .hbm, ⟨23, _⟩ => ⟨S2x8x8192x1, .f32⟩
  | .hbm, ⟨24, _⟩ => ⟨S2x8x8192x8448, .f32⟩
  | .hbm, ⟨25, _⟩ => ⟨S2x8x8192x8448, .f32⟩
  | .hbm, ⟨26, _⟩ => ⟨S2x8x8192x8448, .f32⟩
  | .hbm, ⟨27, _⟩ => ⟨S_, .f32⟩
  | .hbm, ⟨28, _⟩ => ⟨S2x8x8192, .f32⟩
  | .hbm, ⟨29, _⟩ => ⟨S2x8x8192x1, .f32⟩
  | .hbm, ⟨30, _⟩ => ⟨S2x8x8192x8448, .f32⟩
  | .hbm, ⟨31, _⟩ => ⟨S2x8x8192x8448, .f32⟩
  | .hbm, ⟨32, _⟩ => ⟨S2x8x64x8192, .f32⟩
  | .hbm, ⟨33, _⟩ => ⟨S2x8192x8x64, .f32⟩
  | .hbm, ⟨34, _⟩ => ⟨S16384x512, .f32⟩
  | .hbm, ⟨35, _⟩ => ⟨S16384x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel2.lean ====
abbrev S2x8192x512 : Shape := ⟨3, ![2, 8192, 512]⟩
abbrev S2x8192x1024 : Shape := ⟨3, ![2, 8192, 1024]⟩
abbrev S2x3072 : Shape := ⟨2, ![2, 3072]⟩
abbrev S1024 : Shape := ⟨1, ![1024]⟩
abbrev S1024x7584 : Shape := ⟨2, ![1024, 7584]⟩
abbrev S3x512 : Shape := ⟨2, ![3, 512]⟩
abbrev S3x512x1024 : Shape := ⟨3, ![3, 512, 1024]⟩
abbrev S1024x1024 : Shape := ⟨2, ![1024, 1024]⟩
abbrev S_ : Shape := ⟨0, ![]⟩
abbrev S6x3072 : Shape := ⟨2, ![6, 3072]⟩
abbrev S8x3072 : Shape := ⟨2, ![8, 3072]⟩
abbrev S8x1x3072 : Shape := ⟨3, ![8, 1, 3072]⟩
abbrev S16384x512 : Shape := ⟨2, ![16384, 512]⟩
abbrev S16384x1024 : Shape := ⟨2, ![16384, 1024]⟩
abbrev S1x1024 : Shape := ⟨2, ![1, 1024]⟩
abbrev S1024x3072 : Shape := ⟨2, ![1024, 3072]⟩
abbrev S512x512 : Shape := ⟨2, ![512, 512]⟩
abbrev S8x512 : Shape := ⟨2, ![8, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x512 : Shape := ⟨2, ![1, 512]⟩
abbrev S1x512x1024 : Shape := ⟨3, ![1, 512, 1024]⟩

abbrev nBuf : Space → Nat
  | .hbm => 70
  | .vmem => 34
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S2x8192x512, .f32⟩
  | .hbm, ⟨8, _⟩ => ⟨S2x8192x1024, .f32⟩
  | .hbm, ⟨9, _⟩ => ⟨S2x3072, .f32⟩
  | .hbm, ⟨10, _⟩ => ⟨S1024, .f32⟩
  | .hbm, ⟨11, _⟩ => ⟨S1024, .f32⟩
  | .hbm, ⟨12, _⟩ => ⟨S1024x7584, .f32⟩
  | .hbm, ⟨13, _⟩ => ⟨S3x512, .f32⟩
  | .hbm, ⟨14, _⟩ => ⟨S3x512x1024, .f32⟩
  | .hbm, ⟨15, _⟩ => ⟨S1024x1024, .f32⟩
  | .hbm, ⟨16, _⟩ => ⟨S_, .f32⟩
  | .hbm, ⟨17, _⟩ => ⟨S6x3072, .f32⟩
  | .hbm, ⟨18, _⟩ => ⟨S8x3072, .f32⟩
  | .hbm, ⟨19, _⟩ => ⟨S8x1x3072, .f32⟩
  | .hbm, ⟨20, _⟩ => ⟨S2x8192x512, .f32⟩
  | .hbm, ⟨21, _⟩ => ⟨S2x8192x512, .f32⟩
  | .hbm, ⟨22, _⟩ => ⟨S_, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S16384x512, .f32⟩
  | .hbm, ⟨30, _⟩ => ⟨S16384x512, .bf16⟩
  | .hbm, ⟨31, _⟩ => ⟨S2x8192x512, .f32⟩
  | .hbm, ⟨32, _⟩ => ⟨S2x8192x512, .f32⟩
  | .hbm, ⟨33, _⟩ => ⟨S_, .f32⟩
  | .hbm, ⟨34, _⟩ => ⟨S2x8192x512, .f32⟩
  | .hbm, ⟨35, _⟩ => ⟨S2x8192x512, .f32⟩
  | .hbm, ⟨36, _⟩ => ⟨S_, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S16384x512, .f32⟩
  | .hbm, ⟨41, _⟩ => ⟨S16384x512, .bf16⟩
  | .hbm, ⟨42, _⟩ => ⟨S16384x512, .f32⟩
  | .hbm, ⟨43, _⟩ => ⟨S16384x512, .bf16⟩
  | .hbm, ⟨44, _⟩ => ⟨S2x8192x512, .f32⟩
  | .hbm, ⟨45, _⟩ => ⟨S16384x512, .f32⟩
  | .hbm, ⟨46, _⟩ => ⟨S16384x512, .bf16⟩
  | .hbm, ⟨47, _⟩ => ⟨S2x8192x512, .f32⟩
  | .hbm, ⟨48, _⟩ => ⟨S2x8192x512, .f32⟩
  | .hbm, ⟨49, _⟩ => ⟨S_, .f32⟩
  | .hbm, ⟨50, _⟩ => ⟨S2x8192x512, .f32⟩
  | .hbm, ⟨51, _⟩ => ⟨S2x8192x512, .f32⟩
  | .hbm, ⟨52, _⟩ => ⟨S_, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S16384x512, .f32⟩
  | .hbm, ⟨57, _⟩ => ⟨S16384x512, .bf16⟩
  | .hbm, ⟨58, _⟩ => ⟨S16384x512, .f32⟩
  | .hbm, ⟨59, _⟩ => ⟨S16384x512, .bf16⟩
  | .hbm, ⟨60, _⟩ => ⟨S16384x512, .f32⟩
  | .hbm, ⟨61, _⟩ => ⟨S16384x512, .bf16⟩
  | .hbm, ⟨62, _⟩ => ⟨S16384x1024, .f32⟩
  | .hbm, ⟨63, _⟩ => ⟨S1x1024, .f32⟩
  | .hbm, ⟨64, _⟩ => ⟨S1x1024, .f32⟩
  | .hbm, ⟨65, _⟩ => ⟨S1024x7584, .bf16⟩
  | .hbm, ⟨66, _⟩ => ⟨S1024x3072, .bf16⟩
  | .hbm, ⟨67, _⟩ => ⟨S3x512x1024, .bf16⟩
  | .hbm, ⟨68, _⟩ => ⟨S1024x1024, .bf16⟩
  | .hbm, ⟨69, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S8x512, .bf16⟩
  | .local _ .vmem, ⟨15, _⟩ => ⟨S8x512, .bf16⟩
  | .local _ .vmem, ⟨16, _⟩ => ⟨S8x512, .bf16⟩
  | .local _ .vmem, ⟨17, _⟩ => ⟨S8x512, .bf16⟩
  | .local _ .vmem, ⟨18, _⟩ => ⟨S512x1024, .f32⟩
  | .local _ .vmem, ⟨19, _⟩ => ⟨S512x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1x1024, .f32⟩
  | .local _ .vmem, ⟨28, _⟩ => ⟨S3x512, .f32⟩
  | .local _ .vmem, ⟨29, _⟩ => ⟨S1024x3072, .bf16⟩
  | .local _ .vmem, ⟨30, _⟩ => ⟨S3x512x1024, .bf16⟩
  | .local _ .vmem, ⟨31, _⟩ => ⟨S1024x1024, .bf16⟩
  | .local _ .vmem, ⟨32, _⟩ => ⟨S512x1024, .f32⟩
  | .local _ .vmem, ⟨33, _⟩ => ⟨S512x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x3072 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S2x8192x512 : Shape := ⟨3, ![2, 8192, 512]⟩
abbrev S2x8192x1024 : Shape := ⟨3, ![2, 8192, 1024]⟩
abbrev S2x3072 : Shape := ⟨2, ![2, 3072]⟩
abbrev S1024 : Shape := ⟨1, ![1024]⟩
abbrev S1024x7584 : Shape := ⟨2, ![1024, 7584]⟩
abbrev S3x512 : Shape := ⟨2, ![3, 512]⟩
abbrev S3x512x1024 : Shape := ⟨3, ![3, 512, 1024]⟩
abbrev S1024x1024 : Shape := ⟨2, ![1024, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x7584 : Shape := ⟨3, ![2, 8192, 7584]⟩
abbrev S2x8192x3072 : Shape := ⟨3, ![2, 8192, 3072]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S1x512x1024 : Shape := ⟨3, ![1, 512, 1024]⟩
abbrev S512x1024 : Shape := ⟨2, ![512, 1024]⟩
abbrev S16384x1024 : Shape := ⟨2, ![16384, 1024]⟩

abbrev nBuf : Space → Nat
  | .hbm => 164
  | .vmem => 0
  | .smem => 0
  | _ => 0

abbrev hbmTy0_0 (i : Nat) : BufTy := match i % 128 with
  | 0 => ⟨S2x8192x512, .f32⟩
  | 1 => ⟨S2x8192x512, .f32⟩
  | 2 => ⟨S2x8192x512, .f32⟩
  | 3 => ⟨S2x8192x512, .f32⟩
  | 4 => ⟨S2x8192x512, .f32⟩
  | 5 => ⟨S2x8192x512, .f32⟩
  | 6 => ⟨S2x8192x512, .f32⟩
  | 7 => ⟨S2x8192x512, .f32⟩
  | 8 => ⟨S2x8192x1024, .f32⟩
  | 9 => ⟨S2x3072, .f32⟩
  | 10 => ⟨S1024, .f32⟩
  | 11 => ⟨S1024, .f32⟩
  | 12 => ⟨S1024x7584, .f32⟩
  | 13 => ⟨S3x512, .f32⟩
  | 14 => ⟨S3x512x1024, .f32⟩
  | 15 => ⟨S1024x1024, .f32⟩
  | 16 => ⟨S2x1024, .f32⟩
  | 17 => ⟨S2x1024, .f32⟩
  | 18 => ⟨S2x1024, .f32⟩
  | 19 => ⟨S2x1x1024, .f32⟩
  | 20 => ⟨S2x1x1024, .f32⟩
  | 21 => ⟨S2x1x1024, .f32⟩
  | 22 => ⟨S2x8192x1024, .f32⟩
  | 23 => ⟨S_, .f32⟩
  | 24 => ⟨S2x8192, .f32⟩
  | 25 => ⟨S2x8192x1, .f32⟩
  | 26 => ⟨S_, .f32⟩
  | 27 => ⟨S2x8192x1, .f32⟩
  | 28 => ⟨S2x8192x1, .f32⟩
  | 29 => ⟨S_, .f32⟩
  | 30 => ⟨S2x8192x1, .f32⟩
  | 31 => ⟨S2x8192x1, .f32⟩
  | 32 => ⟨S2x8192x1, .f32⟩
  | 33 => ⟨S2x8192x1024, .f32⟩
  | 34 => ⟨S2x8192x1024, .f32⟩
  | 35 => ⟨S1x1x1024, .f32⟩
  | 36 => ⟨S2x8192x1024, .f32⟩
  | 37 => ⟨S2x8192x1024, .f32⟩
  | 38 => ⟨S_, .f32⟩
  | 39 => ⟨S2x1x1024, .f32⟩
  | 40 => ⟨S2x1x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S2x8192x7584, .f32⟩
  | 46 => ⟨S2x8192x3072, .f32⟩
  | 47 => ⟨S2x8192x1024, .f32⟩
  | 48 => ⟨S2x8192x1024, .f32⟩
  | 49 => ⟨S2x8192x1024, .f32⟩
  | 50 => ⟨S2x8192x512, .f32⟩
  | 51 => ⟨S_, .i32⟩
  | 52 => ⟨S_, .f32⟩
  | 53 => ⟨S2x8194x512, .f32⟩
  | 54 => ⟨S1x512, .f32⟩
  | 55 => ⟨S512, .f32⟩
  | 56 => ⟨S2x8192x512, .f32⟩
  | 57 => ⟨S1x1x512, .f32⟩
  | 58 => ⟨S2x8192x512, .f32⟩
  | 59 => ⟨S2x8192x512, .f32⟩
  | 60 => ⟨S1x512, .f32⟩
  | 61 => ⟨S512, .f32⟩
  | 62 => ⟨S2x8192x512, .f32⟩
  | 63 => ⟨S1x1x512, .f32⟩
  | 64 => ⟨S2x8192x512, .f32⟩
  | 65 => ⟨S2x8192x512, .f32⟩
  | 66 => ⟨S2x8192x512, .f32⟩
  | 67 => ⟨S1x512, .f32⟩
  | 68 => ⟨S512, .f32⟩
  | 69 => ⟨S2x8192x512, .f32⟩
  | 70 => ⟨S1x1x512, .f32⟩
  | 71 => ⟨S2x8192x512, .f32⟩
  | 72 => ⟨S2x8192x512, .f32⟩
  | 73 => ⟨S2x8192x512, .f32⟩
  | 74 => ⟨S2x8192x512, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S_, .f32⟩
  | 81 => ⟨S2x8192x1024, .f32⟩
  | 82 => ⟨S2x8192x1024, .f32⟩
  | 83 => ⟨S2x8192x512, .f32⟩
  | 84 => ⟨S2x8192x512, .f32⟩
  | 85 => ⟨S_, .f32⟩
  | 86 => ⟨S2x8192x512, .f32⟩
  | 87 => ⟨S2x8192x512, .f32⟩
  | 88 => ⟨S_, .f32⟩
  | 89 => ⟨S2x8192x512, .f32⟩
  | 90 => ⟨S2x8192x512, .f32⟩
  | 91 => ⟨S2x8192x512, .f32⟩
  | 92 => ⟨S2x8192x512, .f32⟩
  | 93 => ⟨S1x512x1024, .f32⟩
  | 94 => ⟨S512x1024, .f32⟩
  | 95 => ⟨S2x8192x1024, .f32⟩
  | 96 => ⟨S2x8192x1024, .f32⟩
  | 97 => ⟨S2x8192x1024, .f32⟩
  | 98 => ⟨S2x8192x1024, .f32⟩
  | 99 => ⟨S_, .f32⟩
  | 100 => ⟨S2x8192x1024, .f32⟩
  | 101 => ⟨S2x8192x1024, .f32⟩
  | 102 => ⟨S_, .f32⟩
  | 103 => ⟨S2x8192x1024, .f32⟩
  | 104 => ⟨S2x8192x1024, .f32⟩
  | 105 => ⟨S2x8192x512, .f32⟩
  | 106 => ⟨S2x8192x512, .f32⟩
  | 107 => ⟨S_, .f32⟩
  | 108 => ⟨S2x8192x512, .f32⟩
  | 109 => ⟨S2x8192x512, .f32⟩
  | 110 => ⟨S_, .f32⟩
  | 111 => ⟨S2x8192x512, .f32⟩
  | 112 => ⟨S2x8192x512, .f32⟩
  | 113 => ⟨S2x8192x512, .f32⟩
  | 114 => ⟨S2x8192x512, .f32⟩
  | 115 => ⟨S1x512x1024, .f32⟩
  | 116 => ⟨S512x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S_, .f32⟩
  | 123 => ⟨S2x8192x1024, .f32⟩
  | 124 => ⟨S2x8192x1024, .f32⟩
  | 125 => ⟨S_, .f32⟩
  | 126 => ⟨S2x8192x1024, .f32⟩
  | 127 => ⟨S2x8192x1024, .f32⟩
  | _ => ⟨S2x8192x512, .f32⟩

abbrev hbmTy0_1 (i : Nat) : BufTy := match i % 128 with
  | 0 => ⟨S2x8192x512, .f32⟩
  | 1 => ⟨S2x8192x512, .f32⟩
  | 2 => ⟨S_, .f32⟩
  | 3 => ⟨S2x8192x512, .f32⟩
  | 4 => ⟨S2x8192x512, .f32⟩
  | 5 => ⟨S_, .f32⟩
  | 6 => ⟨S2x8192x512, .f32⟩
  | 7 => ⟨S2x8192x512, .f32⟩
  | 8 => ⟨S2x8192x512, .f32⟩
  | 9 => ⟨S2x8192x512, .f32⟩
  | 10 => ⟨S1x512x1024, .f32⟩
  | 11 => ⟨S512x1024, .f32⟩
  | 12 => ⟨S2x8192x1024, .f32⟩
  | 13 => ⟨S2x8192x1024, .f32⟩
  | 14 => ⟨S2x8192x1024, .f32⟩
  | 15 => ⟨S2x8192x1024, .f32⟩
  | 16 => ⟨S2x8192x1024, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x1024, .f32⟩
  | 28 => ⟨S2x8192x1024, .f32⟩
  | 29 => ⟨S1x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S16384x1024, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_5 : Ref sig .tc := ⟨.hbm, 99, rfl⟩
abbrev main_v67 : Ref sig .tc := ⟨.hbm, 100, rfl⟩
abbrev main_v68 : Ref sig .tc := ⟨.hbm, 101, rfl⟩
abbrev main_cst_6 : Ref sig .tc := ⟨.hbm, 102, rfl⟩
abbrev main_v69 : Ref sig .tc := ⟨.hbm, 103, rfl⟩
abbrev main_v70 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_7 : Ref sig .tc := ⟨.hbm, 122, rfl⟩
abbrev main_v80 : Ref sig .tc := ⟨.hbm, 123, rfl⟩
abbrev main_v81 : Ref sig .tc := ⟨.hbm, 124, rfl⟩
abbrev main_cst_8 : Ref sig .tc := ⟨.hbm, 125, rfl⟩
abbrev main_v82 : Ref sig .tc := ⟨.hbm, 126, rfl⟩
abbrev main_v83 : Ref sig .tc := ⟨.hbm, 127, rfl⟩
abbrev main_call3_v0 : Ref sig .tc := ⟨.hbm, 128, rfl⟩
abbrev main_call3_v1 : Ref sig .tc := ⟨.hbm, 129, rfl⟩
abbrev main_call3_cst : Ref sig .tc := ⟨.hbm, 130, rfl⟩
abbrev main_call3_v2 : Ref sig .tc := ⟨.hbm, 131, rfl⟩
abbrev main_call3_v3 : Ref sig .tc := ⟨.hbm, 132, rfl⟩
abbrev main_call3_cst_0 : Ref sig .tc := ⟨.hbm, 133, rfl⟩
abbrev main_call3_v4 : Ref sig .tc := ⟨.hbm, 134, rfl⟩
abbrev main_call3_v5 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_9 : Ref sig .tc := ⟨.hbm, 145, rfl⟩
abbrev main_v93 : Ref sig .tc := ⟨.hbm, 146, rfl⟩
abbrev main_v94 : Ref sig .tc := ⟨.hbm, 147, rfl⟩
abbrev main_cst_10 : Ref sig .tc := ⟨.hbm, 148, rfl⟩
abbrev main_v95 : Ref sig .tc := ⟨.hbm, 149, rfl⟩
abbrev main_v96 : Ref sig .tc := ⟨.hbm, 150, rfl⟩
abbrev main_cst_11 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩

abbrev nD : Nat := 1
abbrev τ : Topo := Topo.v7x

variable {F : FTy → Type} [FloatOps F]
-- ==== Kernel3.lean ====
abbrev S2x1024 : Shape := ⟨2, ![2, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x3072, .f32⟩
  | .hbm, ⟨9, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x1024 : Shape := ⟨2, ![2, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S5x3072 : Shape := ⟨2, ![5, 3072]⟩
abbrev S8x3072 : Shape := ⟨2, ![8, 3072]⟩
abbrev S1x8x3072 : Shape := ⟨3, ![1, 8, 3072]⟩
abbrev S2x8x3072 : Shape := ⟨3, ![2, 8, 3072]⟩

abbrev nBuf : Space → Nat
  | .hbm => 63
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x3072, .f32⟩
  | .hbm, ⟨23, _⟩ => ⟨S1024x3072, .f32⟩
  | .hbm, ⟨24, _⟩ => ⟨S2x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S2x3072, .f32⟩
  | .hbm, ⟨29, _⟩ => ⟨S2x3072, .f32⟩
  | .hbm, ⟨30, _⟩ => ⟨S1x1024x3072, .f32⟩
  | .hbm, ⟨31, _⟩ => ⟨S1024x3072, .f32⟩
  | .hbm, ⟨32, _⟩ => ⟨S3072, .f32⟩
  | .hbm, ⟨33, _⟩ => ⟨S1x3072, .f32⟩
  | .hbm, ⟨34, _⟩ => ⟨S3072, .f32⟩
  | .hbm, ⟨35, _⟩ => ⟨S3072, .f32⟩
  | .hbm, ⟨36, _⟩ => ⟨S1x3072, .f32⟩
  | .hbm, ⟨37, _⟩ => ⟨S3072, .f32⟩
  | .hbm, ⟨38, _⟩ => ⟨S5x3072, .f32⟩
  | .hbm, ⟨39, _⟩ => ⟨S1x3072, .f32⟩
  | .hbm, ⟨40, _⟩ => ⟨S8x3072, .f32⟩
  | .hbm, ⟨41, _⟩ => ⟨S1x1024x3072, .f32⟩
  | .hbm, ⟨42, _⟩ => ⟨S1024x3072, .f32⟩
  | .hbm, ⟨43, _⟩ => ⟨S2x3072, .f32⟩
  | .hbm, ⟨44, _⟩ => ⟨S1x3072, .f32⟩
  | .hbm, ⟨45, _⟩ => ⟨S3072, .f32⟩
  | .hbm, ⟨46, _⟩ => ⟨S1x3072, .f32⟩
  | .hbm, ⟨47, _⟩ => ⟨S2x3072, .f32⟩
  | .hbm, ⟨48, _⟩ => ⟨S2x3072, .f32⟩
  | .hbm, ⟨49, _⟩ => ⟨S1x1024x3072, .f32⟩
  | .hbm, ⟨50, _⟩ => ⟨S1024x3072, .f32⟩
  | .hbm, ⟨51, _⟩ => ⟨S3072, .f32⟩
  | .hbm, ⟨52, _⟩ => ⟨S1x3072, .f32⟩
  | .hbm, ⟨53, _⟩ => ⟨S3072, .f32⟩
  | .hbm, ⟨54, _⟩ => ⟨S3072, .f32⟩
  | .hbm, ⟨55, _⟩ => ⟨S1x3072, .f32⟩
  | .hbm, ⟨56, _⟩ => ⟨S3072, .f32⟩
  | .hbm, ⟨57, _⟩ => ⟨S5x3072, .f32⟩
  | .hbm, ⟨58, _⟩ => ⟨S1x3072, .f32⟩
  | .hbm, ⟨59, _⟩ => ⟨S8x3072, .f32⟩
  | .hbm, ⟨60, _⟩ => ⟨S1x8x3072, .f32⟩
  | .hbm, ⟨61, _⟩ => ⟨S1x8x3072, .f32⟩
  | .hbm, ⟨62, _⟩ => ⟨S2x8x3072, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.Step.lean ====
/- One head's step over a block of 4096 keys, as the kernel's vector operations: eight chunks of 512 keys, each
   scored against the head's 512 queries; the running column maximum, the running weight and the running
   weighted values. And the last step, over the 256 context keys, and the final division. Nothing here is about memory. -/
module

public import proofs.«01_k».proof.Proof.Gen.KernelIdeal.Skeleton

@[expose] public section

noncomputable section

namespace Cert.KernelIdeal.Step

open Cert.KernelIdeal Cert.KernelIdeal.Gen Idealize.ShloMosaic

variable {F : FTy → Type} [FloatOps F]

/-- The scores of one chunk: keys down, queries across. -/
def sc (Kb : Vec F S512x128 .bf16) (Qb : Vec F S128x512 .bf16) : FVec F S512x512 .f32 :=
  matmul dot_S512x128_S128x512_S512x512_1_0_0_1_n_n none (shapeCast S512x128 Kb shapeCasts_S512x128_S512x128)
    (shapeCast S128x512 Qb shapeCasts_S128x512_S128x512) (constant S512x512 .f32 0x00000000#32)

/-- A chunk's scores as they lie in the score buffer. -/
def slab (s : FVec F S512x512 .f32) : FVec F S1x512x512 .f32 := shapeCast S1x512x512 s shapeCasts_S512x512_S1x512x512

/-- The column maximum of one chunk's scores. -/
def cmx (s : FVec F S512x512 .f32) : FVec F S1x512 .f32 :=
  shapeCast S1x512 (multiReduction .maximumf [0] S512 s 0xFF800000#32 reduces_S512x512_S512 (.inl rfl) rfl) shapeCasts_S512_S1x512

/-- The column maximum of the eight chunks. -/
def mx (S : Fin 8 → FVec F S512x512 .f32) : FVec F S1x512 .f32 :=
  maximumf (maximumf (maximumf (maximumf (maximumf (maximumf (maximumf (cmx (S 0)) (cmx (S 1))) (cmx (S 2))) (cmx (S 3))) (cmx (S 4))) (cmx (S 5))) (cmx (S 6))) (cmx (S 7))

/-- The new running maximum. -/
def mNew (m : Vec F S1x1x512 .f32) (x : FVec F S1x512 .f32) : FVec F S1x512 .f32 :=
  maximumf (shapeCast S1x512 m shapeCasts_S1x1x512_S1x512) x

/-- The factor by which the earlier weights shrink. -/
def alpha (m : Vec F S1x1x512 .f32) (m' : FVec F S1x512 .f32) : FVec F S1x512 .f32 :=
  exp2 (subf (shapeCast S1x512 m shapeCasts_S1x1x512_S1x512) m')

/-- One chunk's weights. -/
def pr (m' : FVec F S1x512 .f32) (t : Vec F S1x512x512 .f32) : FVec F S512x512 .bf16 :=
  truncf .bf16 (exp2 (subf (shapeCast S512x512 t shapeCasts_S1x512x512_S512x512) (broadcastTo S512x512 m' broadcasts_S1x512_S512x512))) bitsLt_bf16_f32

/-- The sixteen rows under the values: the first all ones, the others zero. -/
def ones : FVec F S16x512 .bf16 :=
  truncf .bf16 (sitofp .f32 (extui 32 (cmpi .eq (iota .tc S16x512 32 [0] iota_S16x512_d0_w32) (broadcast S16x512 0#32)) natLt_1_32)) bitsLt_bf16_f32

/-- One chunk's weighted values, and under them the sum of its weights. -/
def pvc (o : FVec F S16x512 .bf16) (Vb : Vec F S64x512 .bf16) (p : FVec F S512x512 .bf16) : FVec F S80x512 .f32 :=
  matmul dot_S80x512_S512x512_S80x512_1_0_0_1_n_n none
    (concatenate S80x512 0 [⟨S64x512, shapeCast S64x512 Vb shapeCasts_S64x512_S64x512⟩, ⟨S16x512, o⟩] concatenates_S64x512_S16x512_S80x512_d0)
    p (constant S80x512 .f32 0x00000000#32)

/-- The eight chunks' weighted values. -/
def pv (o : FVec F S16x512 .bf16) (T : Fin 8 → FVec F S1x512x512 .f32) (V : Fin 8 → Vec F S64x512 .bf16) (m' : FVec F S1x512 .f32) : FVec F S80x512 .f32 :=
  addf (addf (addf (addf (addf (addf (addf (pvc o (V 0) (pr m' (T 0))) (pvc o (V 1) (pr m' (T 1)))) (pvc o (V 2) (pr m' (T 2))))
    (pvc o (V 3) (pr m' (T 3)))) (pvc o (V 4) (pr m' (T 4)))) (pvc o (V 5) (pr m' (T 5)))) (pvc o (V 6) (pr m' (T 6)))) (pvc o (V 7) (pr m' (T 7)))

/-- The running maximum after a block whose column maximum is `x`, -/
def mOut (x : FVec F S1x512 .f32) (m : Vec F S1x1x512 .f32) : FVec F S1x1x512 .f32 :=
  shapeCast S1x1x512 (mNew m x) shapeCasts_S1x512_S1x1x512

/-- the running weight (`w` the weighted values, `x` the column maximum), -/
def lOut (w : FVec F S80x512 .f32) (x : FVec F S1x512 .f32) (m l : Vec F S1x1x512 .f32) : FVec F S1x1x512 .f32 :=
  shapeCast S1x1x512 (addf (mulf (alpha m (mNew m x)) (shapeCast S1x512 l shapeCasts_S1x1x512_S1x512))
    (extractStridedSlice S1x512 ![64, 0] w slices_S80x512_o64_0_S1x512)) shapeCasts_S1x512_S1x1x512

/-- and the running weighted values. -/
def aOut (w : FVec F S80x512 .f32) (x : FVec F S1x512 .f32) (m : Vec F S1x1x512 .f32) (a : Vec F S64x512 .f32) : FVec F S64x512 .f32 :=
  shapeCast S64x512 (addf (mulf (broadcastTo S64x512 (alpha m (mNew m x)) broadcasts_S1x512_S64x512) a)
    (extractStridedSlice S64x512 ![0, 0] w slices_S80x512_o0_0_S64x512)) shapeCasts_S64x512_S64x512

/-- The same over the 256 context keys: the scores, -/
def scC (Kb : Vec F S256x128 .bf16) (Qb : Vec F S128x512 .bf16) : FVec F S256x512 .f32 :=
  matmul dot_S256x128_S128x512_S256x512_1_0_0_1_n_n none (shapeCast S256x128 Kb shapeCasts_S256x128_S256x128)
    (shapeCast S128x512 Qb shapeCasts_S128x512_S128x512) (constant S256x512 .f32 0x00000000#32)

/-- as they lie in the score buffer, -/
def slabC (s : FVec F S256x512 .f32) : FVec F S1x256x512 .f32 := shapeCast S1x256x512 s shapeCasts_S256x512_S1x256x512

/-- their column maximum, -/
def cmxC (s : FVec F S256x512 .f32) : FVec F S1x512 .f32 :=
  shapeCast S1x512 (multiReduction .maximumf [0] S512 s 0xFF800000#32 reduces_S256x512_S512 (.inl rfl) rfl) shapeCasts_S512_S1x512

/-- the weights, -/
def prC (m' : FVec F S1x512 .f32) (t : Vec F S1x256x512 .f32) : FVec F S256x512 .bf16 :=
  truncf .bf16 (exp2 (subf (shapeCast S256x512 t shapeCasts_S1x256x512_S256x512) (broadcastTo S256x512 m' broadcasts_S1x512_S256x512))) bitsLt_bf16_f32

/-- the rows of ones, -/
def onesC : FVec F S16x256 .bf16 :=
  truncf .bf16 (sitofp .f32 (extui 32 (cmpi .eq (iota .tc S16x256 32 [0] iota_S16x256_d0_w32) (broadcast S16x256 0#32)) natLt_1_32)) bitsLt_bf16_f32

/-- the weighted values. -/
def pvC (o : FVec F S16x256 .bf16) (Vb : Vec F S64x256 .bf16) (p : FVec F S256x512 .bf16) : FVec F S80x512 .f32 :=
  matmul dot_S80x256_S256x512_S80x512_1_0_0_1_n_n none
    (concatenate S80x256 0 [⟨S64x256, shapeCast S64x256 Vb shapeCasts_S64x256_S64x256⟩, ⟨S16x256, o⟩] concatenates_S64x256_S16x256_S80x256_d0)
    p (constant S80x512 .f32 0x00000000#32)

/-- The division of the weighted values by the weight. -/
def fin (a : Vec F S64x512 .f32) (l : Vec F S1x1x512 .f32) : FVec F S64x512 .f32 :=
  shapeCast S64x512 (divf a (broadcastTo S64x512 (shapeCast S1x512 l shapeCasts_S1x1x512_S1x512) broadcasts_S1x512_S64x512)) shapeCasts_S64x512_S64x512

end Cert.KernelIdeal.Step

end
-- ==== Proof.Reads.lean ====
/- The blocks of the kernel's buffers that a head's step reads. -/
module

public import proofs.«01_k».proof.Proof.Step
public import Idealize.ShloMosaic.Lib.Exec
public import Idealize.ShloMosaic.Lib.VecWindow
public import Idealize.ShloMosaic.Lib.Pipeline.ReadBack

@[expose] public section

noncomputable section

namespace Cert.KernelIdeal.Body

open Cert.KernelIdeal Cert.KernelIdeal.Gen Cert.KernelIdeal.Step Idealize.ShloMosaic Idealize.ShloMosaic.TcCoe

variable {F : FTy → Type} [FloatOps F]

/-- 512 keys of a head, at an offset. -/
abbrev rK (b : Memref sig .tc .vmem S8192x1024 .bf16) (X : BufTy.Contents (Elt F) b.view.ty) (off : Fin 2 → ℕ)
    (inb : ∀ a, off a + S512x128.size a ≤ S8192x1024.size a) : Vec F S512x128 .bf16 :=
  b.view.readAt (Elt F) (Rect.unit (s := S8192x1024) off S512x128.size inb).toLoadRect X

/-- Their values. -/
abbrev rV (b : Memref sig .tc .vmem S512x8192 .bf16) (X : BufTy.Contents (Elt F) b.view.ty) (off : Fin 2 → ℕ)
    (inb : ∀ a, off a + S64x512.size a ≤ S512x8192.size a) : Vec F S64x512 .bf16 :=
  b.view.readAt (Elt F) (Rect.unit (s := S512x8192) off S64x512.size inb).toLoadRect X

/-- A head's queries. -/
abbrev rQ (b : Memref sig .tc .vmem S1024x512 .bf16) (X : BufTy.Contents (Elt F) b.view.ty) (off : Fin 2 → ℕ)
    (inb : ∀ a, off a + S128x512.size a ≤ S1024x512.size a) : Vec F S128x512 .bf16 :=
  b.view.readAt (Elt F) (Rect.unit (s := S1024x512) off S128x512.size inb).toLoadRect X

/-- A head's row of a running maximum or weight. -/
abbrev rM (b : Memref sig .tc .vmem S8x1x512 .f32) (X : BufTy.Contents (Elt F) b.view.ty) (off : Fin 3 → ℕ)
    (inb : ∀ a, off a + S1x1x512.size a ≤ S8x1x512.size a) : Vec F S1x1x512 .f32 :=
  b.view.readAt (Elt F) (Rect.unit (s := S8x1x512) off S1x1x512.size inb).toLoadRect X

/-- A head's running weighted values. -/
abbrev rA (b : Memref sig .tc .vmem S512x512 .f32) (X : BufTy.Contents (Elt F) b.view.ty) (off : Fin 2 → ℕ)
    (inb : ∀ a, off a + S64x512.size a ≤ S512x512.size a) : Vec F S64x512 .f32 :=
  b.view.readAt (Elt F) (Rect.unit (s := S512x512) off S64x512.size inb).toLoadRect X

/-- The context keys of a head. -/
abbrev rKC (b : Memref sig .tc .vmem S256x1024 .bf16) (X : BufTy.Contents (Elt F) b.view.ty) (off : Fin 2 → ℕ)
    (inb : ∀ a, off a + S256x128.size a ≤ S256x1024.size a) : Vec F S256x128 .bf16 :=
  b.view.readAt (Elt F) (Rect.unit (s := S256x1024) off S256x128.size inb).toLoadRect X

/-- Their values. -/
abbrev rVC (b : Memref sig .tc .vmem S512x256 .bf16) (X : BufTy.Contents (Elt F) b.view.ty) (off : Fin 2 → ℕ)
    (inb : ∀ a, off a + S64x256.size a ≤ S512x256.size a) : Vec F S64x256 .bf16 :=
  b.view.readAt (Elt F) (Rect.unit (s := S512x256) off S64x256.size inb).toLoadRect X

/-- A head's row of a running maximum or weight, of a buffer known by its writes. -/
abbrev cM (b : Memref sig .tc .vmem S8x1x512 .f32) (L : List (View.Piece (Elt F) S8x1x512 .f32)) (off : Fin 3 → ℕ)
    (inb : ∀ a, off a + S1x1x512.size a ≤ S8x1x512.size a) : Vec F S1x1x512 .f32 :=
  b.view.readCov L (Rect.unit (s := S8x1x512) off S1x1x512.size inb).toLoadRect

/-- A head's running weighted values, of a buffer known by its writes. -/
abbrev cA (b : Memref sig .tc .vmem S512x512 .f32) (L : List (View.Piece (Elt F) S512x512 .f32)) (off : Fin 2 → ℕ)
    (inb : ∀ a, off a + S64x512.size a ≤ S512x512.size a) : Vec F S64x512 .f32 :=
  b.view.readCov L (Rect.unit (s := S512x512) off S64x512.size inb).toLoadRect

end Cert.KernelIdeal.Body

end
-- ==== Proof.Win.lean ====
/- The windows of the operands and of the running state that a head's step reads, by their elements, and the step on whole
   arrays: what one trip of the loop makes of the running maximum, weight and weighted values, and the last step. -/
module

public import proofs.«01_k».proof.Proof.Reads
public import Idealize.ShloMosaic.Lib.ValueIdxCore

@[expose] public section

noncomputable section

namespace Cert.KernelIdeal.Step

open Cert.KernelIdeal Cert.KernelIdeal.Gen Idealize.ShloMosaic Idealize.ShloMosaic.ValueIdx

variable {F : FTy → Type} [FloatOps F]

/-- The queries of head `h`. -/
def qW (x : Vec F S1024x512 .bf16) (h : Fin 8) : Vec F S128x512 .bf16 := fun y =>
  x (ix2 ⟨128 * h.val + (y 0).val, by have := idx2_lt0 y; omega⟩ (y 1))

/-- The keys of head `h` in chunk `c` of block `k`. -/
def kW (x : Vec F S8192x1024 .bf16) (k : ℕ) (hk : k < 2) (h c : Fin 8) : Vec F S512x128 .bf16 := fun y =>
  x (ix2 ⟨4096 * k + 512 * c.val + (y 0).val, by have := idx2_lt0 y; omega⟩ ⟨128 * h.val + (y 1).val, by have := idx2_lt1 y; omega⟩)

/-- Their values. -/
def vW (x : Vec F S512x8192 .bf16) (k : ℕ) (hk : k < 2) (h c : Fin 8) : Vec F S64x512 .bf16 := fun y =>
  x (ix2 ⟨64 * h.val + (y 0).val, by have := idx2_lt0 y; omega⟩ ⟨4096 * k + 512 * c.val + (y 1).val, by have := idx2_lt1 y; omega⟩)

/-- The context keys of head `h`, -/
def kcW (x : Vec F S256x1024 .bf16) (h : Fin 8) : Vec F S256x128 .bf16 := fun y =>
  x (ix2 (y 0) ⟨128 * h.val + (y 1).val, by have := idx2_lt1 y; omega⟩)

/-- and their values. -/
def vcW (x : Vec F S512x256 .bf16) (h : Fin 8) : Vec F S64x256 .bf16 := fun y =>
  x (ix2 ⟨64 * h.val + (y 0).val, by have := idx2_lt0 y; omega⟩ (y 1))

/-- Head `h`'s row of a running maximum or weight. -/
def mW (x : Vec F S8x1x512 .f32) (h : Fin 8) : Vec F S1x1x512 .f32 := fun y => x (ix3 h (y 1) (y 2))

/-- Head `h`'s running weighted values. -/
def aW (x : Vec F S512x512 .f32) (h : Fin 8) : Vec F S64x512 .f32 := fun y =>
  x (ix2 ⟨64 * h.val + (y 0).val, by have := idx2_lt0 y; omega⟩ (y 1))

/-- The column maximum of head `h`'s scores in block `k`, -/
def xT (q : Vec F S1024x512 .bf16) (kk : Vec F S8192x1024 .bf16) (k : ℕ) (hk : k < 2) (h : Fin 8) : FVec F S1x512 .f32 :=
  mx fun c => sc (kW kk k hk h c) (qW q h)

/-- and its weighted values, when the running maximum was `m`. -/
def wT (q : Vec F S1024x512 .bf16) (kk : Vec F S8192x1024 .bf16) (v : Vec F S512x8192 .bf16) (k : ℕ) (hk : k < 2) (h : Fin 8)
    (m : Vec F S1x1x512 .f32) : FVec F S80x512 .f32 :=
  pv ones (fun c => slab (sc (kW kk k hk h c) (qW q h))) (fun c => vW v k hk h c) (mNew m (xT q kk k hk h))

/-- The running maximum after block `k`, -/
def stepM (q : Vec F S1024x512 .bf16) (kk : Vec F S8192x1024 .bf16) (k : ℕ) (hk : k < 2) (M : Vec F S8x1x512 .f32) : Vec F S8x1x512 .f32 :=
  fun y => mOut (xT q kk k hk (y 0)) (mW M (y 0)) (ix3 0 (y 1) (y 2))

/-- the running weight, -/
def stepL (q : Vec F S1024x512 .bf16) (kk : Vec F S8192x1024 .bf16) (v : Vec F S512x8192 .bf16) (k : ℕ) (hk : k < 2)
    (M L : Vec F S8x1x512 .f32) : Vec F S8x1x512 .f32 :=
  fun y => lOut (wT q kk v k hk (y 0) (mW M (y 0))) (xT q kk k hk (y 0)) (mW M (y 0)) (mW L (y 0)) (ix3 0 (y 1) (y 2))

/-- The head a row of the weighted values belongs to. -/
def hd (y : S512x512.Idx) : Fin 8 := ⟨(y 0).val / 64, by have := idx2_lt0 (n0 := 512) (n1 := 512) y; omega⟩

/-- The row within the head. -/
def rw64 (y : S512x512.Idx) : Fin 64 := ⟨(y 0).val % 64, Nat.mod_lt _ (by decide)⟩

/-- the running weighted values. -/
def stepA (q : Vec F S1024x512 .bf16) (kk : Vec F S8192x1024 .bf16) (v : Vec F S512x8192 .bf16) (k : ℕ) (hk : k < 2)
    (M : Vec F S8x1x512 .f32) (A : Vec F S512x512 .f32) : Vec F S512x512 .f32 :=
  fun y => aOut (wT q kk v k hk (hd y) (mW M (hd y))) (xT q kk k hk (hd y)) (mW M (hd y)) (aW A (hd y)) (ix2 (rw64 y) (y 1))

/-- The column maximum of head `h`'s context scores, -/
def xC (q : Vec F S1024x512 .bf16) (kc : Vec F S256x1024 .bf16) (h : Fin 8) : FVec F S1x512 .f32 := cmxC (scC (kcW kc h) (qW q h))

/-- its weighted context values, -/
def wC (q : Vec F S1024x512 .bf16) (kc : Vec F S256x1024 .bf16) (vc : Vec F S512x256 .bf16) (h : Fin 8)
    (m : Vec F S1x1x512 .f32) : FVec F S80x512 .f32 :=
  pvC onesC (vcW vc h) (prC (mNew m (xC q kc h)) (slabC (scC (kcW kc h) (qW q h))))

/-- and what its division leaves. -/
def finC (q : Vec F S1024x512 .bf16) (kc : Vec F S256x1024 .bf16) (vc : Vec F S512x256 .bf16) (h : Fin 8)
    (m l : Vec F S1x1x512 .f32) (a : Vec F S64x512 .f32) : Vec F S64x512 .f32 :=
  fin (aOut (wC q kc vc h m) (xC q kc h) m a) (lOut (wC q kc vc h m) (xC q kc h) m l)

/-- The context step and the division, on whole arrays. -/
def stepC (q : Vec F S1024x512 .bf16) (kc : Vec F S256x1024 .bf16) (vc : Vec F S512x256 .bf16)
    (M L : Vec F S8x1x512 .f32) (A : Vec F S512x512 .f32) : Vec F S512x512 .f32 :=
  fun y => finC q kc vc (hd y) (mW M (hd y)) (mW L (hd y)) (aW A (hd y)) (ix2 (rw64 y) (y 1))

end Cert.KernelIdeal.Step

namespace Cert.KernelIdeal.Body

open Cert.KernelIdeal Cert.KernelIdeal.Gen Cert.KernelIdeal.Step Idealize.ShloMosaic Idealize.ShloMosaic.TcCoe Idealize.ShloMosaic.ValueIdx

variable {F : FTy → Type} [FloatOps F]

theorem rK_eq (b : Memref sig .tc .vmem S8192x1024 .bf16) (X : BufTy.Contents (Elt F) b.view.ty) (off : Fin 2 → ℕ)
    (inb : ∀ a, off a + S512x128.size a ≤ S8192x1024.size a) (k : ℕ) (hk : k < 2) (h c : Fin 8)
    (e : off = ![4096 * k + 512 * c.val, 128 * h.val]) : rK b X off inb = kW (b.view.read (Elt F) X) k hk h c := by
  subst e
  funext y
  refine congrArg (b.view.read (Elt F) X) (funext fun a => Fin.ext ?_)
  match a with
  | ⟨0, _⟩ => exact congrArg (4096 * k + 512 * c.val + ·) (Nat.one_mul _)
  | ⟨1, _⟩ => exact congrArg (128 * h.val + ·) (Nat.one_mul _)

theorem rV_eq (b : Memref sig .tc .vmem S512x8192 .bf16) (X : BufTy.Contents (Elt F) b.view.ty) (off : Fin 2 → ℕ)
    (inb : ∀ a, off a + S64x512.size a ≤ S512x8192.size a) (k : ℕ) (hk : k < 2) (h c : Fin 8)
    (e : off = ![64 * h.val, 4096 * k + 512 * c.val]) : rV b X off inb = vW (b.view.read (Elt F) X) k hk h c := by
  subst e
  funext y
  refine congrArg (b.view.read (Elt F) X) (funext fun a => Fin.ext ?_)
  match a with
  | ⟨0, _⟩ => exact congrArg (64 * h.val + ·) (Nat.one_mul _)
  | ⟨1, _⟩ => exact congrArg (4096 * k + 512 * c.val + ·) (Nat.one_mul _)

theorem rQ_eq (b : Memref sig .tc .vmem S1024x512 .bf16) (X : BufTy.Contents (Elt F) b.view.ty) (off : Fin 2 → ℕ)
    (inb : ∀ a, off a + S128x512.size a ≤ S1024x512.size a) (h : Fin 8)
    (e : off = ![128 * h.val, 0]) : rQ b X off inb = qW (b.view.read (Elt F) X) h := by
  subst e
  funext y
  refine congrArg (b.view.read (Elt F) X) (funext fun a => Fin.ext ?_)
  match a with
  | ⟨0, _⟩ => exact congrArg (128 * h.val + ·) (Nat.one_mul _)
  | ⟨1, _⟩ => exact (Nat.zero_add _).trans (Nat.one_mul _)

theorem rKC_eq (b : Memref sig .tc .vmem S256x1024 .bf16) (X : BufTy.Contents (Elt F) b.view.ty) (off : Fin 2 → ℕ)
    (inb : ∀ a, off a + S256x128.size a ≤ S256x1024.size a) (h : Fin 8)
    (e : off = ![0, 128 * h.val]) : rKC b X off inb = kcW (b.view.read (Elt F) X) h := by
  subst e
  funext y
  refine congrArg (b.view.read (Elt F) X) (funext fun a => Fin.ext ?_)
  match a with
  | ⟨0, _⟩ => exact (Nat.zero_add _).trans (Nat.one_mul _)
  | ⟨1, _⟩ => exact congrArg (128 * h.val + ·) (Nat.one_mul _)

theorem rVC_eq (b : Memref sig .tc .vmem S512x256 .bf16) (X : BufTy.Contents (Elt F) b.view.ty) (off : Fin 2 → ℕ)
    (inb : ∀ a, off a + S64x256.size a ≤ S512x256.size a) (h : Fin 8)
    (e : off = ![64 * h.val, 0]) : rVC b X off inb = vcW (b.view.read (Elt F) X) h := by
  subst e
  funext y
  refine congrArg (b.view.read (Elt F) X) (funext fun a => Fin.ext ?_)
  match a with
  | ⟨0, _⟩ => exact congrArg (64 * h.val + ·) (Nat.one_mul _)
  | ⟨1, _⟩ => exact (Nat.zero_add _).trans (Nat.one_mul _)

theorem rM_eq (b : Memref sig .tc .vmem S8x1x512 .f32) (X : BufTy.Contents (Elt F) b.view.ty) (off : Fin 3 → ℕ)
    (inb : ∀ a, off a + S1x1x512.size a ≤ S8x1x512.size a) (h : Fin 8)
    (e : off = ![h.val, 0, 0]) : rM b X off inb = mW (b.view.read (Elt F) X) h := by
  subst e
  funext y
  refine congrArg (b.view.read (Elt F) X) (funext fun a => Fin.ext ?_)
  match a with
  | ⟨0, _⟩ =>
    have : (y 0).val < 1 := (y 0).isLt
    show h.val + 1 * (y 0).val = h.val
    omega
  | ⟨1, _⟩ => exact (Nat.zero_add _).trans (Nat.one_mul _)
  | ⟨2, _⟩ => exact (Nat.zero_add _).trans (Nat.one_mul _)

theorem rA_eq (b : Memref sig .tc .vmem S512x512 .f32) (X : BufTy.Contents (Elt F) b.view.ty) (off : Fin 2 → ℕ)
    (inb : ∀ a, off a + S64x512.size a ≤ S512x512.size a) (h : Fin 8)
    (e : off = ![64 * h.val, 0]) : rA b X off inb = aW (b.view.read (Elt F) X) h := by
  subst e
  funext y
  refine congrArg (b.view.read (Elt F) X) (funext fun a => Fin.ext ?_)
  match a with
  | ⟨0, _⟩ => exact congrArg (64 * h.val + ·) (Nat.one_mul _)
  | ⟨1, _⟩ => exact (Nat.zero_add _).trans (Nat.one_mul _)

end Cert.KernelIdeal.Body

end
-- ==== Proof.Head0.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_0_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v625 arg2 arg3 arg11 X2 X3 k = slab (sc (rK arg3 X3 (k0_off1 k) (k0_off1_inb k)) (rQ arg2 X2 ![0, 0] inb_S1024x512_S128x512_0_0)) := by
  unfold v625
  simp (disch := decide) only [HW_arg11_9, ↓ View.readCov_skip, ↓ View.readCov_cons_toLoadRect]
  rfl

theorem slab_0_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v650 arg2 arg3 arg11 X2 X3 k = slab (sc (rK arg3 X3 (k0_off2 k) (k0_off2_inb k)) (rQ arg2 X2 ![0, 0] inb_S1024x512_S128x512_0_0)) := by
  unfold v650
  simp (disch := decide) only [HW_arg11_9, HW_arg11_10, ↓ View.readCov_skip, ↓ View.readCov_cons_toLoadRect]
  rfl

theorem slab_0_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v676 arg2 arg3 arg11 X2 X3 k = slab (sc (rK arg3 X3 (k0_off3 k) (k0_off3_inb k)) (rQ arg2 X2 ![0, 0] inb_S1024x512_S128x512_0_0)) := by
  unfold v676
  simp (disch := decide) only [HW_arg11_9, HW_arg11_10, HW_arg11_11, ↓ View.readCov_skip, ↓ View.readCov_cons_toLoadRect]
  rfl

theorem slab_0_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v702 arg2 arg3 arg11 X2 X3 k = slab (sc (rK arg3 X3 (k0_off4 k) (k0_off4_inb k)) (rQ arg2 X2 ![0, 0] inb_S1024x512_S128x512_0_0)) := by
  unfold v702
  simp (disch := decide) only [HW_arg11_9, HW_arg11_10, HW_arg11_11, HW_arg11_12, ↓ View.readCov_skip, ↓ View.readCov_cons_toLoadRect]
  rfl

theorem slab_0_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v728 arg2 arg3 arg11 X2 X3 k = slab (sc (rK arg3 X3 (k0_off5 k) (k0_off5_inb k)) (rQ arg2 X2 ![0, 0] inb_S1024x512_S128x512_0_0)) := by
  unfold v728
  simp (disch := decide) only [HW_arg11_9, HW_arg11_10, HW_arg11_11, HW_arg11_12, HW_arg11_13, ↓ View.readCov_skip, ↓ View.readCov_cons_toLoadRect]
  rfl

theorem slab_0_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v754 arg2 arg3 arg11 X2 X3 k = slab (sc (rK arg3 X3 (k0_off6 k) (k0_off6_inb k)) (rQ arg2 X2 ![0, 0] inb_S1024x512_S128x512_0_0)) := by
  unfold v754
  simp (disch := decide) only [HW_arg11_9, HW_arg11_10, HW_arg11_11, HW_arg11_12, HW_arg11_13, HW_arg11_14, ↓ View.readCov_skip, ↓ View.readCov_cons_toLoadRect]
  rfl

theorem slab_0_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v780 arg2 arg3 arg11 X2 X3 k = slab (sc (rK arg3 X3 (k0_off7 k) (k0_off7_inb k)) (rQ arg2 X2 ![0, 0] inb_S1024x512_S128x512_0_0)) := by
  unfold v780
  simp (disch := decide) only [HW_arg11_9, HW_arg11_10, HW_arg11_11, HW_arg11_12, HW_arg11_13, HW_arg11_14, HW_arg11_15, ↓ View.readCov_skip, ↓ View.readCov_cons_toLoadRect]
  rfl

theorem slab_0_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v806 arg2 arg3 arg11 X2 X3 k = slab (sc (rK arg3 X3 (k0_off8 k) (k0_off8_inb k)) (rQ arg2 X2 ![0, 0] inb_S1024x512_S128x512_0_0)) := by
  unfold v806
  simp (disch := decide) only [HW_arg11_9, HW_arg11_10, HW_arg11_11, HW_arg11_12, HW_arg11_13, HW_arg11_14, HW_arg11_15, HW_arg11_16, ↓ View.readCov_skip, ↓ View.readCov_cons_toLoadRect]
  rfl

theorem mx_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_5 arg2 arg3 X2 X3 k = mx (fun n => sc ((![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) n) (rQ arg2 X2 ![0, 0] inb_S1024x512_S128x512_0_0)) := by
  rfl

theorem piece_m0 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[7]? = some ⟨Rect.unit ![0, 0, 0] S1x1x512.size inb_S8x1x512_S1x1x512_0_0_0, mOut (mx (fun n => sc ((![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) n) (rQ arg2 X2 ![0, 0] inb_S1024x512_S128x512_0_0))) (rM arg8 f8 ![0, 0, 0] inb_S8x1x512_S1x1x512_0_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_0, slab_0_0, slab_0_1, slab_0_2, slab_0_3, slab_0_4, slab_0_5, slab_0_6, slab_0_7]
  generalize mx (F := F) _ = x
  rfl

theorem piece_l0 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[7]? = some ⟨Rect.unit ![0, 0, 0] S1x1x512.size inb_S8x1x512_S1x1x512_0_0_0, lOut (pv (ones (F := F)) (![slab (sc (rK arg3 X3 (k0_off1 k) (k0_off1_inb k)) (rQ arg2 X2 ![0, 0] inb_S1024x512_S128x512_0_0)), slab (sc (rK arg3 X3 (k0_off2 k) (k0_off2_inb k)) (rQ arg2 X2 ![0, 0] inb_S1024x512_S128x512_0_0)), slab (sc (rK arg3 X3 (k0_off3 k) (k0_off3_inb k)) (rQ arg2 X2 ![0, 0] inb_S1024x512_S128x512_0_0)), slab (sc (rK arg3 X3 (k0_off4 k) (k0_off4_inb k)) (rQ arg2 X2 ![0, 0] inb_S1024x512_S128x512_0_0)), slab (sc (rK arg3 X3 (k0_off5 k) (k0_off5_inb k)) (rQ arg2 X2 ![0, 0] inb_S1024x512_S128x512_0_0)), slab (sc (rK arg3 X3 (k0_off6 k) (k0_off6_inb k)) (rQ arg2 X2 ![0, 0] inb_S1024x512_S128x512_0_0)), slab (sc (rK arg3 X3 (k0_off7 k) (k0_off7_inb k)) (rQ arg2 X2 ![0, 0] inb_S1024x512_S128x512_0_0)), slab (sc (rK arg3 X3 (k0_off8 k) (k0_off8_inb k)) (rQ arg2 X2 ![0, 0] inb_S1024x512_S128x512_0_0))] : Fin 8 → FVec F S1x512x512 .f32) (![rV arg4 X4 (k0_off10 k) (k0_off10_inb k), rV arg4 X4 (k0_off12 k) (k0_off12_inb k), rV arg4 X4 (k0_off14 k) (k0_off14_inb k), rV arg4 X4 (k0_off16 k) (k0_off16_inb k), rV arg4 X4 (k0_off18 k) (k0_off18_inb k), rV arg4 X4 (k0_off20 k) (k0_off20_inb k), rV arg4 X4 (k0_off22 k) (k0_off22_inb k), rV arg4 X4 (k0_off24 k) (k0_off24_inb k)] : Fin 8 → Vec F S64x512 .bf16) (mNew (rM arg8 f8 ![0, 0, 0] inb_S8x1x512_S1x1x512_0_0_0) (mx (fun n => sc ((![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) n) (rQ arg2 X2 ![0, 0] inb_S1024x512_S128x512_0_0))))) (mx (fun n => sc ((![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) n) (rQ arg2 X2 ![0, 0] inb_S1024x512_S128x512_0_0))) (rM arg8 f8 ![0, 0, 0] inb_S8x1x512_S1x1x512_0_0_0) (rM arg9 f9 ![0, 0, 0] inb_S8x1x512_S1x1x512_0_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_0, slab_0_0, slab_0_1, slab_0_2, slab_0_3, slab_0_4, slab_0_5, slab_0_6, slab_0_7]
  generalize mx (F := F) _ = x
  rfl

theorem piece_a0 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[7]? = some ⟨Rect.unit ![0, 0] S64x512.size inb_S512x512_S64x512_0_0, aOut (pv (ones (F := F)) (![slab (sc (rK arg3 X3 (k0_off1 k) (k0_off1_inb k)) (rQ arg2 X2 ![0, 0] inb_S1024x512_S128x512_0_0)), slab (sc (rK arg3 X3 (k0_off2 k) (k0_off2_inb k)) (rQ arg2 X2 ![0, 0] inb_S1024x512_S128x512_0_0)), slab (sc (rK arg3 X3 (k0_off3 k) (k0_off3_inb k)) (rQ arg2 X2 ![0, 0] inb_S1024x512_S128x512_0_0)), slab (sc (rK arg3 X3 (k0_off4 k) (k0_off4_inb k)) (rQ arg2 X2 ![0, 0] inb_S1024x512_S128x512_0_0)), slab (sc (rK arg3 X3 (k0_off5 k) (k0_off5_inb k)) (rQ arg2 X2 ![0, 0] inb_S1024x512_S128x512_0_0)), slab (sc (rK arg3 X3 (k0_off6 k) (k0_off6_inb k)) (rQ arg2 X2 ![0, 0] inb_S1024x512_S128x512_0_0)), slab (sc (rK arg3 X3 (k0_off7 k) (k0_off7_inb k)) (rQ arg2 X2 ![0, 0] inb_S1024x512_S128x512_0_0)), slab (sc (rK arg3 X3 (k0_off8 k) (k0_off8_inb k)) (rQ arg2 X2 ![0, 0] inb_S1024x512_S128x512_0_0))] : Fin 8 → FVec F S1x512x512 .f32) (![rV arg4 X4 (k0_off10 k) (k0_off10_inb k), rV arg4 X4 (k0_off12 k) (k0_off12_inb k), rV arg4 X4 (k0_off14 k) (k0_off14_inb k), rV arg4 X4 (k0_off16 k) (k0_off16_inb k), rV arg4 X4 (k0_off18 k) (k0_off18_inb k), rV arg4 X4 (k0_off20 k) (k0_off20_inb k), rV arg4 X4 (k0_off22 k) (k0_off22_inb k), rV arg4 X4 (k0_off24 k) (k0_off24_inb k)] : Fin 8 → Vec F S64x512 .bf16) (mNew (rM arg8 f8 ![0, 0, 0] inb_S8x1x512_S1x1x512_0_0_0) (mx (fun n => sc ((![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) n) (rQ arg2 X2 ![0, 0] inb_S1024x512_S128x512_0_0))))) (mx (fun n => sc ((![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) n) (rQ arg2 X2 ![0, 0] inb_S1024x512_S128x512_0_0))) (rM arg8 f8 ![0, 0, 0] inb_S8x1x512_S1x1x512_0_0_0) (rA arg10 f10 ![0, 0] inb_S512x512_S64x512_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_0, slab_0_0, slab_0_1, slab_0_2, slab_0_3, slab_0_4, slab_0_5, slab_0_6, slab_0_7]
  generalize mx (F := F) _ = x
  rfl

theorem kS_0 (arg3 : Memref sig .tc .vmem S8192x1024 .bf16) (X3 : BufTy.Contents (Elt F) arg3.view.ty) (k : Fin k0_t1_loop.trips) (hk : k.val < 2) :
    (![rK arg3 X3 (k0_off1 k) (k0_off1_inb k), rK arg3 X3 (k0_off2 k) (k0_off2_inb k), rK arg3 X3 (k0_off3 k) (k0_off3_inb k), rK arg3 X3 (k0_off4 k) (k0_off4_inb k), rK arg3 X3 (k0_off5 k) (k0_off5_inb k), rK arg3 X3 (k0_off6 k) (k0_off6_inb k), rK arg3 X3 (k0_off7 k) (k0_off7_inb k), rK arg3 X3 (k0_off8 k) (k0_off8_inb k)] : Fin 8 → Vec F S512x128 .bf16) = fun c => kW (arg3.view.read (Elt F) X3) k.val hk 0 c := by
  funext c
  match c with
  | 0 => exact rK_eq _ _ _ _ _ hk 0 0 (k0_off1_eq k)
  | 1 => exact rK_eq _ _ _ _ _ hk 0 1 (k0_off2_eq k)
  | 2 => exact rK_eq _ _ _ _ _ hk 0 2 (k0_off3_eq k)
  | 3 => exact rK_eq _ _ _ _ _ hk 0 3 (k0_off4_eq k)
  | 4 => exact rK_eq _ _ _ _ _ hk 0 4 (k0_off5_eq k)
  | 5 => exact rK_eq _ _ _ _ _ hk 0 5 (k0_off6_eq k)
  | 6 => exact rK_eq _ _ _ _ _ hk 0 6 (k0_off7_eq k)
  | 7 => exact rK_eq _ _ _ _ _ hk 0 7 (k0_off8_eq k)

theorem vS_0 (arg4 : Memref sig .tc .vmem S512x8192 .bf16) (X4 : BufTy.Contents (Elt F) arg4.view.ty) (k : Fin k0_t1_loop.trips) (hk : k.val < 2) :
    (![rV arg4 X4 (k0_off10 k) (k0_off10_inb k), rV arg4 X4 (k0_off12 k) (k0_off12_inb k), rV arg4 X4 (k0_off14 k) (k0_off14_inb k), rV arg4 X4 (k0_off16 k) (k0_off16_inb k), rV arg4 X4 (k0_off18 k) (k0_off18_inb k), rV arg4 X4 (k0_off20 k) (k0_off20_inb k), rV arg4 X4 (k0_off22 k) (k0_off22_inb k), rV arg4 X4 (k0_off24 k) (k0_off24_inb k)] : Fin 8 → Vec F S64x512 .bf16) = fun c => vW (arg4.view.read (Elt F) X4) k.val hk 0 c := by
  funext c
  match c with
  | 0 => exact rV_eq _ _ _ _ _ hk 0 0 (k0_off10_eq k)
  | 1 => exact rV_eq _ _ _ _ _ hk 0 1 (k0_off12_eq k)
  | 2 => exact rV_eq _ _ _ _ _ hk 0 2 (k0_off14_eq k)
  | 3 => exact rV_eq _ _ _ _ _ hk 0 3 (k0_off16_eq k)
  | 4 => exact rV_eq _ _ _ _ _ hk 0 4 (k0_off18_eq k)
  | 5 => exact rV_eq _ _ _ _ _ hk 0 5 (k0_off20_eq k)
  | 6 => exact rV_eq _ _ _ _ _ hk 0 6 (k0_off22_eq k)
  | 7 => exact rV_eq _ _ _ _ _ hk 0 7 (k0_off24_eq k)

theorem tS_0 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off1 k) (k0_off1_inb k)) (rQ arg2 X2 ![0, 0] inb_S1024x512_S128x512_0_0)), slab (sc (rK arg3 X3 (k0_off2 k) (k0_off2_inb k)) (rQ arg2 X2 ![0, 0] inb_S1024x512_S128x512_0_0)), slab (sc (rK arg3 X3 (k0_off3 k) (k0_off3_inb k)) (rQ arg2 X2 ![0, 0] inb_S1024x512_S128x512_0_0)), slab (sc (rK arg3 X3 (k0_off4 k) (k0_off4_inb k)) (rQ arg2 X2 ![0, 0] inb_S1024x512_S128x512_0_0)), slab (sc (rK arg3 X3 (k0_off5 k) (k0_off5_inb k)) (rQ arg2 X2 ![0, 0] inb_S1024x512_S128x512_0_0)), slab (sc (rK arg3 X3 (k0_off6 k) (k0_off6_inb k)) (rQ arg2 X2 ![0, 0] inb_S1024x512_S128x512_0_0)), slab (sc (rK arg3 X3 (k0_off7 k) (k0_off7_inb k)) (rQ arg2 X2 ![0, 0] inb_S1024x512_S128x512_0_0)), slab (sc (rK arg3 X3 (k0_off8 k) (k0_off8_inb k)) (rQ arg2 X2 ![0, 0] inb_S1024x512_S128x512_0_0))] : Fin 8 → FVec F S1x512x512 .f32) = fun c => slab (sc (kW (arg3.view.read (Elt F) X3) k.val hk 0 c) (qW (arg2.view.read (Elt F) X2) 0)) := by
  rw [rQ_eq arg2 X2 ![0, 0] inb_S1024x512_S128x512_0_0 0 rfl]
  funext c
  match c with
  | 0 => exact congrArg (fun z => slab (sc z _)) (rK_eq _ _ _ _ _ hk 0 0 (k0_off1_eq k))
  | 1 => exact congrArg (fun z => slab (sc z _)) (rK_eq _ _ _ _ _ hk 0 1 (k0_off2_eq k))
  | 2 => exact congrArg (fun z => slab (sc z _)) (rK_eq _ _ _ _ _ hk 0 2 (k0_off3_eq k))
  | 3 => exact congrArg (fun z => slab (sc z _)) (rK_eq _ _ _ _ _ hk 0 3 (k0_off4_eq k))
  | 4 => exact congrArg (fun z => slab (sc z _)) (rK_eq _ _ _ _ _ hk 0 4 (k0_off5_eq k))
  | 5 => exact congrArg (fun z => slab (sc z _)) (rK_eq _ _ _ _ _ hk 0 5 (k0_off6_eq k))
  | 6 => exact congrArg (fun z => slab (sc z _)) (rK_eq _ _ _ _ _ hk 0 6 (k0_off7_eq k))
  | 7 => exact congrArg (fun z => slab (sc z _)) (rK_eq _ _ _ _ _ hk 0 7 (k0_off8_eq k))

theorem pm_0 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[7]? = some ⟨Rect.unit ![0, 0, 0] S1x1x512.size inb_S8x1x512_S1x1x512_0_0_0, mOut (xT (arg2.view.read (Elt F) X2) (arg3.view.read (Elt F) X3) k.val hk 0) (mW (arg8.view.read (Elt F) f8) 0)⟩ := by
  rw [piece_m0, kS_0 _ _ _ hk, rQ_eq arg2 X2 ![0, 0] inb_S1024x512_S128x512_0_0 0 rfl, rM_eq arg8 f8 ![0, 0, 0] inb_S8x1x512_S1x1x512_0_0_0 0 rfl]
  rfl

theorem pl_0 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[7]? = some ⟨Rect.unit ![0, 0, 0] S1x1x512.size inb_S8x1x512_S1x1x512_0_0_0, lOut (wT (arg2.view.read (Elt F) X2) (arg3.view.read (Elt F) X3) (arg4.view.read (Elt F) X4) k.val hk 0 (mW (arg8.view.read (Elt F) f8) 0)) (xT (arg2.view.read (Elt F) X2) (arg3.view.read (Elt F) X3) k.val hk 0) (mW (arg8.view.read (Elt F) f8) 0) (mW (arg9.view.read (Elt F) f9) 0)⟩ := by
  rw [piece_l0, tS_0 _ _ _ _ _ hk, vS_0 _ _ _ hk, kS_0 _ _ _ hk, rQ_eq arg2 X2 ![0, 0] inb_S1024x512_S128x512_0_0 0 rfl, rM_eq arg8 f8 ![0, 0, 0] inb_S8x1x512_S1x1x512_0_0_0 0 rfl, rM_eq arg9 f9 ![0, 0, 0] inb_S8x1x512_S1x1x512_0_0_0 0 rfl]
  rfl

theorem pa_0 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[7]? = some ⟨Rect.unit ![0, 0] S64x512.size inb_S512x512_S64x512_0_0, aOut (wT (arg2.view.read (Elt F) X2) (arg3.view.read (Elt F) X3) (arg4.view.read (Elt F) X4) k.val hk 0 (mW (arg8.view.read (Elt F) f8) 0)) (xT (arg2.view.read (Elt F) X2) (arg3.view.read (Elt F) X3) k.val hk 0) (mW (arg8.view.read (Elt F) f8) 0) (aW (arg10.view.read (Elt F) f10) 0)⟩ := by
  rw [piece_a0, tS_0 _ _ _ _ _ hk, vS_0 _ _ _ hk, kS_0 _ _ _ hk, rQ_eq arg2 X2 ![0, 0] inb_S1024x512_S128x512_0_0 0 rfl, rM_eq arg8 f8 ![0, 0, 0] inb_S8x1x512_S1x1x512_0_0_0 0 rfl, rA_eq arg10 f10 ![0, 0] inb_S512x512_S64x512_0_0 0 rfl]
  rfl

end Cert.KernelIdeal.Body

end
-- ==== Proof.Head1.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_1_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v855 arg2 arg3 arg11 X2 X3 k = slab (sc (rK arg3 X3 (k0_off9 k) (k0_off9_inb k)) (rQ arg2 X2 ![128, 0] inb_S1024x512_S128x512_128_0)) := by
  unfold v855
  simp (disch := decide) only [HW_arg11_9, HW_arg11_10, HW_arg11_11, HW_arg11_12, HW_arg11_13, HW_arg11_14, HW_arg11_15, HW_arg11_16, HW_arg11_17, ↓ View.readCov_skip, ↓ View.readCov_cons_toLoadRect]
  rfl

theorem slab_1_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v880 arg2 arg3 arg11 X2 X3 k = slab (sc (rK arg3 X3 (k0_off11 k) (k0_off11_inb k)) (rQ arg2 X2 ![128, 0] inb_S1024x512_S128x512_128_0)) := by
  unfold v880
  simp (disch := decide) only [HW_arg11_10, HW_arg11_11, HW_arg11_12, HW_arg11_13, HW_arg11_14, HW_arg11_15, HW_arg11_16, HW_arg11_17, HW_arg11_18, ↓ View.readCov_skip, ↓ View.readCov_cons_toLoadRect]
  rfl

theorem slab_1_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v906 arg2 arg3 arg11 X2 X3 k = slab (sc (rK arg3 X3 (k0_off13 k) (k0_off13_inb k)) (rQ arg2 X2 ![128, 0] inb_S1024x512_S128x512_128_0)) := by
  unfold v906
  simp (disch := decide) only [HW_arg11_11, HW_arg11_12, HW_arg11_13, HW_arg11_14, HW_arg11_15, HW_arg11_16, HW_arg11_17, HW_arg11_18, HW_arg11_19, ↓ View.readCov_skip, ↓ View.readCov_cons_toLoadRect]
  rfl

theorem slab_1_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v932 arg2 arg3 arg11 X2 X3 k = slab (sc (rK arg3 X3 (k0_off15 k) (k0_off15_inb k)) (rQ arg2 X2 ![128, 0] inb_S1024x512_S128x512_128_0)) := by
  unfold v932
  simp (disch := decide) only [HW_arg11_12, HW_arg11_13, HW_arg11_14, HW_arg11_15, HW_arg11_16, HW_arg11_17, HW_arg11_18, HW_arg11_19, HW_arg11_20, ↓ View.readCov_skip, ↓ View.readCov_cons_toLoadRect]
  rfl

theorem slab_1_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v958 arg2 arg3 arg11 X2 X3 k = slab (sc (rK arg3 X3 (k0_off17 k) (k0_off17_inb k)) (rQ arg2 X2 ![128, 0] inb_S1024x512_S128x512_128_0)) := by
  unfold v958
  simp (disch := decide) only [HW_arg11_13, HW_arg11_14, HW_arg11_15, HW_arg11_16, HW_arg11_17, HW_arg11_18, HW_arg11_19, HW_arg11_20, HW_arg11_21, ↓ View.readCov_skip, ↓ View.readCov_cons_toLoadRect]
  rfl

theorem slab_1_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v984 arg2 arg3 arg11 X2 X3 k = slab (sc (rK arg3 X3 (k0_off19 k) (k0_off19_inb k)) (rQ arg2 X2 ![128, 0] inb_S1024x512_S128x512_128_0)) := by
  unfold v984
  simp (disch := decide) only [HW_arg11_14, HW_arg11_15, HW_arg11_16, HW_arg11_17, HW_arg11_18, HW_arg11_19, HW_arg11_20, HW_arg11_21, HW_arg11_22, ↓ View.readCov_skip, ↓ View.readCov_cons_toLoadRect]
  rfl

theorem slab_1_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1010 arg2 arg3 arg11 X2 X3 k = slab (sc (rK arg3 X3 (k0_off21 k) (k0_off21_inb k)) (rQ arg2 X2 ![128, 0] inb_S1024x512_S128x512_128_0)) := by
  unfold v1010
  simp (disch := decide) only [HW_arg11_15, HW_arg11_16, HW_arg11_17, HW_arg11_18, HW_arg11_19, HW_arg11_20, HW_arg11_21, HW_arg11_22, HW_arg11_23, ↓ View.readCov_skip, ↓ View.readCov_cons_toLoadRect]
  rfl

theorem slab_1_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1036 arg2 arg3 arg11 X2 X3 k = slab (sc (rK arg3 X3 (k0_off23 k) (k0_off23_inb k)) (rQ arg2 X2 ![128, 0] inb_S1024x512_S128x512_128_0)) := by
  unfold v1036
  simp (disch := decide) only [HW_arg11_16, HW_arg11_17, HW_arg11_18, HW_arg11_19, HW_arg11_20, HW_arg11_21, HW_arg11_22, HW_arg11_23, HW_arg11_24, ↓ View.readCov_skip, ↓ View.readCov_cons_toLoadRect]
  rfl

theorem mx_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_26 arg2 arg3 X2 X3 k = mx (fun n => sc ((![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) n) (rQ arg2 X2 ![128, 0] inb_S1024x512_S128x512_128_0)) := by
  rfl

theorem piece_m1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[6]? = some ⟨Rect.unit ![1, 0, 0] S1x1x512.size inb_S8x1x512_S1x1x512_1_0_0, mOut (mx (fun n => sc ((![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) n) (rQ arg2 X2 ![128, 0] inb_S1024x512_S128x512_128_0))) (rM arg8 f8 ![1, 0, 0] inb_S8x1x512_S1x1x512_1_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_1, slab_1_0, slab_1_1, slab_1_2, slab_1_3, slab_1_4, slab_1_5, slab_1_6, slab_1_7]
  generalize mx (F := F) _ = x
  rfl

theorem piece_l1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[6]? = some ⟨Rect.unit ![1, 0, 0] S1x1x512.size inb_S8x1x512_S1x1x512_1_0_0, lOut (pv (ones (F := F)) (![slab (sc (rK arg3 X3 (k0_off9 k) (k0_off9_inb k)) (rQ arg2 X2 ![128, 0] inb_S1024x512_S128x512_128_0)), slab (sc (rK arg3 X3 (k0_off11 k) (k0_off11_inb k)) (rQ arg2 X2 ![128, 0] inb_S1024x512_S128x512_128_0)), slab (sc (rK arg3 X3 (k0_off13 k) (k0_off13_inb k)) (rQ arg2 X2 ![128, 0] inb_S1024x512_S128x512_128_0)), slab (sc (rK arg3 X3 (k0_off15 k) (k0_off15_inb k)) (rQ arg2 X2 ![128, 0] inb_S1024x512_S128x512_128_0)), slab (sc (rK arg3 X3 (k0_off17 k) (k0_off17_inb k)) (rQ arg2 X2 ![128, 0] inb_S1024x512_S128x512_128_0)), slab (sc (rK arg3 X3 (k0_off19 k) (k0_off19_inb k)) (rQ arg2 X2 ![128, 0] inb_S1024x512_S128x512_128_0)), slab (sc (rK arg3 X3 (k0_off21 k) (k0_off21_inb k)) (rQ arg2 X2 ![128, 0] inb_S1024x512_S128x512_128_0)), slab (sc (rK arg3 X3 (k0_off23 k) (k0_off23_inb k)) (rQ arg2 X2 ![128, 0] inb_S1024x512_S128x512_128_0))] : Fin 8 → FVec F S1x512x512 .f32) (![rV arg4 X4 (k0_off26 k) (k0_off26_inb k), rV arg4 X4 (k0_off28 k) (k0_off28_inb k), rV arg4 X4 (k0_off30 k) (k0_off30_inb k), rV arg4 X4 (k0_off32 k) (k0_off32_inb k), rV arg4 X4 (k0_off34 k) (k0_off34_inb k), rV arg4 X4 (k0_off36 k) (k0_off36_inb k), rV arg4 X4 (k0_off38 k) (k0_off38_inb k), rV arg4 X4 (k0_off40 k) (k0_off40_inb k)] : Fin 8 → Vec F S64x512 .bf16) (mNew (rM arg8 f8 ![1, 0, 0] inb_S8x1x512_S1x1x512_1_0_0) (mx (fun n => sc ((![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) n) (rQ arg2 X2 ![128, 0] inb_S1024x512_S128x512_128_0))))) (mx (fun n => sc ((![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) n) (rQ arg2 X2 ![128, 0] inb_S1024x512_S128x512_128_0))) (rM arg8 f8 ![1, 0, 0] inb_S8x1x512_S1x1x512_1_0_0) (rM arg9 f9 ![1, 0, 0] inb_S8x1x512_S1x1x512_1_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_1, slab_1_0, slab_1_1, slab_1_2, slab_1_3, slab_1_4, slab_1_5, slab_1_6, slab_1_7]
  generalize mx (F := F) _ = x
  rfl

theorem piece_a1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[6]? = some ⟨Rect.unit ![64, 0] S64x512.size inb_S512x512_S64x512_64_0, aOut (pv (ones (F := F)) (![slab (sc (rK arg3 X3 (k0_off9 k) (k0_off9_inb k)) (rQ arg2 X2 ![128, 0] inb_S1024x512_S128x512_128_0)), slab (sc (rK arg3 X3 (k0_off11 k) (k0_off11_inb k)) (rQ arg2 X2 ![128, 0] inb_S1024x512_S128x512_128_0)), slab (sc (rK arg3 X3 (k0_off13 k) (k0_off13_inb k)) (rQ arg2 X2 ![128, 0] inb_S1024x512_S128x512_128_0)), slab (sc (rK arg3 X3 (k0_off15 k) (k0_off15_inb k)) (rQ arg2 X2 ![128, 0] inb_S1024x512_S128x512_128_0)), slab (sc (rK arg3 X3 (k0_off17 k) (k0_off17_inb k)) (rQ arg2 X2 ![128, 0] inb_S1024x512_S128x512_128_0)), slab (sc (rK arg3 X3 (k0_off19 k) (k0_off19_inb k)) (rQ arg2 X2 ![128, 0] inb_S1024x512_S128x512_128_0)), slab (sc (rK arg3 X3 (k0_off21 k) (k0_off21_inb k)) (rQ arg2 X2 ![128, 0] inb_S1024x512_S128x512_128_0)), slab (sc (rK arg3 X3 (k0_off23 k) (k0_off23_inb k)) (rQ arg2 X2 ![128, 0] inb_S1024x512_S128x512_128_0))] : Fin 8 → FVec F S1x512x512 .f32) (![rV arg4 X4 (k0_off26 k) (k0_off26_inb k), rV arg4 X4 (k0_off28 k) (k0_off28_inb k), rV arg4 X4 (k0_off30 k) (k0_off30_inb k), rV arg4 X4 (k0_off32 k) (k0_off32_inb k), rV arg4 X4 (k0_off34 k) (k0_off34_inb k), rV arg4 X4 (k0_off36 k) (k0_off36_inb k), rV arg4 X4 (k0_off38 k) (k0_off38_inb k), rV arg4 X4 (k0_off40 k) (k0_off40_inb k)] : Fin 8 → Vec F S64x512 .bf16) (mNew (rM arg8 f8 ![1, 0, 0] inb_S8x1x512_S1x1x512_1_0_0) (mx (fun n => sc ((![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) n) (rQ arg2 X2 ![128, 0] inb_S1024x512_S128x512_128_0))))) (mx (fun n => sc ((![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) n) (rQ arg2 X2 ![128, 0] inb_S1024x512_S128x512_128_0))) (rM arg8 f8 ![1, 0, 0] inb_S8x1x512_S1x1x512_1_0_0) (rA arg10 f10 ![64, 0] inb_S512x512_S64x512_64_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_1, slab_1_0, slab_1_1, slab_1_2, slab_1_3, slab_1_4, slab_1_5, slab_1_6, slab_1_7]
  generalize mx (F := F) _ = x
  rfl

theorem kS_1 (arg3 : Memref sig .tc .vmem S8192x1024 .bf16) (X3 : BufTy.Contents (Elt F) arg3.view.ty) (k : Fin k0_t1_loop.trips) (hk : k.val < 2) :
    (![rK arg3 X3 (k0_off9 k) (k0_off9_inb k), rK arg3 X3 (k0_off11 k) (k0_off11_inb k), rK arg3 X3 (k0_off13 k) (k0_off13_inb k), rK arg3 X3 (k0_off15 k) (k0_off15_inb k), rK arg3 X3 (k0_off17 k) (k0_off17_inb k), rK arg3 X3 (k0_off19 k) (k0_off19_inb k), rK arg3 X3 (k0_off21 k) (k0_off21_inb k), rK arg3 X3 (k0_off23 k) (k0_off23_inb k)] : Fin 8 → Vec F S512x128 .bf16) = fun c => kW (arg3.view.read (Elt F) X3) k.val hk 1 c := by
  funext c
  match c with
  | 0 => exact rK_eq _ _ _ _ _ hk 1 0 (k0_off9_eq k)
  | 1 => exact rK_eq _ _ _ _ _ hk 1 1 (k0_off11_eq k)
  | 2 => exact rK_eq _ _ _ _ _ hk 1 2 (k0_off13_eq k)
  | 3 => exact rK_eq _ _ _ _ _ hk 1 3 (k0_off15_eq k)
  | 4 => exact rK_eq _ _ _ _ _ hk 1 4 (k0_off17_eq k)
  | 5 => exact rK_eq _ _ _ _ _ hk 1 5 (k0_off19_eq k)
  | 6 => exact rK_eq _ _ _ _ _ hk 1 6 (k0_off21_eq k)
  | 7 => exact rK_eq _ _ _ _ _ hk 1 7 (k0_off23_eq k)

theorem vS_1 (arg4 : Memref sig .tc .vmem S512x8192 .bf16) (X4 : BufTy.Contents (Elt F) arg4.view.ty) (k : Fin k0_t1_loop.trips) (hk : k.val < 2) :
    (![rV arg4 X4 (k0_off26 k) (k0_off26_inb k), rV arg4 X4 (k0_off28 k) (k0_off28_inb k), rV arg4 X4 (k0_off30 k) (k0_off30_inb k), rV arg4 X4 (k0_off32 k) (k0_off32_inb k), rV arg4 X4 (k0_off34 k) (k0_off34_inb k), rV arg4 X4 (k0_off36 k) (k0_off36_inb k), rV arg4 X4 (k0_off38 k) (k0_off38_inb k), rV arg4 X4 (k0_off40 k) (k0_off40_inb k)] : Fin 8 → Vec F S64x512 .bf16) = fun c => vW (arg4.view.read (Elt F) X4) k.val hk 1 c := by
  funext c
  match c with
  | 0 => exact rV_eq _ _ _ _ _ hk 1 0 (k0_off26_eq k)
  | 1 => exact rV_eq _ _ _ _ _ hk 1 1 (k0_off28_eq k)
  | 2 => exact rV_eq _ _ _ _ _ hk 1 2 (k0_off30_eq k)
  | 3 => exact rV_eq _ _ _ _ _ hk 1 3 (k0_off32_eq k)
  | 4 => exact rV_eq _ _ _ _ _ hk 1 4 (k0_off34_eq k)
  | 5 => exact rV_eq _ _ _ _ _ hk 1 5 (k0_off36_eq k)
  | 6 => exact rV_eq _ _ _ _ _ hk 1 6 (k0_off38_eq k)
  | 7 => exact rV_eq _ _ _ _ _ hk 1 7 (k0_off40_eq k)

theorem tS_1 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off9 k) (k0_off9_inb k)) (rQ arg2 X2 ![128, 0] inb_S1024x512_S128x512_128_0)), slab (sc (rK arg3 X3 (k0_off11 k) (k0_off11_inb k)) (rQ arg2 X2 ![128, 0] inb_S1024x512_S128x512_128_0)), slab (sc (rK arg3 X3 (k0_off13 k) (k0_off13_inb k)) (rQ arg2 X2 ![128, 0] inb_S1024x512_S128x512_128_0)), slab (sc (rK arg3 X3 (k0_off15 k) (k0_off15_inb k)) (rQ arg2 X2 ![128, 0] inb_S1024x512_S128x512_128_0)), slab (sc (rK arg3 X3 (k0_off17 k) (k0_off17_inb k)) (rQ arg2 X2 ![128, 0] inb_S1024x512_S128x512_128_0)), slab (sc (rK arg3 X3 (k0_off19 k) (k0_off19_inb k)) (rQ arg2 X2 ![128, 0] inb_S1024x512_S128x512_128_0)), slab (sc (rK arg3 X3 (k0_off21 k) (k0_off21_inb k)) (rQ arg2 X2 ![128, 0] inb_S1024x512_S128x512_128_0)), slab (sc (rK arg3 X3 (k0_off23 k) (k0_off23_inb k)) (rQ arg2 X2 ![128, 0] inb_S1024x512_S128x512_128_0))] : Fin 8 → FVec F S1x512x512 .f32) = fun c => slab (sc (kW (arg3.view.read (Elt F) X3) k.val hk 1 c) (qW (arg2.view.read (Elt F) X2) 1)) := by
  rw [rQ_eq arg2 X2 ![128, 0] inb_S1024x512_S128x512_128_0 1 rfl]
  funext c
  match c with
  | 0 => exact congrArg (fun z => slab (sc z _)) (rK_eq _ _ _ _ _ hk 1 0 (k0_off9_eq k))
  | 1 => exact congrArg (fun z => slab (sc z _)) (rK_eq _ _ _ _ _ hk 1 1 (k0_off11_eq k))
  | 2 => exact congrArg (fun z => slab (sc z _)) (rK_eq _ _ _ _ _ hk 1 2 (k0_off13_eq k))
  | 3 => exact congrArg (fun z => slab (sc z _)) (rK_eq _ _ _ _ _ hk 1 3 (k0_off15_eq k))
  | 4 => exact congrArg (fun z => slab (sc z _)) (rK_eq _ _ _ _ _ hk 1 4 (k0_off17_eq k))
  | 5 => exact congrArg (fun z => slab (sc z _)) (rK_eq _ _ _ _ _ hk 1 5 (k0_off19_eq k))
  | 6 => exact congrArg (fun z => slab (sc z _)) (rK_eq _ _ _ _ _ hk 1 6 (k0_off21_eq k))
  | 7 => exact congrArg (fun z => slab (sc z _)) (rK_eq _ _ _ _ _ hk 1 7 (k0_off23_eq k))

theorem pm_1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[6]? = some ⟨Rect.unit ![1, 0, 0] S1x1x512.size inb_S8x1x512_S1x1x512_1_0_0, mOut (xT (arg2.view.read (Elt F) X2) (arg3.view.read (Elt F) X3) k.val hk 1) (mW (arg8.view.read (Elt F) f8) 1)⟩ := by
  rw [piece_m1, kS_1 _ _ _ hk, rQ_eq arg2 X2 ![128, 0] inb_S1024x512_S128x512_128_0 1 rfl, rM_eq arg8 f8 ![1, 0, 0] inb_S8x1x512_S1x1x512_1_0_0 1 rfl]
  rfl

theorem pl_1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[6]? = some ⟨Rect.unit ![1, 0, 0] S1x1x512.size inb_S8x1x512_S1x1x512_1_0_0, lOut (wT (arg2.view.read (Elt F) X2) (arg3.view.read (Elt F) X3) (arg4.view.read (Elt F) X4) k.val hk 1 (mW (arg8.view.read (Elt F) f8) 1)) (xT (arg2.view.read (Elt F) X2) (arg3.view.read (Elt F) X3) k.val hk 1) (mW (arg8.view.read (Elt F) f8) 1) (mW (arg9.view.read (Elt F) f9) 1)⟩ := by
  rw [piece_l1, tS_1 _ _ _ _ _ hk, vS_1 _ _ _ hk, kS_1 _ _ _ hk, rQ_eq arg2 X2 ![128, 0] inb_S1024x512_S128x512_128_0 1 rfl, rM_eq arg8 f8 ![1, 0, 0] inb_S8x1x512_S1x1x512_1_0_0 1 rfl, rM_eq arg9 f9 ![1, 0, 0] inb_S8x1x512_S1x1x512_1_0_0 1 rfl]
  rfl

theorem pa_1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[6]? = some ⟨Rect.unit ![64, 0] S64x512.size inb_S512x512_S64x512_64_0, aOut (wT (arg2.view.read (Elt F) X2) (arg3.view.read (Elt F) X3) (arg4.view.read (Elt F) X4) k.val hk 1 (mW (arg8.view.read (Elt F) f8) 1)) (xT (arg2.view.read (Elt F) X2) (arg3.view.read (Elt F) X3) k.val hk 1) (mW (arg8.view.read (Elt F) f8) 1) (aW (arg10.view.read (Elt F) f10) 1)⟩ := by
  rw [piece_a1, tS_1 _ _ _ _ _ hk, vS_1 _ _ _ hk, kS_1 _ _ _ hk, rQ_eq arg2 X2 ![128, 0] inb_S1024x512_S128x512_128_0 1 rfl, rM_eq arg8 f8 ![1, 0, 0] inb_S8x1x512_S1x1x512_1_0_0 1 rfl, rA_eq arg10 f10 ![64, 0] inb_S512x512_S64x512_64_0 1 rfl]
  rfl

end Cert.KernelIdeal.Body

end
-- ==== Proof.Head2.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_2_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1085 arg2 arg3 arg11 X2 X3 k = slab (sc (rK arg3 X3 (k0_off25 k) (k0_off25_inb k)) (rQ arg2 X2 ![256, 0] inb_S1024x512_S128x512_256_0)) := by
  unfold v1085
  simp (disch := decide) only [HW_arg11_17, HW_arg11_18, HW_arg11_19, HW_arg11_20, HW_arg11_21, HW_arg11_22, HW_arg11_23, HW_arg11_24, HW_arg11_25, ↓ View.readCov_skip, ↓ View.readCov_cons_toLoadRect]
  rfl

theorem slab_2_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1110 arg2 arg3 arg11 X2 X3 k = slab (sc (rK arg3 X3 (k0_off27 k) (k0_off27_inb k)) (rQ arg2 X2 ![256, 0] inb_S1024x512_S128x512_256_0)) := by
  unfold v1110
  simp (disch := decide) only [HW_arg11_18, HW_arg11_19, HW_arg11_20, HW_arg11_21, HW_arg11_22, HW_arg11_23, HW_arg11_24, HW_arg11_25, HW_arg11_26, ↓ View.readCov_skip, ↓ View.readCov_cons_toLoadRect]
  rfl

theorem slab_2_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1136 arg2 arg3 arg11 X2 X3 k = slab (sc (rK arg3 X3 (k0_off29 k) (k0_off29_inb k)) (rQ arg2 X2 ![256, 0] inb_S1024x512_S128x512_256_0)) := by
  unfold v1136
  simp (disch := decide) only [HW_arg11_19, HW_arg11_20, HW_arg11_21, HW_arg11_22, HW_arg11_23, HW_arg11_24, HW_arg11_25, HW_arg11_26, HW_arg11_27, ↓ View.readCov_skip, ↓ View.readCov_cons_toLoadRect]
  rfl

theorem slab_2_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1162 arg2 arg3 arg11 X2 X3 k = slab (sc (rK arg3 X3 (k0_off31 k) (k0_off31_inb k)) (rQ arg2 X2 ![256, 0] inb_S1024x512_S128x512_256_0)) := by
  unfold v1162
  simp (disch := decide) only [HW_arg11_20, HW_arg11_21, HW_arg11_22, HW_arg11_23, HW_arg11_24, HW_arg11_25, HW_arg11_26, HW_arg11_27, HW_arg11_28, ↓ View.readCov_skip, ↓ View.readCov_cons_toLoadRect]
  rfl

theorem slab_2_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1188 arg2 arg3 arg11 X2 X3 k = slab (sc (rK arg3 X3 (k0_off33 k) (k0_off33_inb k)) (rQ arg2 X2 ![256, 0] inb_S1024x512_S128x512_256_0)) := by
  unfold v1188
  simp (disch := decide) only [HW_arg11_21, HW_arg11_22, HW_arg11_23, HW_arg11_24, HW_arg11_25, HW_arg11_26, HW_arg11_27, HW_arg11_28, HW_arg11_29, ↓ View.readCov_skip, ↓ View.readCov_cons_toLoadRect]
  rfl

theorem slab_2_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1214 arg2 arg3 arg11 X2 X3 k = slab (sc (rK arg3 X3 (k0_off35 k) (k0_off35_inb k)) (rQ arg2 X2 ![256, 0] inb_S1024x512_S128x512_256_0)) := by
  unfold v1214
  simp (disch := decide) only [HW_arg11_22, HW_arg11_23, HW_arg11_24, HW_arg11_25, HW_arg11_26, HW_arg11_27, HW_arg11_28, HW_arg11_29, HW_arg11_30, ↓ View.readCov_skip, ↓ View.readCov_cons_toLoadRect]
  rfl

theorem slab_2_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1240 arg2 arg3 arg11 X2 X3 k = slab (sc (rK arg3 X3 (k0_off37 k) (k0_off37_inb k)) (rQ arg2 X2 ![256, 0] inb_S1024x512_S128x512_256_0)) := by
  unfold v1240
  simp (disch := decide) only [HW_arg11_23, HW_arg11_24, HW_arg11_25, HW_arg11_26, HW_arg11_27, HW_arg11_28, HW_arg11_29, HW_arg11_30, HW_arg11_31, ↓ View.readCov_skip, ↓ View.readCov_cons_toLoadRect]
  rfl

theorem slab_2_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1266 arg2 arg3 arg11 X2 X3 k = slab (sc (rK arg3 X3 (k0_off39 k) (k0_off39_inb k)) (rQ arg2 X2 ![256, 0] inb_S1024x512_S128x512_256_0)) := by
  unfold v1266
  simp (disch := decide) only [HW_arg11_24, HW_arg11_25, HW_arg11_26, HW_arg11_27, HW_arg11_28, HW_arg11_29, HW_arg11_30, HW_arg11_31, HW_arg11_32, ↓ View.readCov_skip, ↓ View.readCov_cons_toLoadRect]
  rfl

theorem mx_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_47 arg2 arg3 X2 X3 k = mx (fun n => sc ((![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) n) (rQ arg2 X2 ![256, 0] inb_S1024x512_S128x512_256_0)) := by
  rfl

theorem piece_m2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[5]? = some ⟨Rect.unit ![2, 0, 0] S1x1x512.size inb_S8x1x512_S1x1x512_2_0_0, mOut (mx (fun n => sc ((![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) n) (rQ arg2 X2 ![256, 0] inb_S1024x512_S128x512_256_0))) (rM arg8 f8 ![2, 0, 0] inb_S8x1x512_S1x1x512_2_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_2, slab_2_0, slab_2_1, slab_2_2, slab_2_3, slab_2_4, slab_2_5, slab_2_6, slab_2_7]
  generalize mx (F := F) _ = x
  rfl

theorem piece_l2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[5]? = some ⟨Rect.unit ![2, 0, 0] S1x1x512.size inb_S8x1x512_S1x1x512_2_0_0, lOut (pv (ones (F := F)) (![slab (sc (rK arg3 X3 (k0_off25 k) (k0_off25_inb k)) (rQ arg2 X2 ![256, 0] inb_S1024x512_S128x512_256_0)), slab (sc (rK arg3 X3 (k0_off27 k) (k0_off27_inb k)) (rQ arg2 X2 ![256, 0] inb_S1024x512_S128x512_256_0)), slab (sc (rK arg3 X3 (k0_off29 k) (k0_off29_inb k)) (rQ arg2 X2 ![256, 0] inb_S1024x512_S128x512_256_0)), slab (sc (rK arg3 X3 (k0_off31 k) (k0_off31_inb k)) (rQ arg2 X2 ![256, 0] inb_S1024x512_S128x512_256_0)), slab (sc (rK arg3 X3 (k0_off33 k) (k0_off33_inb k)) (rQ arg2 X2 ![256, 0] inb_S1024x512_S128x512_256_0)), slab (sc (rK arg3 X3 (k0_off35 k) (k0_off35_inb k)) (rQ arg2 X2 ![256, 0] inb_S1024x512_S128x512_256_0)), slab (sc (rK arg3 X3 (k0_off37 k) (k0_off37_inb k)) (rQ arg2 X2 ![256, 0] inb_S1024x512_S128x512_256_0)), slab (sc (rK arg3 X3 (k0_off39 k) (k0_off39_inb k)) (rQ arg2 X2 ![256, 0] inb_S1024x512_S128x512_256_0))] : Fin 8 → FVec F S1x512x512 .f32) (![rV arg4 X4 (k0_off42 k) (k0_off42_inb k), rV arg4 X4 (k0_off44 k) (k0_off44_inb k), rV arg4 X4 (k0_off46 k) (k0_off46_inb k), rV arg4 X4 (k0_off48 k) (k0_off48_inb k), rV arg4 X4 (k0_off50 k) (k0_off50_inb k), rV arg4 X4 (k0_off52 k) (k0_off52_inb k), rV arg4 X4 (k0_off54 k) (k0_off54_inb k), rV arg4 X4 (k0_off56 k) (k0_off56_inb k)] : Fin 8 → Vec F S64x512 .bf16) (mNew (rM arg8 f8 ![2, 0, 0] inb_S8x1x512_S1x1x512_2_0_0) (mx (fun n => sc ((![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) n) (rQ arg2 X2 ![256, 0] inb_S1024x512_S128x512_256_0))))) (mx (fun n => sc ((![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) n) (rQ arg2 X2 ![256, 0] inb_S1024x512_S128x512_256_0))) (rM arg8 f8 ![2, 0, 0] inb_S8x1x512_S1x1x512_2_0_0) (rM arg9 f9 ![2, 0, 0] inb_S8x1x512_S1x1x512_2_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_2, slab_2_0, slab_2_1, slab_2_2, slab_2_3, slab_2_4, slab_2_5, slab_2_6, slab_2_7]
  generalize mx (F := F) _ = x
  rfl

theorem piece_a2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[5]? = some ⟨Rect.unit ![128, 0] S64x512.size inb_S512x512_S64x512_128_0, aOut (pv (ones (F := F)) (![slab (sc (rK arg3 X3 (k0_off25 k) (k0_off25_inb k)) (rQ arg2 X2 ![256, 0] inb_S1024x512_S128x512_256_0)), slab (sc (rK arg3 X3 (k0_off27 k) (k0_off27_inb k)) (rQ arg2 X2 ![256, 0] inb_S1024x512_S128x512_256_0)), slab (sc (rK arg3 X3 (k0_off29 k) (k0_off29_inb k)) (rQ arg2 X2 ![256, 0] inb_S1024x512_S128x512_256_0)), slab (sc (rK arg3 X3 (k0_off31 k) (k0_off31_inb k)) (rQ arg2 X2 ![256, 0] inb_S1024x512_S128x512_256_0)), slab (sc (rK arg3 X3 (k0_off33 k) (k0_off33_inb k)) (rQ arg2 X2 ![256, 0] inb_S1024x512_S128x512_256_0)), slab (sc (rK arg3 X3 (k0_off35 k) (k0_off35_inb k)) (rQ arg2 X2 ![256, 0] inb_S1024x512_S128x512_256_0)), slab (sc (rK arg3 X3 (k0_off37 k) (k0_off37_inb k)) (rQ arg2 X2 ![256, 0] inb_S1024x512_S128x512_256_0)), slab (sc (rK arg3 X3 (k0_off39 k) (k0_off39_inb k)) (rQ arg2 X2 ![256, 0] inb_S1024x512_S128x512_256_0))] : Fin 8 → FVec F S1x512x512 .f32) (![rV arg4 X4 (k0_off42 k) (k0_off42_inb k), rV arg4 X4 (k0_off44 k) (k0_off44_inb k), rV arg4 X4 (k0_off46 k) (k0_off46_inb k), rV arg4 X4 (k0_off48 k) (k0_off48_inb k), rV arg4 X4 (k0_off50 k) (k0_off50_inb k), rV arg4 X4 (k0_off52 k) (k0_off52_inb k), rV arg4 X4 (k0_off54 k) (k0_off54_inb k), rV arg4 X4 (k0_off56 k) (k0_off56_inb k)] : Fin 8 → Vec F S64x512 .bf16) (mNew (rM arg8 f8 ![2, 0, 0] inb_S8x1x512_S1x1x512_2_0_0) (mx (fun n => sc ((![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) n) (rQ arg2 X2 ![256, 0] inb_S1024x512_S128x512_256_0))))) (mx (fun n => sc ((![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) n) (rQ arg2 X2 ![256, 0] inb_S1024x512_S128x512_256_0))) (rM arg8 f8 ![2, 0, 0] inb_S8x1x512_S1x1x512_2_0_0) (rA arg10 f10 ![128, 0] inb_S512x512_S64x512_128_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_2, slab_2_0, slab_2_1, slab_2_2, slab_2_3, slab_2_4, slab_2_5, slab_2_6, slab_2_7]
  generalize mx (F := F) _ = x
  rfl

theorem kS_2 (arg3 : Memref sig .tc .vmem S8192x1024 .bf16) (X3 : BufTy.Contents (Elt F) arg3.view.ty) (k : Fin k0_t1_loop.trips) (hk : k.val < 2) :
    (![rK arg3 X3 (k0_off25 k) (k0_off25_inb k), rK arg3 X3 (k0_off27 k) (k0_off27_inb k), rK arg3 X3 (k0_off29 k) (k0_off29_inb k), rK arg3 X3 (k0_off31 k) (k0_off31_inb k), rK arg3 X3 (k0_off33 k) (k0_off33_inb k), rK arg3 X3 (k0_off35 k) (k0_off35_inb k), rK arg3 X3 (k0_off37 k) (k0_off37_inb k), rK arg3 X3 (k0_off39 k) (k0_off39_inb k)] : Fin 8 → Vec F S512x128 .bf16) = fun c => kW (arg3.view.read (Elt F) X3) k.val hk 2 c := by
  funext c
  match c with
  | 0 => exact rK_eq _ _ _ _ _ hk 2 0 (k0_off25_eq k)
  | 1 => exact rK_eq _ _ _ _ _ hk 2 1 (k0_off27_eq k)
  | 2 => exact rK_eq _ _ _ _ _ hk 2 2 (k0_off29_eq k)
  | 3 => exact rK_eq _ _ _ _ _ hk 2 3 (k0_off31_eq k)
  | 4 => exact rK_eq _ _ _ _ _ hk 2 4 (k0_off33_eq k)
  | 5 => exact rK_eq _ _ _ _ _ hk 2 5 (k0_off35_eq k)
  | 6 => exact rK_eq _ _ _ _ _ hk 2 6 (k0_off37_eq k)
  | 7 => exact rK_eq _ _ _ _ _ hk 2 7 (k0_off39_eq k)

theorem vS_2 (arg4 : Memref sig .tc .vmem S512x8192 .bf16) (X4 : BufTy.Contents (Elt F) arg4.view.ty) (k : Fin k0_t1_loop.trips) (hk : k.val < 2) :
    (![rV arg4 X4 (k0_off42 k) (k0_off42_inb k), rV arg4 X4 (k0_off44 k) (k0_off44_inb k), rV arg4 X4 (k0_off46 k) (k0_off46_inb k), rV arg4 X4 (k0_off48 k) (k0_off48_inb k), rV arg4 X4 (k0_off50 k) (k0_off50_inb k), rV arg4 X4 (k0_off52 k) (k0_off52_inb k), rV arg4 X4 (k0_off54 k) (k0_off54_inb k), rV arg4 X4 (k0_off56 k) (k0_off56_inb k)] : Fin 8 → Vec F S64x512 .bf16) = fun c => vW (arg4.view.read (Elt F) X4) k.val hk 2 c := by
  funext c
  match c with
  | 0 => exact rV_eq _ _ _ _ _ hk 2 0 (k0_off42_eq k)
  | 1 => exact rV_eq _ _ _ _ _ hk 2 1 (k0_off44_eq k)
  | 2 => exact rV_eq _ _ _ _ _ hk 2 2 (k0_off46_eq k)
  | 3 => exact rV_eq _ _ _ _ _ hk 2 3 (k0_off48_eq k)
  | 4 => exact rV_eq _ _ _ _ _ hk 2 4 (k0_off50_eq k)
  | 5 => exact rV_eq _ _ _ _ _ hk 2 5 (k0_off52_eq k)
  | 6 => exact rV_eq _ _ _ _ _ hk 2 6 (k0_off54_eq k)
  | 7 => exact rV_eq _ _ _ _ _ hk 2 7 (k0_off56_eq k)

theorem tS_2 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off25 k) (k0_off25_inb k)) (rQ arg2 X2 ![256, 0] inb_S1024x512_S128x512_256_0)), slab (sc (rK arg3 X3 (k0_off27 k) (k0_off27_inb k)) (rQ arg2 X2 ![256, 0] inb_S1024x512_S128x512_256_0)), slab (sc (rK arg3 X3 (k0_off29 k) (k0_off29_inb k)) (rQ arg2 X2 ![256, 0] inb_S1024x512_S128x512_256_0)), slab (sc (rK arg3 X3 (k0_off31 k) (k0_off31_inb k)) (rQ arg2 X2 ![256, 0] inb_S1024x512_S128x512_256_0)), slab (sc (rK arg3 X3 (k0_off33 k) (k0_off33_inb k)) (rQ arg2 X2 ![256, 0] inb_S1024x512_S128x512_256_0)), slab (sc (rK arg3 X3 (k0_off35 k) (k0_off35_inb k)) (rQ arg2 X2 ![256, 0] inb_S1024x512_S128x512_256_0)), slab (sc (rK arg3 X3 (k0_off37 k) (k0_off37_inb k)) (rQ arg2 X2 ![256, 0] inb_S1024x512_S128x512_256_0)), slab (sc (rK arg3 X3 (k0_off39 k) (k0_off39_inb k)) (rQ arg2 X2 ![256, 0] inb_S1024x512_S128x512_256_0))] : Fin 8 → FVec F S1x512x512 .f32) = fun c => slab (sc (kW (arg3.view.read (Elt F) X3) k.val hk 2 c) (qW (arg2.view.read (Elt F) X2) 2)) := by
  rw [rQ_eq arg2 X2 ![256, 0] inb_S1024x512_S128x512_256_0 2 rfl]
  funext c
  match c with
  | 0 => exact congrArg (fun z => slab (sc z _)) (rK_eq _ _ _ _ _ hk 2 0 (k0_off25_eq k))
  | 1 => exact congrArg (fun z => slab (sc z _)) (rK_eq _ _ _ _ _ hk 2 1 (k0_off27_eq k))
  | 2 => exact congrArg (fun z => slab (sc z _)) (rK_eq _ _ _ _ _ hk 2 2 (k0_off29_eq k))
  | 3 => exact congrArg (fun z => slab (sc z _)) (rK_eq _ _ _ _ _ hk 2 3 (k0_off31_eq k))
  | 4 => exact congrArg (fun z => slab (sc z _)) (rK_eq _ _ _ _ _ hk 2 4 (k0_off33_eq k))
  | 5 => exact congrArg (fun z => slab (sc z _)) (rK_eq _ _ _ _ _ hk 2 5 (k0_off35_eq k))
  | 6 => exact congrArg (fun z => slab (sc z _)) (rK_eq _ _ _ _ _ hk 2 6 (k0_off37_eq k))
  | 7 => exact congrArg (fun z => slab (sc z _)) (rK_eq _ _ _ _ _ hk 2 7 (k0_off39_eq k))

theorem pm_2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[5]? = some ⟨Rect.unit ![2, 0, 0] S1x1x512.size inb_S8x1x512_S1x1x512_2_0_0, mOut (xT (arg2.view.read (Elt F) X2) (arg3.view.read (Elt F) X3) k.val hk 2) (mW (arg8.view.read (Elt F) f8) 2)⟩ := by
  rw [piece_m2, kS_2 _ _ _ hk, rQ_eq arg2 X2 ![256, 0] inb_S1024x512_S128x512_256_0 2 rfl, rM_eq arg8 f8 ![2, 0, 0] inb_S8x1x512_S1x1x512_2_0_0 2 rfl]
  rfl

theorem pl_2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[5]? = some ⟨Rect.unit ![2, 0, 0] S1x1x512.size inb_S8x1x512_S1x1x512_2_0_0, lOut (wT (arg2.view.read (Elt F) X2) (arg3.view.read (Elt F) X3) (arg4.view.read (Elt F) X4) k.val hk 2 (mW (arg8.view.read (Elt F) f8) 2)) (xT (arg2.view.read (Elt F) X2) (arg3.view.read (Elt F) X3) k.val hk 2) (mW (arg8.view.read (Elt F) f8) 2) (mW (arg9.view.read (Elt F) f9) 2)⟩ := by
  rw [piece_l2, tS_2 _ _ _ _ _ hk, vS_2 _ _ _ hk, kS_2 _ _ _ hk, rQ_eq arg2 X2 ![256, 0] inb_S1024x512_S128x512_256_0 2 rfl, rM_eq arg8 f8 ![2, 0, 0] inb_S8x1x512_S1x1x512_2_0_0 2 rfl, rM_eq arg9 f9 ![2, 0, 0] inb_S8x1x512_S1x1x512_2_0_0 2 rfl]
  rfl

theorem pa_2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[5]? = some ⟨Rect.unit ![128, 0] S64x512.size inb_S512x512_S64x512_128_0, aOut (wT (arg2.view.read (Elt F) X2) (arg3.view.read (Elt F) X3) (arg4.view.read (Elt F) X4) k.val hk 2 (mW (arg8.view.read (Elt F) f8) 2)) (xT (arg2.view.read (Elt F) X2) (arg3.view.read (Elt F) X3) k.val hk 2) (mW (arg8.view.read (Elt F) f8) 2) (aW (arg10.view.read (Elt F) f10) 2)⟩ := by
  rw [piece_a2, tS_2 _ _ _ _ _ hk, vS_2 _ _ _ hk, kS_2 _ _ _ hk, rQ_eq arg2 X2 ![256, 0] inb_S1024x512_S128x512_256_0 2 rfl, rM_eq arg8 f8 ![2, 0, 0] inb_S8x1x512_S1x1x512_2_0_0 2 rfl, rA_eq arg10 f10 ![128, 0] inb_S512x512_S64x512_128_0 2 rfl]
  rfl

end Cert.KernelIdeal.Body

end
-- ==== Proof.Head3.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_3_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1315 arg2 arg3 arg11 X2 X3 k = slab (sc (rK arg3 X3 (k0_off41 k) (k0_off41_inb k)) (rQ arg2 X2 ![384, 0] inb_S1024x512_S128x512_384_0)) := by
  unfold v1315
  simp (disch := decide) only [HW_arg11_25, HW_arg11_26, HW_arg11_27, HW_arg11_28, HW_arg11_29, HW_arg11_30, HW_arg11_31, HW_arg11_32, HW_arg11_33, ↓ View.readCov_skip, ↓ View.readCov_cons_toLoadRect]
  rfl

theorem slab_3_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1340 arg2 arg3 arg11 X2 X3 k = slab (sc (rK arg3 X3 (k0_off43 k) (k0_off43_inb k)) (rQ arg2 X2 ![384, 0] inb_S1024x512_S128x512_384_0)) := by
  unfold v1340
  simp (disch := decide) only [HW_arg11_26, HW_arg11_27, HW_arg11_28, HW_arg11_29, HW_arg11_30, HW_arg11_31, HW_arg11_32, HW_arg11_33, HW_arg11_34, ↓ View.readCov_skip, ↓ View.readCov_cons_toLoadRect]
  rfl

theorem slab_3_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1366 arg2 arg3 arg11 X2 X3 k = slab (sc (rK arg3 X3 (k0_off45 k) (k0_off45_inb k)) (rQ arg2 X2 ![384, 0] inb_S1024x512_S128x512_384_0)) := by
  unfold v1366
  simp (disch := decide) only [HW_arg11_27, HW_arg11_28, HW_arg11_29, HW_arg11_30, HW_arg11_31, HW_arg11_32, HW_arg11_33, HW_arg11_34, HW_arg11_35, ↓ View.readCov_skip, ↓ View.readCov_cons_toLoadRect]
  rfl

theorem slab_3_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1392 arg2 arg3 arg11 X2 X3 k = slab (sc (rK arg3 X3 (k0_off47 k) (k0_off47_inb k)) (rQ arg2 X2 ![384, 0] inb_S1024x512_S128x512_384_0)) := by
  unfold v1392
  simp (disch := decide) only [HW_arg11_28, HW_arg11_29, HW_arg11_30, HW_arg11_31, HW_arg11_32, HW_arg11_33, HW_arg11_34, HW_arg11_35, HW_arg11_36, ↓ View.readCov_skip, ↓ View.readCov_cons_toLoadRect]
  rfl

theorem slab_3_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1418 arg2 arg3 arg11 X2 X3 k = slab (sc (rK arg3 X3 (k0_off49 k) (k0_off49_inb k)) (rQ arg2 X2 ![384, 0] inb_S1024x512_S128x512_384_0)) := by
  unfold v1418
  simp (disch := decide) only [HW_arg11_29, HW_arg11_30, HW_arg11_31, HW_arg11_32, HW_arg11_33, HW_arg11_34, HW_arg11_35, HW_arg11_36, HW_arg11_37, ↓ View.readCov_skip, ↓ View.readCov_cons_toLoadRect]
  rfl

theorem slab_3_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1444 arg2 arg3 arg11 X2 X3 k = slab (sc (rK arg3 X3 (k0_off51 k) (k0_off51_inb k)) (rQ arg2 X2 ![384, 0] inb_S1024x512_S128x512_384_0)) := by
  unfold v1444
  simp (disch := decide) only [HW_arg11_30, HW_arg11_31, HW_arg11_32, HW_arg11_33, HW_arg11_34, HW_arg11_35, HW_arg11_36, HW_arg11_37, HW_arg11_38, ↓ View.readCov_skip, ↓ View.readCov_cons_toLoadRect]
  rfl

theorem slab_3_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1470 arg2 arg3 arg11 X2 X3 k = slab (sc (rK arg3 X3 (k0_off53 k) (k0_off53_inb k)) (rQ arg2 X2 ![384, 0] inb_S1024x512_S128x512_384_0)) := by
  unfold v1470
  simp (disch := decide) only [HW_arg11_31, HW_arg11_32, HW_arg11_33, HW_arg11_34, HW_arg11_35, HW_arg11_36, HW_arg11_37, HW_arg11_38, HW_arg11_39, ↓ View.readCov_skip, ↓ View.readCov_cons_toLoadRect]
  rfl

theorem slab_3_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1496 arg2 arg3 arg11 X2 X3 k = slab (sc (rK arg3 X3 (k0_off55 k) (k0_off55_inb k)) (rQ arg2 X2 ![384, 0] inb_S1024x512_S128x512_384_0)) := by
  unfold v1496
  simp (disch := decide) only [HW_arg11_32, HW_arg11_33, HW_arg11_34, HW_arg11_35, HW_arg11_36, HW_arg11_37, HW_arg11_38, HW_arg11_39, HW_arg11_40, ↓ View.readCov_skip, ↓ View.readCov_cons_toLoadRect]
  rfl

theorem mx_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_68 arg2 arg3 X2 X3 k = mx (fun n => sc ((![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) n) (rQ arg2 X2 ![384, 0] inb_S1024x512_S128x512_384_0)) := by
  rfl

theorem piece_m3 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[4]? = some ⟨Rect.unit ![3, 0, 0] S1x1x512.size inb_S8x1x512_S1x1x512_3_0_0, mOut (mx (fun n => sc ((![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) n) (rQ arg2 X2 ![384, 0] inb_S1024x512_S128x512_384_0))) (rM arg8 f8 ![3, 0, 0] inb_S8x1x512_S1x1x512_3_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_3, slab_3_0, slab_3_1, slab_3_2, slab_3_3, slab_3_4, slab_3_5, slab_3_6, slab_3_7]
  generalize mx (F := F) _ = x
  rfl

theorem piece_l3 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[4]? = some ⟨Rect.unit ![3, 0, 0] S1x1x512.size inb_S8x1x512_S1x1x512_3_0_0, lOut (pv (ones (F := F)) (![slab (sc (rK arg3 X3 (k0_off41 k) (k0_off41_inb k)) (rQ arg2 X2 ![384, 0] inb_S1024x512_S128x512_384_0)), slab (sc (rK arg3 X3 (k0_off43 k) (k0_off43_inb k)) (rQ arg2 X2 ![384, 0] inb_S1024x512_S128x512_384_0)), slab (sc (rK arg3 X3 (k0_off45 k) (k0_off45_inb k)) (rQ arg2 X2 ![384, 0] inb_S1024x512_S128x512_384_0)), slab (sc (rK arg3 X3 (k0_off47 k) (k0_off47_inb k)) (rQ arg2 X2 ![384, 0] inb_S1024x512_S128x512_384_0)), slab (sc (rK arg3 X3 (k0_off49 k) (k0_off49_inb k)) (rQ arg2 X2 ![384, 0] inb_S1024x512_S128x512_384_0)), slab (sc (rK arg3 X3 (k0_off51 k) (k0_off51_inb k)) (rQ arg2 X2 ![384, 0] inb_S1024x512_S128x512_384_0)), slab (sc (rK arg3 X3 (k0_off53 k) (k0_off53_inb k)) (rQ arg2 X2 ![384, 0] inb_S1024x512_S128x512_384_0)), slab (sc (rK arg3 X3 (k0_off55 k) (k0_off55_inb k)) (rQ arg2 X2 ![384, 0] inb_S1024x512_S128x512_384_0))] : Fin 8 → FVec F S1x512x512 .f32) (![rV arg4 X4 (k0_off58 k) (k0_off58_inb k), rV arg4 X4 (k0_off60 k) (k0_off60_inb k), rV arg4 X4 (k0_off62 k) (k0_off62_inb k), rV arg4 X4 (k0_off64 k) (k0_off64_inb k), rV arg4 X4 (k0_off66 k) (k0_off66_inb k), rV arg4 X4 (k0_off68 k) (k0_off68_inb k), rV arg4 X4 (k0_off70 k) (k0_off70_inb k), rV arg4 X4 (k0_off72 k) (k0_off72_inb k)] : Fin 8 → Vec F S64x512 .bf16) (mNew (rM arg8 f8 ![3, 0, 0] inb_S8x1x512_S1x1x512_3_0_0) (mx (fun n => sc ((![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) n) (rQ arg2 X2 ![384, 0] inb_S1024x512_S128x512_384_0))))) (mx (fun n => sc ((![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) n) (rQ arg2 X2 ![384, 0] inb_S1024x512_S128x512_384_0))) (rM arg8 f8 ![3, 0, 0] inb_S8x1x512_S1x1x512_3_0_0) (rM arg9 f9 ![3, 0, 0] inb_S8x1x512_S1x1x512_3_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_3, slab_3_0, slab_3_1, slab_3_2, slab_3_3, slab_3_4, slab_3_5, slab_3_6, slab_3_7]
  generalize mx (F := F) _ = x
  rfl

theorem piece_a3 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[4]? = some ⟨Rect.unit ![192, 0] S64x512.size inb_S512x512_S64x512_192_0, aOut (pv (ones (F := F)) (![slab (sc (rK arg3 X3 (k0_off41 k) (k0_off41_inb k)) (rQ arg2 X2 ![384, 0] inb_S1024x512_S128x512_384_0)), slab (sc (rK arg3 X3 (k0_off43 k) (k0_off43_inb k)) (rQ arg2 X2 ![384, 0] inb_S1024x512_S128x512_384_0)), slab (sc (rK arg3 X3 (k0_off45 k) (k0_off45_inb k)) (rQ arg2 X2 ![384, 0] inb_S1024x512_S128x512_384_0)), slab (sc (rK arg3 X3 (k0_off47 k) (k0_off47_inb k)) (rQ arg2 X2 ![384, 0] inb_S1024x512_S128x512_384_0)), slab (sc (rK arg3 X3 (k0_off49 k) (k0_off49_inb k)) (rQ arg2 X2 ![384, 0] inb_S1024x512_S128x512_384_0)), slab (sc (rK arg3 X3 (k0_off51 k) (k0_off51_inb k)) (rQ arg2 X2 ![384, 0] inb_S1024x512_S128x512_384_0)), slab (sc (rK arg3 X3 (k0_off53 k) (k0_off53_inb k)) (rQ arg2 X2 ![384, 0] inb_S1024x512_S128x512_384_0)), slab (sc (rK arg3 X3 (k0_off55 k) (k0_off55_inb k)) (rQ arg2 X2 ![384, 0] inb_S1024x512_S128x512_384_0))] : Fin 8 → FVec F S1x512x512 .f32) (![rV arg4 X4 (k0_off58 k) (k0_off58_inb k), rV arg4 X4 (k0_off60 k) (k0_off60_inb k), rV arg4 X4 (k0_off62 k) (k0_off62_inb k), rV arg4 X4 (k0_off64 k) (k0_off64_inb k), rV arg4 X4 (k0_off66 k) (k0_off66_inb k), rV arg4 X4 (k0_off68 k) (k0_off68_inb k), rV arg4 X4 (k0_off70 k) (k0_off70_inb k), rV arg4 X4 (k0_off72 k) (k0_off72_inb k)] : Fin 8 → Vec F S64x512 .bf16) (mNew (rM arg8 f8 ![3, 0, 0] inb_S8x1x512_S1x1x512_3_0_0) (mx (fun n => sc ((![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) n) (rQ arg2 X2 ![384, 0] inb_S1024x512_S128x512_384_0))))) (mx (fun n => sc ((![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) n) (rQ arg2 X2 ![384, 0] inb_S1024x512_S128x512_384_0))) (rM arg8 f8 ![3, 0, 0] inb_S8x1x512_S1x1x512_3_0_0) (rA arg10 f10 ![192, 0] inb_S512x512_S64x512_192_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_3, slab_3_0, slab_3_1, slab_3_2, slab_3_3, slab_3_4, slab_3_5, slab_3_6, slab_3_7]
  generalize mx (F := F) _ = x
  rfl

theorem kS_3 (arg3 : Memref sig .tc .vmem S8192x1024 .bf16) (X3 : BufTy.Contents (Elt F) arg3.view.ty) (k : Fin k0_t1_loop.trips) (hk : k.val < 2) :
    (![rK arg3 X3 (k0_off41 k) (k0_off41_inb k), rK arg3 X3 (k0_off43 k) (k0_off43_inb k), rK arg3 X3 (k0_off45 k) (k0_off45_inb k), rK arg3 X3 (k0_off47 k) (k0_off47_inb k), rK arg3 X3 (k0_off49 k) (k0_off49_inb k), rK arg3 X3 (k0_off51 k) (k0_off51_inb k), rK arg3 X3 (k0_off53 k) (k0_off53_inb k), rK arg3 X3 (k0_off55 k) (k0_off55_inb k)] : Fin 8 → Vec F S512x128 .bf16) = fun c => kW (arg3.view.read (Elt F) X3) k.val hk 3 c := by
  funext c
  match c with
  | 0 => exact rK_eq _ _ _ _ _ hk 3 0 (k0_off41_eq k)
  | 1 => exact rK_eq _ _ _ _ _ hk 3 1 (k0_off43_eq k)
  | 2 => exact rK_eq _ _ _ _ _ hk 3 2 (k0_off45_eq k)
  | 3 => exact rK_eq _ _ _ _ _ hk 3 3 (k0_off47_eq k)
  | 4 => exact rK_eq _ _ _ _ _ hk 3 4 (k0_off49_eq k)
  | 5 => exact rK_eq _ _ _ _ _ hk 3 5 (k0_off51_eq k)
  | 6 => exact rK_eq _ _ _ _ _ hk 3 6 (k0_off53_eq k)
  | 7 => exact rK_eq _ _ _ _ _ hk 3 7 (k0_off55_eq k)

theorem vS_3 (arg4 : Memref sig .tc .vmem S512x8192 .bf16) (X4 : BufTy.Contents (Elt F) arg4.view.ty) (k : Fin k0_t1_loop.trips) (hk : k.val < 2) :
    (![rV arg4 X4 (k0_off58 k) (k0_off58_inb k), rV arg4 X4 (k0_off60 k) (k0_off60_inb k), rV arg4 X4 (k0_off62 k) (k0_off62_inb k), rV arg4 X4 (k0_off64 k) (k0_off64_inb k), rV arg4 X4 (k0_off66 k) (k0_off66_inb k), rV arg4 X4 (k0_off68 k) (k0_off68_inb k), rV arg4 X4 (k0_off70 k) (k0_off70_inb k), rV arg4 X4 (k0_off72 k) (k0_off72_inb k)] : Fin 8 → Vec F S64x512 .bf16) = fun c => vW (arg4.view.read (Elt F) X4) k.val hk 3 c := by
  funext c
  match c with
  | 0 => exact rV_eq _ _ _ _ _ hk 3 0 (k0_off58_eq k)
  | 1 => exact rV_eq _ _ _ _ _ hk 3 1 (k0_off60_eq k)
  | 2 => exact rV_eq _ _ _ _ _ hk 3 2 (k0_off62_eq k)
  | 3 => exact rV_eq _ _ _ _ _ hk 3 3 (k0_off64_eq k)
  | 4 => exact rV_eq _ _ _ _ _ hk 3 4 (k0_off66_eq k)
  | 5 => exact rV_eq _ _ _ _ _ hk 3 5 (k0_off68_eq k)
  | 6 => exact rV_eq _ _ _ _ _ hk 3 6 (k0_off70_eq k)
  | 7 => exact rV_eq _ _ _ _ _ hk 3 7 (k0_off72_eq k)

theorem tS_3 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off41 k) (k0_off41_inb k)) (rQ arg2 X2 ![384, 0] inb_S1024x512_S128x512_384_0)), slab (sc (rK arg3 X3 (k0_off43 k) (k0_off43_inb k)) (rQ arg2 X2 ![384, 0] inb_S1024x512_S128x512_384_0)), slab (sc (rK arg3 X3 (k0_off45 k) (k0_off45_inb k)) (rQ arg2 X2 ![384, 0] inb_S1024x512_S128x512_384_0)), slab (sc (rK arg3 X3 (k0_off47 k) (k0_off47_inb k)) (rQ arg2 X2 ![384, 0] inb_S1024x512_S128x512_384_0)), slab (sc (rK arg3 X3 (k0_off49 k) (k0_off49_inb k)) (rQ arg2 X2 ![384, 0] inb_S1024x512_S128x512_384_0)), slab (sc (rK arg3 X3 (k0_off51 k) (k0_off51_inb k)) (rQ arg2 X2 ![384, 0] inb_S1024x512_S128x512_384_0)), slab (sc (rK arg3 X3 (k0_off53 k) (k0_off53_inb k)) (rQ arg2 X2 ![384, 0] inb_S1024x512_S128x512_384_0)), slab (sc (rK arg3 X3 (k0_off55 k) (k0_off55_inb k)) (rQ arg2 X2 ![384, 0] inb_S1024x512_S128x512_384_0))] : Fin 8 → FVec F S1x512x512 .f32) = fun c => slab (sc (kW (arg3.view.read (Elt F) X3) k.val hk 3 c) (qW (arg2.view.read (Elt F) X2) 3)) := by
  rw [rQ_eq arg2 X2 ![384, 0] inb_S1024x512_S128x512_384_0 3 rfl]
  funext c
  match c with
  | 0 => exact congrArg (fun z => slab (sc z _)) (rK_eq _ _ _ _ _ hk 3 0 (k0_off41_eq k))
  | 1 => exact congrArg (fun z => slab (sc z _)) (rK_eq _ _ _ _ _ hk 3 1 (k0_off43_eq k))
  | 2 => exact congrArg (fun z => slab (sc z _)) (rK_eq _ _ _ _ _ hk 3 2 (k0_off45_eq k))
  | 3 => exact congrArg (fun z => slab (sc z _)) (rK_eq _ _ _ _ _ hk 3 3 (k0_off47_eq k))
  | 4 => exact congrArg (fun z => slab (sc z _)) (rK_eq _ _ _ _ _ hk 3 4 (k0_off49_eq k))
  | 5 => exact congrArg (fun z => slab (sc z _)) (rK_eq _ _ _ _ _ hk 3 5 (k0_off51_eq k))
  | 6 => exact congrArg (fun z => slab (sc z _)) (rK_eq _ _ _ _ _ hk 3 6 (k0_off53_eq k))
  | 7 => exact congrArg (fun z => slab (sc z _)) (rK_eq _ _ _ _ _ hk 3 7 (k0_off55_eq k))

theorem pm_3 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[4]? = some ⟨Rect.unit ![3, 0, 0] S1x1x512.size inb_S8x1x512_S1x1x512_3_0_0, mOut (xT (arg2.view.read (Elt F) X2) (arg3.view.read (Elt F) X3) k.val hk 3) (mW (arg8.view.read (Elt F) f8) 3)⟩ := by
  rw [piece_m3, kS_3 _ _ _ hk, rQ_eq arg2 X2 ![384, 0] inb_S1024x512_S128x512_384_0 3 rfl, rM_eq arg8 f8 ![3, 0, 0] inb_S8x1x512_S1x1x512_3_0_0 3 rfl]
  rfl

theorem pl_3 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[4]? = some ⟨Rect.unit ![3, 0, 0] S1x1x512.size inb_S8x1x512_S1x1x512_3_0_0, lOut (wT (arg2.view.read (Elt F) X2) (arg3.view.read (Elt F) X3) (arg4.view.read (Elt F) X4) k.val hk 3 (mW (arg8.view.read (Elt F) f8) 3)) (xT (arg2.view.read (Elt F) X2) (arg3.view.read (Elt F) X3) k.val hk 3) (mW (arg8.view.read (Elt F) f8) 3) (mW (arg9.view.read (Elt F) f9) 3)⟩ := by
  rw [piece_l3, tS_3 _ _ _ _ _ hk, vS_3 _ _ _ hk, kS_3 _ _ _ hk, rQ_eq arg2 X2 ![384, 0] inb_S1024x512_S128x512_384_0 3 rfl, rM_eq arg8 f8 ![3, 0, 0] inb_S8x1x512_S1x1x512_3_0_0 3 rfl, rM_eq arg9 f9 ![3, 0, 0] inb_S8x1x512_S1x1x512_3_0_0 3 rfl]
  rfl

theorem pa_3 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[4]? = some ⟨Rect.unit ![192, 0] S64x512.size inb_S512x512_S64x512_192_0, aOut (wT (arg2.view.read (Elt F) X2) (arg3.view.read (Elt F) X3) (arg4.view.read (Elt F) X4) k.val hk 3 (mW (arg8.view.read (Elt F) f8) 3)) (xT (arg2.view.read (Elt F) X2) (arg3.view.read (Elt F) X3) k.val hk 3) (mW (arg8.view.read (Elt F) f8) 3) (aW (arg10.view.read (Elt F) f10) 3)⟩ := by
  rw [piece_a3, tS_3 _ _ _ _ _ hk, vS_3 _ _ _ hk, kS_3 _ _ _ hk, rQ_eq arg2 X2 ![384, 0] inb_S1024x512_S128x512_384_0 3 rfl, rM_eq arg8 f8 ![3, 0, 0] inb_S8x1x512_S1x1x512_3_0_0 3 rfl, rA_eq arg10 f10 ![192, 0] inb_S512x512_S64x512_192_0 3 rfl]
  rfl

end Cert.KernelIdeal.Body

end
-- ==== Proof.Head4.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_4_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1545 arg2 arg3 arg11 X2 X3 k = slab (sc (rK arg3 X3 (k0_off57 k) (k0_off57_inb k)) (rQ arg2 X2 ![512, 0] inb_S1024x512_S128x512_512_0)) := by
  unfold v1545
  simp (disch := decide) only [HW_arg11_33, HW_arg11_34, HW_arg11_35, HW_arg11_36, HW_arg11_37, HW_arg11_38, HW_arg11_39, HW_arg11_40, HW_arg11_41, ↓ View.readCov_skip, ↓ View.readCov_cons_toLoadRect]
  rfl

theorem slab_4_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1570 arg2 arg3 arg11 X2 X3 k = slab (sc (rK arg3 X3 (k0_off59 k) (k0_off59_inb k)) (rQ arg2 X2 ![512, 0] inb_S1024x512_S128x512_512_0)) := by
  unfold v1570
  simp (disch := decide) only [HW_arg11_34, HW_arg11_35, HW_arg11_36, HW_arg11_37, HW_arg11_38, HW_arg11_39, HW_arg11_40, HW_arg11_41, HW_arg11_42, ↓ View.readCov_skip, ↓ View.readCov_cons_toLoadRect]
  rfl

theorem slab_4_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1596 arg2 arg3 arg11 X2 X3 k = slab (sc (rK arg3 X3 (k0_off61 k) (k0_off61_inb k)) (rQ arg2 X2 ![512, 0] inb_S1024x512_S128x512_512_0)) := by
  unfold v1596
  simp (disch := decide) only [HW_arg11_35, HW_arg11_36, HW_arg11_37, HW_arg11_38, HW_arg11_39, HW_arg11_40, HW_arg11_41, HW_arg11_42, HW_arg11_43, ↓ View.readCov_skip, ↓ View.readCov_cons_toLoadRect]
  rfl

theorem slab_4_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1622 arg2 arg3 arg11 X2 X3 k = slab (sc (rK arg3 X3 (k0_off63 k) (k0_off63_inb k)) (rQ arg2 X2 ![512, 0] inb_S1024x512_S128x512_512_0)) := by
  unfold v1622
  simp (disch := decide) only [HW_arg11_36, HW_arg11_37, HW_arg11_38, HW_arg11_39, HW_arg11_40, HW_arg11_41, HW_arg11_42, HW_arg11_43, HW_arg11_44, ↓ View.readCov_skip, ↓ View.readCov_cons_toLoadRect]
  rfl

theorem slab_4_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1648 arg2 arg3 arg11 X2 X3 k = slab (sc (rK arg3 X3 (k0_off65 k) (k0_off65_inb k)) (rQ arg2 X2 ![512, 0] inb_S1024x512_S128x512_512_0)) := by
  unfold v1648
  simp (disch := decide) only [HW_arg11_37, HW_arg11_38, HW_arg11_39, HW_arg11_40, HW_arg11_41, HW_arg11_42, HW_arg11_43, HW_arg11_44, HW_arg11_45, ↓ View.readCov_skip, ↓ View.readCov_cons_toLoadRect]
  rfl

theorem slab_4_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1674 arg2 arg3 arg11 X2 X3 k = slab (sc (rK arg3 X3 (k0_off67 k) (k0_off67_inb k)) (rQ arg2 X2 ![512, 0] inb_S1024x512_S128x512_512_0)) := by
  unfold v1674
  simp (disch := decide) only [HW_arg11_38, HW_arg11_39, HW_arg11_40, HW_arg11_41, HW_arg11_42, HW_arg11_43, HW_arg11_44, HW_arg11_45, HW_arg11_46, ↓ View.readCov_skip, ↓ View.readCov_cons_toLoadRect]
  rfl

theorem slab_4_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1700 arg2 arg3 arg11 X2 X3 k = slab (sc (rK arg3 X3 (k0_off69 k) (k0_off69_inb k)) (rQ arg2 X2 ![512, 0] inb_S1024x512_S128x512_512_0)) := by
  unfold v1700
  simp (disch := decide) only [HW_arg11_39, HW_arg11_40, HW_arg11_41, HW_arg11_42, HW_arg11_43, HW_arg11_44, HW_arg11_45, HW_arg11_46, HW_arg11_47, ↓ View.readCov_skip, ↓ View.readCov_cons_toLoadRect]
  rfl

theorem slab_4_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1726 arg2 arg3 arg11 X2 X3 k = slab (sc (rK arg3 X3 (k0_off71 k) (k0_off71_inb k)) (rQ arg2 X2 ![512, 0] inb_S1024x512_S128x512_512_0)) := by
  unfold v1726
  simp (disch := decide) only [HW_arg11_40, HW_arg11_41, HW_arg11_42, HW_arg11_43, HW_arg11_44, HW_arg11_45, HW_arg11_46, HW_arg11_47, HW_arg11_48, ↓ View.readCov_skip, ↓ View.readCov_cons_toLoadRect]
  rfl

theorem mx_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_86 arg2 arg3 X2 X3 k = mx (fun n => sc ((![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) n) (rQ arg2 X2 ![512, 0] inb_S1024x512_S128x512_512_0)) := by
  rfl

theorem piece_m4 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[3]? = some ⟨Rect.unit ![4, 0, 0] S1x1x512.size inb_S8x1x512_S1x1x512_4_0_0, mOut (mx (fun n => sc ((![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) n) (rQ arg2 X2 ![512, 0] inb_S1024x512_S128x512_512_0))) (rM arg8 f8 ![4, 0, 0] inb_S8x1x512_S1x1x512_4_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_4, slab_4_0, slab_4_1, slab_4_2, slab_4_3, slab_4_4, slab_4_5, slab_4_6, slab_4_7]
  generalize mx (F := F) _ = x
  rfl

theorem piece_l4 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[3]? = some ⟨Rect.unit ![4, 0, 0] S1x1x512.size inb_S8x1x512_S1x1x512_4_0_0, lOut (pv (ones (F := F)) (![slab (sc (rK arg3 X3 (k0_off57 k) (k0_off57_inb k)) (rQ arg2 X2 ![512, 0] inb_S1024x512_S128x512_512_0)), slab (sc (rK arg3 X3 (k0_off59 k) (k0_off59_inb k)) (rQ arg2 X2 ![512, 0] inb_S1024x512_S128x512_512_0)), slab (sc (rK arg3 X3 (k0_off61 k) (k0_off61_inb k)) (rQ arg2 X2 ![512, 0] inb_S1024x512_S128x512_512_0)), slab (sc (rK arg3 X3 (k0_off63 k) (k0_off63_inb k)) (rQ arg2 X2 ![512, 0] inb_S1024x512_S128x512_512_0)), slab (sc (rK arg3 X3 (k0_off65 k) (k0_off65_inb k)) (rQ arg2 X2 ![512, 0] inb_S1024x512_S128x512_512_0)), slab (sc (rK arg3 X3 (k0_off67 k) (k0_off67_inb k)) (rQ arg2 X2 ![512, 0] inb_S1024x512_S128x512_512_0)), slab (sc (rK arg3 X3 (k0_off69 k) (k0_off69_inb k)) (rQ arg2 X2 ![512, 0] inb_S1024x512_S128x512_512_0)), slab (sc (rK arg3 X3 (k0_off71 k) (k0_off71_inb k)) (rQ arg2 X2 ![512, 0] inb_S1024x512_S128x512_512_0))] : Fin 8 → FVec F S1x512x512 .f32) (![rV arg4 X4 (k0_off74 k) (k0_off74_inb k), rV arg4 X4 (k0_off76 k) (k0_off76_inb k), rV arg4 X4 (k0_off78 k) (k0_off78_inb k), rV arg4 X4 (k0_off80 k) (k0_off80_inb k), rV arg4 X4 (k0_off82 k) (k0_off82_inb k), rV arg4 X4 (k0_off84 k) (k0_off84_inb k), rV arg4 X4 (k0_off86 k) (k0_off86_inb k), rV arg4 X4 (k0_off88 k) (k0_off88_inb k)] : Fin 8 → Vec F S64x512 .bf16) (mNew (rM arg8 f8 ![4, 0, 0] inb_S8x1x512_S1x1x512_4_0_0) (mx (fun n => sc ((![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) n) (rQ arg2 X2 ![512, 0] inb_S1024x512_S128x512_512_0))))) (mx (fun n => sc ((![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) n) (rQ arg2 X2 ![512, 0] inb_S1024x512_S128x512_512_0))) (rM arg8 f8 ![4, 0, 0] inb_S8x1x512_S1x1x512_4_0_0) (rM arg9 f9 ![4, 0, 0] inb_S8x1x512_S1x1x512_4_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_4, slab_4_0, slab_4_1, slab_4_2, slab_4_3, slab_4_4, slab_4_5, slab_4_6, slab_4_7]
  generalize mx (F := F) _ = x
  rfl

theorem piece_a4 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[3]? = some ⟨Rect.unit ![256, 0] S64x512.size inb_S512x512_S64x512_256_0, aOut (pv (ones (F := F)) (![slab (sc (rK arg3 X3 (k0_off57 k) (k0_off57_inb k)) (rQ arg2 X2 ![512, 0] inb_S1024x512_S128x512_512_0)), slab (sc (rK arg3 X3 (k0_off59 k) (k0_off59_inb k)) (rQ arg2 X2 ![512, 0] inb_S1024x512_S128x512_512_0)), slab (sc (rK arg3 X3 (k0_off61 k) (k0_off61_inb k)) (rQ arg2 X2 ![512, 0] inb_S1024x512_S128x512_512_0)), slab (sc (rK arg3 X3 (k0_off63 k) (k0_off63_inb k)) (rQ arg2 X2 ![512, 0] inb_S1024x512_S128x512_512_0)), slab (sc (rK arg3 X3 (k0_off65 k) (k0_off65_inb k)) (rQ arg2 X2 ![512, 0] inb_S1024x512_S128x512_512_0)), slab (sc (rK arg3 X3 (k0_off67 k) (k0_off67_inb k)) (rQ arg2 X2 ![512, 0] inb_S1024x512_S128x512_512_0)), slab (sc (rK arg3 X3 (k0_off69 k) (k0_off69_inb k)) (rQ arg2 X2 ![512, 0] inb_S1024x512_S128x512_512_0)), slab (sc (rK arg3 X3 (k0_off71 k) (k0_off71_inb k)) (rQ arg2 X2 ![512, 0] inb_S1024x512_S128x512_512_0))] : Fin 8 → FVec F S1x512x512 .f32) (![rV arg4 X4 (k0_off74 k) (k0_off74_inb k), rV arg4 X4 (k0_off76 k) (k0_off76_inb k), rV arg4 X4 (k0_off78 k) (k0_off78_inb k), rV arg4 X4 (k0_off80 k) (k0_off80_inb k), rV arg4 X4 (k0_off82 k) (k0_off82_inb k), rV arg4 X4 (k0_off84 k) (k0_off84_inb k), rV arg4 X4 (k0_off86 k) (k0_off86_inb k), rV arg4 X4 (k0_off88 k) (k0_off88_inb k)] : Fin 8 → Vec F S64x512 .bf16) (mNew (rM arg8 f8 ![4, 0, 0] inb_S8x1x512_S1x1x512_4_0_0) (mx (fun n => sc ((![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) n) (rQ arg2 X2 ![512, 0] inb_S1024x512_S128x512_512_0))))) (mx (fun n => sc ((![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) n) (rQ arg2 X2 ![512, 0] inb_S1024x512_S128x512_512_0))) (rM arg8 f8 ![4, 0, 0] inb_S8x1x512_S1x1x512_4_0_0) (rA arg10 f10 ![256, 0] inb_S512x512_S64x512_256_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_4, slab_4_0, slab_4_1, slab_4_2, slab_4_3, slab_4_4, slab_4_5, slab_4_6, slab_4_7]
  generalize mx (F := F) _ = x
  rfl

theorem kS_4 (arg3 : Memref sig .tc .vmem S8192x1024 .bf16) (X3 : BufTy.Contents (Elt F) arg3.view.ty) (k : Fin k0_t1_loop.trips) (hk : k.val < 2) :
    (![rK arg3 X3 (k0_off57 k) (k0_off57_inb k), rK arg3 X3 (k0_off59 k) (k0_off59_inb k), rK arg3 X3 (k0_off61 k) (k0_off61_inb k), rK arg3 X3 (k0_off63 k) (k0_off63_inb k), rK arg3 X3 (k0_off65 k) (k0_off65_inb k), rK arg3 X3 (k0_off67 k) (k0_off67_inb k), rK arg3 X3 (k0_off69 k) (k0_off69_inb k), rK arg3 X3 (k0_off71 k) (k0_off71_inb k)] : Fin 8 → Vec F S512x128 .bf16) = fun c => kW (arg3.view.read (Elt F) X3) k.val hk 4 c := by
  funext c
  match c with
  | 0 => exact rK_eq _ _ _ _ _ hk 4 0 (k0_off57_eq k)
  | 1 => exact rK_eq _ _ _ _ _ hk 4 1 (k0_off59_eq k)
  | 2 => exact rK_eq _ _ _ _ _ hk 4 2 (k0_off61_eq k)
  | 3 => exact rK_eq _ _ _ _ _ hk 4 3 (k0_off63_eq k)
  | 4 => exact rK_eq _ _ _ _ _ hk 4 4 (k0_off65_eq k)
  | 5 => exact rK_eq _ _ _ _ _ hk 4 5 (k0_off67_eq k)
  | 6 => exact rK_eq _ _ _ _ _ hk 4 6 (k0_off69_eq k)
  | 7 => exact rK_eq _ _ _ _ _ hk 4 7 (k0_off71_eq k)

theorem vS_4 (arg4 : Memref sig .tc .vmem S512x8192 .bf16) (X4 : BufTy.Contents (Elt F) arg4.view.ty) (k : Fin k0_t1_loop.trips) (hk : k.val < 2) :
    (![rV arg4 X4 (k0_off74 k) (k0_off74_inb k), rV arg4 X4 (k0_off76 k) (k0_off76_inb k), rV arg4 X4 (k0_off78 k) (k0_off78_inb k), rV arg4 X4 (k0_off80 k) (k0_off80_inb k), rV arg4 X4 (k0_off82 k) (k0_off82_inb k), rV arg4 X4 (k0_off84 k) (k0_off84_inb k), rV arg4 X4 (k0_off86 k) (k0_off86_inb k), rV arg4 X4 (k0_off88 k) (k0_off88_inb k)] : Fin 8 → Vec F S64x512 .bf16) = fun c => vW (arg4.view.read (Elt F) X4) k.val hk 4 c := by
  funext c
  match c with
  | 0 => exact rV_eq _ _ _ _ _ hk 4 0 (k0_off74_eq k)
  | 1 => exact rV_eq _ _ _ _ _ hk 4 1 (k0_off76_eq k)
  | 2 => exact rV_eq _ _ _ _ _ hk 4 2 (k0_off78_eq k)
  | 3 => exact rV_eq _ _ _ _ _ hk 4 3 (k0_off80_eq k)
  | 4 => exact rV_eq _ _ _ _ _ hk 4 4 (k0_off82_eq k)
  | 5 => exact rV_eq _ _ _ _ _ hk 4 5 (k0_off84_eq k)
  | 6 => exact rV_eq _ _ _ _ _ hk 4 6 (k0_off86_eq k)
  | 7 => exact rV_eq _ _ _ _ _ hk 4 7 (k0_off88_eq k)

theorem tS_4 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off57 k) (k0_off57_inb k)) (rQ arg2 X2 ![512, 0] inb_S1024x512_S128x512_512_0)), slab (sc (rK arg3 X3 (k0_off59 k) (k0_off59_inb k)) (rQ arg2 X2 ![512, 0] inb_S1024x512_S128x512_512_0)), slab (sc (rK arg3 X3 (k0_off61 k) (k0_off61_inb k)) (rQ arg2 X2 ![512, 0] inb_S1024x512_S128x512_512_0)), slab (sc (rK arg3 X3 (k0_off63 k) (k0_off63_inb k)) (rQ arg2 X2 ![512, 0] inb_S1024x512_S128x512_512_0)), slab (sc (rK arg3 X3 (k0_off65 k) (k0_off65_inb k)) (rQ arg2 X2 ![512, 0] inb_S1024x512_S128x512_512_0)), slab (sc (rK arg3 X3 (k0_off67 k) (k0_off67_inb k)) (rQ arg2 X2 ![512, 0] inb_S1024x512_S128x512_512_0)), slab (sc (rK arg3 X3 (k0_off69 k) (k0_off69_inb k)) (rQ arg2 X2 ![512, 0] inb_S1024x512_S128x512_512_0)), slab (sc (rK arg3 X3 (k0_off71 k) (k0_off71_inb k)) (rQ arg2 X2 ![512, 0] inb_S1024x512_S128x512_512_0))] : Fin 8 → FVec F S1x512x512 .f32) = fun c => slab (sc (kW (arg3.view.read (Elt F) X3) k.val hk 4 c) (qW (arg2.view.read (Elt F) X2) 4)) := by
  rw [rQ_eq arg2 X2 ![512, 0] inb_S1024x512_S128x512_512_0 4 rfl]
  funext c
  match c with
  | 0 => exact congrArg (fun z => slab (sc z _)) (rK_eq _ _ _ _ _ hk 4 0 (k0_off57_eq k))
  | 1 => exact congrArg (fun z => slab (sc z _)) (rK_eq _ _ _ _ _ hk 4 1 (k0_off59_eq k))
  | 2 => exact congrArg (fun z => slab (sc z _)) (rK_eq _ _ _ _ _ hk 4 2 (k0_off61_eq k))
  | 3 => exact congrArg (fun z => slab (sc z _)) (rK_eq _ _ _ _ _ hk 4 3 (k0_off63_eq k))
  | 4 => exact congrArg (fun z => slab (sc z _)) (rK_eq _ _ _ _ _ hk 4 4 (k0_off65_eq k))
  | 5 => exact congrArg (fun z => slab (sc z _)) (rK_eq _ _ _ _ _ hk 4 5 (k0_off67_eq k))
  | 6 => exact congrArg (fun z => slab (sc z _)) (rK_eq _ _ _ _ _ hk 4 6 (k0_off69_eq k))
  | 7 => exact congrArg (fun z => slab (sc z _)) (rK_eq _ _ _ _ _ hk 4 7 (k0_off71_eq k))

theorem pm_4 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[3]? = some ⟨Rect.unit ![4, 0, 0] S1x1x512.size inb_S8x1x512_S1x1x512_4_0_0, mOut (xT (arg2.view.read (Elt F) X2) (arg3.view.read (Elt F) X3) k.val hk 4) (mW (arg8.view.read (Elt F) f8) 4)⟩ := by
  rw [piece_m4, kS_4 _ _ _ hk, rQ_eq arg2 X2 ![512, 0] inb_S1024x512_S128x512_512_0 4 rfl, rM_eq arg8 f8 ![4, 0, 0] inb_S8x1x512_S1x1x512_4_0_0 4 rfl]
  rfl

theorem pl_4 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[3]? = some ⟨Rect.unit ![4, 0, 0] S1x1x512.size inb_S8x1x512_S1x1x512_4_0_0, lOut (wT (arg2.view.read (Elt F) X2) (arg3.view.read (Elt F) X3) (arg4.view.read (Elt F) X4) k.val hk 4 (mW (arg8.view.read (Elt F) f8) 4)) (xT (arg2.view.read (Elt F) X2) (arg3.view.read (Elt F) X3) k.val hk 4) (mW (arg8.view.read (Elt F) f8) 4) (mW (arg9.view.read (Elt F) f9) 4)⟩ := by
  rw [piece_l4, tS_4 _ _ _ _ _ hk, vS_4 _ _ _ hk, kS_4 _ _ _ hk, rQ_eq arg2 X2 ![512, 0] inb_S1024x512_S128x512_512_0 4 rfl, rM_eq arg8 f8 ![4, 0, 0] inb_S8x1x512_S1x1x512_4_0_0 4 rfl, rM_eq arg9 f9 ![4, 0, 0] inb_S8x1x512_S1x1x512_4_0_0 4 rfl]
  rfl

theorem pa_4 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[3]? = some ⟨Rect.unit ![256, 0] S64x512.size inb_S512x512_S64x512_256_0, aOut (wT (arg2.view.read (Elt F) X2) (arg3.view.read (Elt F) X3) (arg4.view.read (Elt F) X4) k.val hk 4 (mW (arg8.view.read (Elt F) f8) 4)) (xT (arg2.view.read (Elt F) X2) (arg3.view.read (Elt F) X3) k.val hk 4) (mW (arg8.view.read (Elt F) f8) 4) (aW (arg10.view.read (Elt F) f10) 4)⟩ := by
  rw [piece_a4, tS_4 _ _ _ _ _ hk, vS_4 _ _ _ hk, kS_4 _ _ _ hk, rQ_eq arg2 X2 ![512, 0] inb_S1024x512_S128x512_512_0 4 rfl, rM_eq arg8 f8 ![4, 0, 0] inb_S8x1x512_S1x1x512_4_0_0 4 rfl, rA_eq arg10 f10 ![256, 0] inb_S512x512_S64x512_256_0 4 rfl]
  rfl

end Cert.KernelIdeal.Body

end
-- ==== Proof.Head5.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_5_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1775 arg2 arg3 arg11 X2 X3 k = slab (sc (rK arg3 X3 (k0_off73 k) (k0_off73_inb k)) (rQ arg2 X2 ![640, 0] inb_S1024x512_S128x512_640_0)) := by
  unfold v1775
  simp (disch := decide) only [HW_arg11_41, HW_arg11_42, HW_arg11_43, HW_arg11_44, HW_arg11_45, HW_arg11_46, HW_arg11_47, HW_arg11_48, HW_arg11_49, ↓ View.readCov_skip, ↓ View.readCov_cons_toLoadRect]
  rfl

theorem slab_5_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1800 arg2 arg3 arg11 X2 X3 k = slab (sc (rK arg3 X3 (k0_off75 k) (k0_off75_inb k)) (rQ arg2 X2 ![640, 0] inb_S1024x512_S128x512_640_0)) := by
  unfold v1800
  simp (disch := decide) only [HW_arg11_42, HW_arg11_43, HW_arg11_44, HW_arg11_45, HW_arg11_46, HW_arg11_47, HW_arg11_48, HW_arg11_49, HW_arg11_50, ↓ View.readCov_skip, ↓ View.readCov_cons_toLoadRect]
  rfl

theorem slab_5_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1826 arg2 arg3 arg11 X2 X3 k = slab (sc (rK arg3 X3 (k0_off77 k) (k0_off77_inb k)) (rQ arg2 X2 ![640, 0] inb_S1024x512_S128x512_640_0)) := by
  unfold v1826
  simp (disch := decide) only [HW_arg11_43, HW_arg11_44, HW_arg11_45, HW_arg11_46, HW_arg11_47, HW_arg11_48, HW_arg11_49, HW_arg11_50, HW_arg11_51, ↓ View.readCov_skip, ↓ View.readCov_cons_toLoadRect]
  rfl

theorem slab_5_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1852 arg2 arg3 arg11 X2 X3 k = slab (sc (rK arg3 X3 (k0_off79 k) (k0_off79_inb k)) (rQ arg2 X2 ![640, 0] inb_S1024x512_S128x512_640_0)) := by
  unfold v1852
  simp (disch := decide) only [HW_arg11_44, HW_arg11_45, HW_arg11_46, HW_arg11_47, HW_arg11_48, HW_arg11_49, HW_arg11_50, HW_arg11_51, HW_arg11_52, ↓ View.readCov_skip, ↓ View.readCov_cons_toLoadRect]
  rfl

theorem slab_5_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1878 arg2 arg3 arg11 X2 X3 k = slab (sc (rK arg3 X3 (k0_off81 k) (k0_off81_inb k)) (rQ arg2 X2 ![640, 0] inb_S1024x512_S128x512_640_0)) := by
  unfold v1878
  simp (disch := decide) only [HW_arg11_45, HW_arg11_46, HW_arg11_47, HW_arg11_48, HW_arg11_49, HW_arg11_50, HW_arg11_51, HW_arg11_52, HW_arg11_53, ↓ View.readCov_skip, ↓ View.readCov_cons_toLoadRect]
  rfl

theorem slab_5_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1904 arg2 arg3 arg11 X2 X3 k = slab (sc (rK arg3 X3 (k0_off83 k) (k0_off83_inb k)) (rQ arg2 X2 ![640, 0] inb_S1024x512_S128x512_640_0)) := by
  unfold v1904
  simp (disch := decide) only [HW_arg11_46, HW_arg11_47, HW_arg11_48, HW_arg11_49, HW_arg11_50, HW_arg11_51, HW_arg11_52, HW_arg11_53, HW_arg11_54, ↓ View.readCov_skip, ↓ View.readCov_cons_toLoadRect]
  rfl

theorem slab_5_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1930 arg2 arg3 arg11 X2 X3 k = slab (sc (rK arg3 X3 (k0_off85 k) (k0_off85_inb k)) (rQ arg2 X2 ![640, 0] inb_S1024x512_S128x512_640_0)) := by
  unfold v1930
  simp (disch := decide) only [HW_arg11_47, HW_arg11_48, HW_arg11_49, HW_arg11_50, HW_arg11_51, HW_arg11_52, HW_arg11_53, HW_arg11_54, HW_arg11_55, ↓ View.readCov_skip, ↓ View.readCov_cons_toLoadRect]
  rfl

theorem slab_5_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v1956 arg2 arg3 arg11 X2 X3 k = slab (sc (rK arg3 X3 (k0_off87 k) (k0_off87_inb k)) (rQ arg2 X2 ![640, 0] inb_S1024x512_S128x512_640_0)) := by
  unfold v1956
  simp (disch := decide) only [HW_arg11_48, HW_arg11_49, HW_arg11_50, HW_arg11_51, HW_arg11_52, HW_arg11_53, HW_arg11_54, HW_arg11_55, HW_arg11_56, ↓ View.readCov_skip, ↓ View.readCov_cons_toLoadRect]
  rfl

theorem mx_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_103 arg2 arg3 X2 X3 k = mx (fun n => sc ((![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) n) (rQ arg2 X2 ![640, 0] inb_S1024x512_S128x512_640_0)) := by
  rfl

theorem piece_m5 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[2]? = some ⟨Rect.unit ![5, 0, 0] S1x1x512.size inb_S8x1x512_S1x1x512_5_0_0, mOut (mx (fun n => sc ((![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) n) (rQ arg2 X2 ![640, 0] inb_S1024x512_S128x512_640_0))) (rM arg8 f8 ![5, 0, 0] inb_S8x1x512_S1x1x512_5_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_5, slab_5_0, slab_5_1, slab_5_2, slab_5_3, slab_5_4, slab_5_5, slab_5_6, slab_5_7]
  generalize mx (F := F) _ = x
  rfl

theorem piece_l5 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[2]? = some ⟨Rect.unit ![5, 0, 0] S1x1x512.size inb_S8x1x512_S1x1x512_5_0_0, lOut (pv (ones (F := F)) (![slab (sc (rK arg3 X3 (k0_off73 k) (k0_off73_inb k)) (rQ arg2 X2 ![640, 0] inb_S1024x512_S128x512_640_0)), slab (sc (rK arg3 X3 (k0_off75 k) (k0_off75_inb k)) (rQ arg2 X2 ![640, 0] inb_S1024x512_S128x512_640_0)), slab (sc (rK arg3 X3 (k0_off77 k) (k0_off77_inb k)) (rQ arg2 X2 ![640, 0] inb_S1024x512_S128x512_640_0)), slab (sc (rK arg3 X3 (k0_off79 k) (k0_off79_inb k)) (rQ arg2 X2 ![640, 0] inb_S1024x512_S128x512_640_0)), slab (sc (rK arg3 X3 (k0_off81 k) (k0_off81_inb k)) (rQ arg2 X2 ![640, 0] inb_S1024x512_S128x512_640_0)), slab (sc (rK arg3 X3 (k0_off83 k) (k0_off83_inb k)) (rQ arg2 X2 ![640, 0] inb_S1024x512_S128x512_640_0)), slab (sc (rK arg3 X3 (k0_off85 k) (k0_off85_inb k)) (rQ arg2 X2 ![640, 0] inb_S1024x512_S128x512_640_0)), slab (sc (rK arg3 X3 (k0_off87 k) (k0_off87_inb k)) (rQ arg2 X2 ![640, 0] inb_S1024x512_S128x512_640_0))] : Fin 8 → FVec F S1x512x512 .f32) (![rV arg4 X4 (k0_off90 k) (k0_off90_inb k), rV arg4 X4 (k0_off92 k) (k0_off92_inb k), rV arg4 X4 (k0_off94 k) (k0_off94_inb k), rV arg4 X4 (k0_off96 k) (k0_off96_inb k), rV arg4 X4 (k0_off98 k) (k0_off98_inb k), rV arg4 X4 (k0_off100 k) (k0_off100_inb k), rV arg4 X4 (k0_off102 k) (k0_off102_inb k), rV arg4 X4 (k0_off104 k) (k0_off104_inb k)] : Fin 8 → Vec F S64x512 .bf16) (mNew (rM arg8 f8 ![5, 0, 0] inb_S8x1x512_S1x1x512_5_0_0) (mx (fun n => sc ((![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) n) (rQ arg2 X2 ![640, 0] inb_S1024x512_S128x512_640_0))))) (mx (fun n => sc ((![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) n) (rQ arg2 X2 ![640, 0] inb_S1024x512_S128x512_640_0))) (rM arg8 f8 ![5, 0, 0] inb_S8x1x512_S1x1x512_5_0_0) (rM arg9 f9 ![5, 0, 0] inb_S8x1x512_S1x1x512_5_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_5, slab_5_0, slab_5_1, slab_5_2, slab_5_3, slab_5_4, slab_5_5, slab_5_6, slab_5_7]
  generalize mx (F := F) _ = x
  rfl

theorem piece_a5 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[2]? = some ⟨Rect.unit ![320, 0] S64x512.size inb_S512x512_S64x512_320_0, aOut (pv (ones (F := F)) (![slab (sc (rK arg3 X3 (k0_off73 k) (k0_off73_inb k)) (rQ arg2 X2 ![640, 0] inb_S1024x512_S128x512_640_0)), slab (sc (rK arg3 X3 (k0_off75 k) (k0_off75_inb k)) (rQ arg2 X2 ![640, 0] inb_S1024x512_S128x512_640_0)), slab (sc (rK arg3 X3 (k0_off77 k) (k0_off77_inb k)) (rQ arg2 X2 ![640, 0] inb_S1024x512_S128x512_640_0)), slab (sc (rK arg3 X3 (k0_off79 k) (k0_off79_inb k)) (rQ arg2 X2 ![640, 0] inb_S1024x512_S128x512_640_0)), slab (sc (rK arg3 X3 (k0_off81 k) (k0_off81_inb k)) (rQ arg2 X2 ![640, 0] inb_S1024x512_S128x512_640_0)), slab (sc (rK arg3 X3 (k0_off83 k) (k0_off83_inb k)) (rQ arg2 X2 ![640, 0] inb_S1024x512_S128x512_640_0)), slab (sc (rK arg3 X3 (k0_off85 k) (k0_off85_inb k)) (rQ arg2 X2 ![640, 0] inb_S1024x512_S128x512_640_0)), slab (sc (rK arg3 X3 (k0_off87 k) (k0_off87_inb k)) (rQ arg2 X2 ![640, 0] inb_S1024x512_S128x512_640_0))] : Fin 8 → FVec F S1x512x512 .f32) (![rV arg4 X4 (k0_off90 k) (k0_off90_inb k), rV arg4 X4 (k0_off92 k) (k0_off92_inb k), rV arg4 X4 (k0_off94 k) (k0_off94_inb k), rV arg4 X4 (k0_off96 k) (k0_off96_inb k), rV arg4 X4 (k0_off98 k) (k0_off98_inb k), rV arg4 X4 (k0_off100 k) (k0_off100_inb k), rV arg4 X4 (k0_off102 k) (k0_off102_inb k), rV arg4 X4 (k0_off104 k) (k0_off104_inb k)] : Fin 8 → Vec F S64x512 .bf16) (mNew (rM arg8 f8 ![5, 0, 0] inb_S8x1x512_S1x1x512_5_0_0) (mx (fun n => sc ((![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) n) (rQ arg2 X2 ![640, 0] inb_S1024x512_S128x512_640_0))))) (mx (fun n => sc ((![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) n) (rQ arg2 X2 ![640, 0] inb_S1024x512_S128x512_640_0))) (rM arg8 f8 ![5, 0, 0] inb_S8x1x512_S1x1x512_5_0_0) (rA arg10 f10 ![320, 0] inb_S512x512_S64x512_320_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_5, slab_5_0, slab_5_1, slab_5_2, slab_5_3, slab_5_4, slab_5_5, slab_5_6, slab_5_7]
  generalize mx (F := F) _ = x
  rfl

theorem kS_5 (arg3 : Memref sig .tc .vmem S8192x1024 .bf16) (X3 : BufTy.Contents (Elt F) arg3.view.ty) (k : Fin k0_t1_loop.trips) (hk : k.val < 2) :
    (![rK arg3 X3 (k0_off73 k) (k0_off73_inb k), rK arg3 X3 (k0_off75 k) (k0_off75_inb k), rK arg3 X3 (k0_off77 k) (k0_off77_inb k), rK arg3 X3 (k0_off79 k) (k0_off79_inb k), rK arg3 X3 (k0_off81 k) (k0_off81_inb k), rK arg3 X3 (k0_off83 k) (k0_off83_inb k), rK arg3 X3 (k0_off85 k) (k0_off85_inb k), rK arg3 X3 (k0_off87 k) (k0_off87_inb k)] : Fin 8 → Vec F S512x128 .bf16) = fun c => kW (arg3.view.read (Elt F) X3) k.val hk 5 c := by
  funext c
  match c with
  | 0 => exact rK_eq _ _ _ _ _ hk 5 0 (k0_off73_eq k)
  | 1 => exact rK_eq _ _ _ _ _ hk 5 1 (k0_off75_eq k)
  | 2 => exact rK_eq _ _ _ _ _ hk 5 2 (k0_off77_eq k)
  | 3 => exact rK_eq _ _ _ _ _ hk 5 3 (k0_off79_eq k)
  | 4 => exact rK_eq _ _ _ _ _ hk 5 4 (k0_off81_eq k)
  | 5 => exact rK_eq _ _ _ _ _ hk 5 5 (k0_off83_eq k)
  | 6 => exact rK_eq _ _ _ _ _ hk 5 6 (k0_off85_eq k)
  | 7 => exact rK_eq _ _ _ _ _ hk 5 7 (k0_off87_eq k)

theorem vS_5 (arg4 : Memref sig .tc .vmem S512x8192 .bf16) (X4 : BufTy.Contents (Elt F) arg4.view.ty) (k : Fin k0_t1_loop.trips) (hk : k.val < 2) :
    (![rV arg4 X4 (k0_off90 k) (k0_off90_inb k), rV arg4 X4 (k0_off92 k) (k0_off92_inb k), rV arg4 X4 (k0_off94 k) (k0_off94_inb k), rV arg4 X4 (k0_off96 k) (k0_off96_inb k), rV arg4 X4 (k0_off98 k) (k0_off98_inb k), rV arg4 X4 (k0_off100 k) (k0_off100_inb k), rV arg4 X4 (k0_off102 k) (k0_off102_inb k), rV arg4 X4 (k0_off104 k) (k0_off104_inb k)] : Fin 8 → Vec F S64x512 .bf16) = fun c => vW (arg4.view.read (Elt F) X4) k.val hk 5 c := by
  funext c
  match c with
  | 0 => exact rV_eq _ _ _ _ _ hk 5 0 (k0_off90_eq k)
  | 1 => exact rV_eq _ _ _ _ _ hk 5 1 (k0_off92_eq k)
  | 2 => exact rV_eq _ _ _ _ _ hk 5 2 (k0_off94_eq k)
  | 3 => exact rV_eq _ _ _ _ _ hk 5 3 (k0_off96_eq k)
  | 4 => exact rV_eq _ _ _ _ _ hk 5 4 (k0_off98_eq k)
  | 5 => exact rV_eq _ _ _ _ _ hk 5 5 (k0_off100_eq k)
  | 6 => exact rV_eq _ _ _ _ _ hk 5 6 (k0_off102_eq k)
  | 7 => exact rV_eq _ _ _ _ _ hk 5 7 (k0_off104_eq k)

theorem tS_5 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off73 k) (k0_off73_inb k)) (rQ arg2 X2 ![640, 0] inb_S1024x512_S128x512_640_0)), slab (sc (rK arg3 X3 (k0_off75 k) (k0_off75_inb k)) (rQ arg2 X2 ![640, 0] inb_S1024x512_S128x512_640_0)), slab (sc (rK arg3 X3 (k0_off77 k) (k0_off77_inb k)) (rQ arg2 X2 ![640, 0] inb_S1024x512_S128x512_640_0)), slab (sc (rK arg3 X3 (k0_off79 k) (k0_off79_inb k)) (rQ arg2 X2 ![640, 0] inb_S1024x512_S128x512_640_0)), slab (sc (rK arg3 X3 (k0_off81 k) (k0_off81_inb k)) (rQ arg2 X2 ![640, 0] inb_S1024x512_S128x512_640_0)), slab (sc (rK arg3 X3 (k0_off83 k) (k0_off83_inb k)) (rQ arg2 X2 ![640, 0] inb_S1024x512_S128x512_640_0)), slab (sc (rK arg3 X3 (k0_off85 k) (k0_off85_inb k)) (rQ arg2 X2 ![640, 0] inb_S1024x512_S128x512_640_0)), slab (sc (rK arg3 X3 (k0_off87 k) (k0_off87_inb k)) (rQ arg2 X2 ![640, 0] inb_S1024x512_S128x512_640_0))] : Fin 8 → FVec F S1x512x512 .f32) = fun c => slab (sc (kW (arg3.view.read (Elt F) X3) k.val hk 5 c) (qW (arg2.view.read (Elt F) X2) 5)) := by
  rw [rQ_eq arg2 X2 ![640, 0] inb_S1024x512_S128x512_640_0 5 rfl]
  funext c
  match c with
  | 0 => exact congrArg (fun z => slab (sc z _)) (rK_eq _ _ _ _ _ hk 5 0 (k0_off73_eq k))
  | 1 => exact congrArg (fun z => slab (sc z _)) (rK_eq _ _ _ _ _ hk 5 1 (k0_off75_eq k))
  | 2 => exact congrArg (fun z => slab (sc z _)) (rK_eq _ _ _ _ _ hk 5 2 (k0_off77_eq k))
  | 3 => exact congrArg (fun z => slab (sc z _)) (rK_eq _ _ _ _ _ hk 5 3 (k0_off79_eq k))
  | 4 => exact congrArg (fun z => slab (sc z _)) (rK_eq _ _ _ _ _ hk 5 4 (k0_off81_eq k))
  | 5 => exact congrArg (fun z => slab (sc z _)) (rK_eq _ _ _ _ _ hk 5 5 (k0_off83_eq k))
  | 6 => exact congrArg (fun z => slab (sc z _)) (rK_eq _ _ _ _ _ hk 5 6 (k0_off85_eq k))
  | 7 => exact congrArg (fun z => slab (sc z _)) (rK_eq _ _ _ _ _ hk 5 7 (k0_off87_eq k))

theorem pm_5 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[2]? = some ⟨Rect.unit ![5, 0, 0] S1x1x512.size inb_S8x1x512_S1x1x512_5_0_0, mOut (xT (arg2.view.read (Elt F) X2) (arg3.view.read (Elt F) X3) k.val hk 5) (mW (arg8.view.read (Elt F) f8) 5)⟩ := by
  rw [piece_m5, kS_5 _ _ _ hk, rQ_eq arg2 X2 ![640, 0] inb_S1024x512_S128x512_640_0 5 rfl, rM_eq arg8 f8 ![5, 0, 0] inb_S8x1x512_S1x1x512_5_0_0 5 rfl]
  rfl

theorem pl_5 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[2]? = some ⟨Rect.unit ![5, 0, 0] S1x1x512.size inb_S8x1x512_S1x1x512_5_0_0, lOut (wT (arg2.view.read (Elt F) X2) (arg3.view.read (Elt F) X3) (arg4.view.read (Elt F) X4) k.val hk 5 (mW (arg8.view.read (Elt F) f8) 5)) (xT (arg2.view.read (Elt F) X2) (arg3.view.read (Elt F) X3) k.val hk 5) (mW (arg8.view.read (Elt F) f8) 5) (mW (arg9.view.read (Elt F) f9) 5)⟩ := by
  rw [piece_l5, tS_5 _ _ _ _ _ hk, vS_5 _ _ _ hk, kS_5 _ _ _ hk, rQ_eq arg2 X2 ![640, 0] inb_S1024x512_S128x512_640_0 5 rfl, rM_eq arg8 f8 ![5, 0, 0] inb_S8x1x512_S1x1x512_5_0_0 5 rfl, rM_eq arg9 f9 ![5, 0, 0] inb_S8x1x512_S1x1x512_5_0_0 5 rfl]
  rfl

theorem pa_5 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[2]? = some ⟨Rect.unit ![320, 0] S64x512.size inb_S512x512_S64x512_320_0, aOut (wT (arg2.view.read (Elt F) X2) (arg3.view.read (Elt F) X3) (arg4.view.read (Elt F) X4) k.val hk 5 (mW (arg8.view.read (Elt F) f8) 5)) (xT (arg2.view.read (Elt F) X2) (arg3.view.read (Elt F) X3) k.val hk 5) (mW (arg8.view.read (Elt F) f8) 5) (aW (arg10.view.read (Elt F) f10) 5)⟩ := by
  rw [piece_a5, tS_5 _ _ _ _ _ hk, vS_5 _ _ _ hk, kS_5 _ _ _ hk, rQ_eq arg2 X2 ![640, 0] inb_S1024x512_S128x512_640_0 5 rfl, rM_eq arg8 f8 ![5, 0, 0] inb_S8x1x512_S1x1x512_5_0_0 5 rfl, rA_eq arg10 f10 ![320, 0] inb_S512x512_S64x512_320_0 5 rfl]
  rfl

end Cert.KernelIdeal.Body

end
-- ==== Proof.Head6.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_6_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2005 arg2 arg3 arg11 X2 X3 k = slab (sc (rK arg3 X3 (k0_off89 k) (k0_off89_inb k)) (rQ arg2 X2 ![768, 0] inb_S1024x512_S128x512_768_0)) := by
  unfold v2005
  simp (disch := decide) only [HW_arg11_49, HW_arg11_50, HW_arg11_51, HW_arg11_52, HW_arg11_53, HW_arg11_54, HW_arg11_55, HW_arg11_56, HW_arg11_57, ↓ View.readCov_skip, ↓ View.readCov_cons_toLoadRect]
  rfl

theorem slab_6_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2030 arg2 arg3 arg11 X2 X3 k = slab (sc (rK arg3 X3 (k0_off91 k) (k0_off91_inb k)) (rQ arg2 X2 ![768, 0] inb_S1024x512_S128x512_768_0)) := by
  unfold v2030
  simp (disch := decide) only [HW_arg11_50, HW_arg11_51, HW_arg11_52, HW_arg11_53, HW_arg11_54, HW_arg11_55, HW_arg11_56, HW_arg11_57, HW_arg11_58, ↓ View.readCov_skip, ↓ View.readCov_cons_toLoadRect]
  rfl

theorem slab_6_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2056 arg2 arg3 arg11 X2 X3 k = slab (sc (rK arg3 X3 (k0_off93 k) (k0_off93_inb k)) (rQ arg2 X2 ![768, 0] inb_S1024x512_S128x512_768_0)) := by
  unfold v2056
  simp (disch := decide) only [HW_arg11_51, HW_arg11_52, HW_arg11_53, HW_arg11_54, HW_arg11_55, HW_arg11_56, HW_arg11_57, HW_arg11_58, HW_arg11_59, ↓ View.readCov_skip, ↓ View.readCov_cons_toLoadRect]
  rfl

theorem slab_6_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2082 arg2 arg3 arg11 X2 X3 k = slab (sc (rK arg3 X3 (k0_off95 k) (k0_off95_inb k)) (rQ arg2 X2 ![768, 0] inb_S1024x512_S128x512_768_0)) := by
  unfold v2082
  simp (disch := decide) only [HW_arg11_52, HW_arg11_53, HW_arg11_54, HW_arg11_55, HW_arg11_56, HW_arg11_57, HW_arg11_58, HW_arg11_59, HW_arg11_60, ↓ View.readCov_skip, ↓ View.readCov_cons_toLoadRect]
  rfl

theorem slab_6_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2108 arg2 arg3 arg11 X2 X3 k = slab (sc (rK arg3 X3 (k0_off97 k) (k0_off97_inb k)) (rQ arg2 X2 ![768, 0] inb_S1024x512_S128x512_768_0)) := by
  unfold v2108
  simp (disch := decide) only [HW_arg11_53, HW_arg11_54, HW_arg11_55, HW_arg11_56, HW_arg11_57, HW_arg11_58, HW_arg11_59, HW_arg11_60, HW_arg11_61, ↓ View.readCov_skip, ↓ View.readCov_cons_toLoadRect]
  rfl

theorem slab_6_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2134 arg2 arg3 arg11 X2 X3 k = slab (sc (rK arg3 X3 (k0_off99 k) (k0_off99_inb k)) (rQ arg2 X2 ![768, 0] inb_S1024x512_S128x512_768_0)) := by
  unfold v2134
  simp (disch := decide) only [HW_arg11_54, HW_arg11_55, HW_arg11_56, HW_arg11_57, HW_arg11_58, HW_arg11_59, HW_arg11_60, HW_arg11_61, HW_arg11_62, ↓ View.readCov_skip, ↓ View.readCov_cons_toLoadRect]
  rfl

theorem slab_6_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2160 arg2 arg3 arg11 X2 X3 k = slab (sc (rK arg3 X3 (k0_off101 k) (k0_off101_inb k)) (rQ arg2 X2 ![768, 0] inb_S1024x512_S128x512_768_0)) := by
  unfold v2160
  simp (disch := decide) only [HW_arg11_55, HW_arg11_56, HW_arg11_57, HW_arg11_58, HW_arg11_59, HW_arg11_60, HW_arg11_61, HW_arg11_62, HW_arg11_63, ↓ View.readCov_skip, ↓ View.readCov_cons_toLoadRect]
  rfl

theorem slab_6_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2186 arg2 arg3 arg11 X2 X3 k = slab (sc (rK arg3 X3 (k0_off103 k) (k0_off103_inb k)) (rQ arg2 X2 ![768, 0] inb_S1024x512_S128x512_768_0)) := by
  unfold v2186
  simp (disch := decide) only [HW_arg11_56, HW_arg11_57, HW_arg11_58, HW_arg11_59, HW_arg11_60, HW_arg11_61, HW_arg11_62, HW_arg11_63, HW_arg11_64, ↓ View.readCov_skip, ↓ View.readCov_cons_toLoadRect]
  rfl

theorem mx_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_120 arg2 arg3 X2 X3 k = mx (fun n => sc ((![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) n) (rQ arg2 X2 ![768, 0] inb_S1024x512_S128x512_768_0)) := by
  rfl

theorem piece_m6 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[1]? = some ⟨Rect.unit ![6, 0, 0] S1x1x512.size inb_S8x1x512_S1x1x512_6_0_0, mOut (mx (fun n => sc ((![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) n) (rQ arg2 X2 ![768, 0] inb_S1024x512_S128x512_768_0))) (rM arg8 f8 ![6, 0, 0] inb_S8x1x512_S1x1x512_6_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_6, slab_6_0, slab_6_1, slab_6_2, slab_6_3, slab_6_4, slab_6_5, slab_6_6, slab_6_7]
  generalize mx (F := F) _ = x
  rfl

theorem piece_l6 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[1]? = some ⟨Rect.unit ![6, 0, 0] S1x1x512.size inb_S8x1x512_S1x1x512_6_0_0, lOut (pv (ones (F := F)) (![slab (sc (rK arg3 X3 (k0_off89 k) (k0_off89_inb k)) (rQ arg2 X2 ![768, 0] inb_S1024x512_S128x512_768_0)), slab (sc (rK arg3 X3 (k0_off91 k) (k0_off91_inb k)) (rQ arg2 X2 ![768, 0] inb_S1024x512_S128x512_768_0)), slab (sc (rK arg3 X3 (k0_off93 k) (k0_off93_inb k)) (rQ arg2 X2 ![768, 0] inb_S1024x512_S128x512_768_0)), slab (sc (rK arg3 X3 (k0_off95 k) (k0_off95_inb k)) (rQ arg2 X2 ![768, 0] inb_S1024x512_S128x512_768_0)), slab (sc (rK arg3 X3 (k0_off97 k) (k0_off97_inb k)) (rQ arg2 X2 ![768, 0] inb_S1024x512_S128x512_768_0)), slab (sc (rK arg3 X3 (k0_off99 k) (k0_off99_inb k)) (rQ arg2 X2 ![768, 0] inb_S1024x512_S128x512_768_0)), slab (sc (rK arg3 X3 (k0_off101 k) (k0_off101_inb k)) (rQ arg2 X2 ![768, 0] inb_S1024x512_S128x512_768_0)), slab (sc (rK arg3 X3 (k0_off103 k) (k0_off103_inb k)) (rQ arg2 X2 ![768, 0] inb_S1024x512_S128x512_768_0))] : Fin 8 → FVec F S1x512x512 .f32) (![rV arg4 X4 (k0_off106 k) (k0_off106_inb k), rV arg4 X4 (k0_off108 k) (k0_off108_inb k), rV arg4 X4 (k0_off110 k) (k0_off110_inb k), rV arg4 X4 (k0_off112 k) (k0_off112_inb k), rV arg4 X4 (k0_off114 k) (k0_off114_inb k), rV arg4 X4 (k0_off116 k) (k0_off116_inb k), rV arg4 X4 (k0_off118 k) (k0_off118_inb k), rV arg4 X4 (k0_off120 k) (k0_off120_inb k)] : Fin 8 → Vec F S64x512 .bf16) (mNew (rM arg8 f8 ![6, 0, 0] inb_S8x1x512_S1x1x512_6_0_0) (mx (fun n => sc ((![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) n) (rQ arg2 X2 ![768, 0] inb_S1024x512_S128x512_768_0))))) (mx (fun n => sc ((![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) n) (rQ arg2 X2 ![768, 0] inb_S1024x512_S128x512_768_0))) (rM arg8 f8 ![6, 0, 0] inb_S8x1x512_S1x1x512_6_0_0) (rM arg9 f9 ![6, 0, 0] inb_S8x1x512_S1x1x512_6_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_6, slab_6_0, slab_6_1, slab_6_2, slab_6_3, slab_6_4, slab_6_5, slab_6_6, slab_6_7]
  generalize mx (F := F) _ = x
  rfl

theorem piece_a6 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[1]? = some ⟨Rect.unit ![384, 0] S64x512.size inb_S512x512_S64x512_384_0, aOut (pv (ones (F := F)) (![slab (sc (rK arg3 X3 (k0_off89 k) (k0_off89_inb k)) (rQ arg2 X2 ![768, 0] inb_S1024x512_S128x512_768_0)), slab (sc (rK arg3 X3 (k0_off91 k) (k0_off91_inb k)) (rQ arg2 X2 ![768, 0] inb_S1024x512_S128x512_768_0)), slab (sc (rK arg3 X3 (k0_off93 k) (k0_off93_inb k)) (rQ arg2 X2 ![768, 0] inb_S1024x512_S128x512_768_0)), slab (sc (rK arg3 X3 (k0_off95 k) (k0_off95_inb k)) (rQ arg2 X2 ![768, 0] inb_S1024x512_S128x512_768_0)), slab (sc (rK arg3 X3 (k0_off97 k) (k0_off97_inb k)) (rQ arg2 X2 ![768, 0] inb_S1024x512_S128x512_768_0)), slab (sc (rK arg3 X3 (k0_off99 k) (k0_off99_inb k)) (rQ arg2 X2 ![768, 0] inb_S1024x512_S128x512_768_0)), slab (sc (rK arg3 X3 (k0_off101 k) (k0_off101_inb k)) (rQ arg2 X2 ![768, 0] inb_S1024x512_S128x512_768_0)), slab (sc (rK arg3 X3 (k0_off103 k) (k0_off103_inb k)) (rQ arg2 X2 ![768, 0] inb_S1024x512_S128x512_768_0))] : Fin 8 → FVec F S1x512x512 .f32) (![rV arg4 X4 (k0_off106 k) (k0_off106_inb k), rV arg4 X4 (k0_off108 k) (k0_off108_inb k), rV arg4 X4 (k0_off110 k) (k0_off110_inb k), rV arg4 X4 (k0_off112 k) (k0_off112_inb k), rV arg4 X4 (k0_off114 k) (k0_off114_inb k), rV arg4 X4 (k0_off116 k) (k0_off116_inb k), rV arg4 X4 (k0_off118 k) (k0_off118_inb k), rV arg4 X4 (k0_off120 k) (k0_off120_inb k)] : Fin 8 → Vec F S64x512 .bf16) (mNew (rM arg8 f8 ![6, 0, 0] inb_S8x1x512_S1x1x512_6_0_0) (mx (fun n => sc ((![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) n) (rQ arg2 X2 ![768, 0] inb_S1024x512_S128x512_768_0))))) (mx (fun n => sc ((![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) n) (rQ arg2 X2 ![768, 0] inb_S1024x512_S128x512_768_0))) (rM arg8 f8 ![6, 0, 0] inb_S8x1x512_S1x1x512_6_0_0) (rA arg10 f10 ![384, 0] inb_S512x512_S64x512_384_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_6, slab_6_0, slab_6_1, slab_6_2, slab_6_3, slab_6_4, slab_6_5, slab_6_6, slab_6_7]
  generalize mx (F := F) _ = x
  rfl

theorem kS_6 (arg3 : Memref sig .tc .vmem S8192x1024 .bf16) (X3 : BufTy.Contents (Elt F) arg3.view.ty) (k : Fin k0_t1_loop.trips) (hk : k.val < 2) :
    (![rK arg3 X3 (k0_off89 k) (k0_off89_inb k), rK arg3 X3 (k0_off91 k) (k0_off91_inb k), rK arg3 X3 (k0_off93 k) (k0_off93_inb k), rK arg3 X3 (k0_off95 k) (k0_off95_inb k), rK arg3 X3 (k0_off97 k) (k0_off97_inb k), rK arg3 X3 (k0_off99 k) (k0_off99_inb k), rK arg3 X3 (k0_off101 k) (k0_off101_inb k), rK arg3 X3 (k0_off103 k) (k0_off103_inb k)] : Fin 8 → Vec F S512x128 .bf16) = fun c => kW (arg3.view.read (Elt F) X3) k.val hk 6 c := by
  funext c
  match c with
  | 0 => exact rK_eq _ _ _ _ _ hk 6 0 (k0_off89_eq k)
  | 1 => exact rK_eq _ _ _ _ _ hk 6 1 (k0_off91_eq k)
  | 2 => exact rK_eq _ _ _ _ _ hk 6 2 (k0_off93_eq k)
  | 3 => exact rK_eq _ _ _ _ _ hk 6 3 (k0_off95_eq k)
  | 4 => exact rK_eq _ _ _ _ _ hk 6 4 (k0_off97_eq k)
  | 5 => exact rK_eq _ _ _ _ _ hk 6 5 (k0_off99_eq k)
  | 6 => exact rK_eq _ _ _ _ _ hk 6 6 (k0_off101_eq k)
  | 7 => exact rK_eq _ _ _ _ _ hk 6 7 (k0_off103_eq k)

theorem vS_6 (arg4 : Memref sig .tc .vmem S512x8192 .bf16) (X4 : BufTy.Contents (Elt F) arg4.view.ty) (k : Fin k0_t1_loop.trips) (hk : k.val < 2) :
    (![rV arg4 X4 (k0_off106 k) (k0_off106_inb k), rV arg4 X4 (k0_off108 k) (k0_off108_inb k), rV arg4 X4 (k0_off110 k) (k0_off110_inb k), rV arg4 X4 (k0_off112 k) (k0_off112_inb k), rV arg4 X4 (k0_off114 k) (k0_off114_inb k), rV arg4 X4 (k0_off116 k) (k0_off116_inb k), rV arg4 X4 (k0_off118 k) (k0_off118_inb k), rV arg4 X4 (k0_off120 k) (k0_off120_inb k)] : Fin 8 → Vec F S64x512 .bf16) = fun c => vW (arg4.view.read (Elt F) X4) k.val hk 6 c := by
  funext c
  match c with
  | 0 => exact rV_eq _ _ _ _ _ hk 6 0 (k0_off106_eq k)
  | 1 => exact rV_eq _ _ _ _ _ hk 6 1 (k0_off108_eq k)
  | 2 => exact rV_eq _ _ _ _ _ hk 6 2 (k0_off110_eq k)
  | 3 => exact rV_eq _ _ _ _ _ hk 6 3 (k0_off112_eq k)
  | 4 => exact rV_eq _ _ _ _ _ hk 6 4 (k0_off114_eq k)
  | 5 => exact rV_eq _ _ _ _ _ hk 6 5 (k0_off116_eq k)
  | 6 => exact rV_eq _ _ _ _ _ hk 6 6 (k0_off118_eq k)
  | 7 => exact rV_eq _ _ _ _ _ hk 6 7 (k0_off120_eq k)

theorem tS_6 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off89 k) (k0_off89_inb k)) (rQ arg2 X2 ![768, 0] inb_S1024x512_S128x512_768_0)), slab (sc (rK arg3 X3 (k0_off91 k) (k0_off91_inb k)) (rQ arg2 X2 ![768, 0] inb_S1024x512_S128x512_768_0)), slab (sc (rK arg3 X3 (k0_off93 k) (k0_off93_inb k)) (rQ arg2 X2 ![768, 0] inb_S1024x512_S128x512_768_0)), slab (sc (rK arg3 X3 (k0_off95 k) (k0_off95_inb k)) (rQ arg2 X2 ![768, 0] inb_S1024x512_S128x512_768_0)), slab (sc (rK arg3 X3 (k0_off97 k) (k0_off97_inb k)) (rQ arg2 X2 ![768, 0] inb_S1024x512_S128x512_768_0)), slab (sc (rK arg3 X3 (k0_off99 k) (k0_off99_inb k)) (rQ arg2 X2 ![768, 0] inb_S1024x512_S128x512_768_0)), slab (sc (rK arg3 X3 (k0_off101 k) (k0_off101_inb k)) (rQ arg2 X2 ![768, 0] inb_S1024x512_S128x512_768_0)), slab (sc (rK arg3 X3 (k0_off103 k) (k0_off103_inb k)) (rQ arg2 X2 ![768, 0] inb_S1024x512_S128x512_768_0))] : Fin 8 → FVec F S1x512x512 .f32) = fun c => slab (sc (kW (arg3.view.read (Elt F) X3) k.val hk 6 c) (qW (arg2.view.read (Elt F) X2) 6)) := by
  rw [rQ_eq arg2 X2 ![768, 0] inb_S1024x512_S128x512_768_0 6 rfl]
  funext c
  match c with
  | 0 => exact congrArg (fun z => slab (sc z _)) (rK_eq _ _ _ _ _ hk 6 0 (k0_off89_eq k))
  | 1 => exact congrArg (fun z => slab (sc z _)) (rK_eq _ _ _ _ _ hk 6 1 (k0_off91_eq k))
  | 2 => exact congrArg (fun z => slab (sc z _)) (rK_eq _ _ _ _ _ hk 6 2 (k0_off93_eq k))
  | 3 => exact congrArg (fun z => slab (sc z _)) (rK_eq _ _ _ _ _ hk 6 3 (k0_off95_eq k))
  | 4 => exact congrArg (fun z => slab (sc z _)) (rK_eq _ _ _ _ _ hk 6 4 (k0_off97_eq k))
  | 5 => exact congrArg (fun z => slab (sc z _)) (rK_eq _ _ _ _ _ hk 6 5 (k0_off99_eq k))
  | 6 => exact congrArg (fun z => slab (sc z _)) (rK_eq _ _ _ _ _ hk 6 6 (k0_off101_eq k))
  | 7 => exact congrArg (fun z => slab (sc z _)) (rK_eq _ _ _ _ _ hk 6 7 (k0_off103_eq k))

theorem pm_6 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[1]? = some ⟨Rect.unit ![6, 0, 0] S1x1x512.size inb_S8x1x512_S1x1x512_6_0_0, mOut (xT (arg2.view.read (Elt F) X2) (arg3.view.read (Elt F) X3) k.val hk 6) (mW (arg8.view.read (Elt F) f8) 6)⟩ := by
  rw [piece_m6, kS_6 _ _ _ hk, rQ_eq arg2 X2 ![768, 0] inb_S1024x512_S128x512_768_0 6 rfl, rM_eq arg8 f8 ![6, 0, 0] inb_S8x1x512_S1x1x512_6_0_0 6 rfl]
  rfl

theorem pl_6 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[1]? = some ⟨Rect.unit ![6, 0, 0] S1x1x512.size inb_S8x1x512_S1x1x512_6_0_0, lOut (wT (arg2.view.read (Elt F) X2) (arg3.view.read (Elt F) X3) (arg4.view.read (Elt F) X4) k.val hk 6 (mW (arg8.view.read (Elt F) f8) 6)) (xT (arg2.view.read (Elt F) X2) (arg3.view.read (Elt F) X3) k.val hk 6) (mW (arg8.view.read (Elt F) f8) 6) (mW (arg9.view.read (Elt F) f9) 6)⟩ := by
  rw [piece_l6, tS_6 _ _ _ _ _ hk, vS_6 _ _ _ hk, kS_6 _ _ _ hk, rQ_eq arg2 X2 ![768, 0] inb_S1024x512_S128x512_768_0 6 rfl, rM_eq arg8 f8 ![6, 0, 0] inb_S8x1x512_S1x1x512_6_0_0 6 rfl, rM_eq arg9 f9 ![6, 0, 0] inb_S8x1x512_S1x1x512_6_0_0 6 rfl]
  rfl

theorem pa_6 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[1]? = some ⟨Rect.unit ![384, 0] S64x512.size inb_S512x512_S64x512_384_0, aOut (wT (arg2.view.read (Elt F) X2) (arg3.view.read (Elt F) X3) (arg4.view.read (Elt F) X4) k.val hk 6 (mW (arg8.view.read (Elt F) f8) 6)) (xT (arg2.view.read (Elt F) X2) (arg3.view.read (Elt F) X3) k.val hk 6) (mW (arg8.view.read (Elt F) f8) 6) (aW (arg10.view.read (Elt F) f10) 6)⟩ := by
  rw [piece_a6, tS_6 _ _ _ _ _ hk, vS_6 _ _ _ hk, kS_6 _ _ _ hk, rQ_eq arg2 X2 ![768, 0] inb_S1024x512_S128x512_768_0 6 rfl, rM_eq arg8 f8 ![6, 0, 0] inb_S8x1x512_S1x1x512_6_0_0 6 rfl, rA_eq arg10 f10 ![384, 0] inb_S512x512_S64x512_384_0 6 rfl]
  rfl

end Cert.KernelIdeal.Body

end
-- ==== Proof.Head7.lean ====
module

public import proofs.«01_k».proof.Proof.Gen.KernelIdeal.Loops
public import proofs.«01_k».proof.Proof.Win

@[expose] public section

set_option maxRecDepth 16384

noncomputable section

namespace Cert.KernelIdeal.Body

open Cert.KernelIdeal Cert.KernelIdeal.Gen Cert.KernelIdeal.Step Cert.KernelIdeal.Gen.trip_k0_t1.sl
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem slab_7_0 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2223 arg2 arg3 arg11 X2 X3 k = slab (sc (rK arg3 X3 (k0_off105 k) (k0_off105_inb k)) (rQ arg2 X2 ![896, 0] inb_S1024x512_S128x512_896_0)) := by
  unfold v2223
  simp (disch := decide) only [HW_arg11_57, HW_arg11_58, HW_arg11_59, HW_arg11_60, HW_arg11_61, HW_arg11_62, HW_arg11_63, HW_arg11_64, ↓ View.readCov_skip, ↓ View.readCov_cons_toLoadRect]
  rfl

theorem slab_7_1 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2235 arg2 arg3 arg11 X2 X3 k = slab (sc (rK arg3 X3 (k0_off107 k) (k0_off107_inb k)) (rQ arg2 X2 ![896, 0] inb_S1024x512_S128x512_896_0)) := by
  unfold v2235
  simp (disch := decide) only [HW_arg11_58, HW_arg11_59, HW_arg11_60, HW_arg11_61, HW_arg11_62, HW_arg11_63, HW_arg11_64, ↓ View.readCov_skip, ↓ View.readCov_cons_toLoadRect]
  rfl

theorem slab_7_2 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2248 arg2 arg3 arg11 X2 X3 k = slab (sc (rK arg3 X3 (k0_off109 k) (k0_off109_inb k)) (rQ arg2 X2 ![896, 0] inb_S1024x512_S128x512_896_0)) := by
  unfold v2248
  simp (disch := decide) only [HW_arg11_59, HW_arg11_60, HW_arg11_61, HW_arg11_62, HW_arg11_63, HW_arg11_64, ↓ View.readCov_skip, ↓ View.readCov_cons_toLoadRect]
  rfl

theorem slab_7_3 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2261 arg2 arg3 arg11 X2 X3 k = slab (sc (rK arg3 X3 (k0_off111 k) (k0_off111_inb k)) (rQ arg2 X2 ![896, 0] inb_S1024x512_S128x512_896_0)) := by
  unfold v2261
  simp (disch := decide) only [HW_arg11_60, HW_arg11_61, HW_arg11_62, HW_arg11_63, HW_arg11_64, ↓ View.readCov_skip, ↓ View.readCov_cons_toLoadRect]
  rfl

theorem slab_7_4 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2274 arg2 arg3 arg11 X2 X3 k = slab (sc (rK arg3 X3 (k0_off113 k) (k0_off113_inb k)) (rQ arg2 X2 ![896, 0] inb_S1024x512_S128x512_896_0)) := by
  unfold v2274
  simp (disch := decide) only [HW_arg11_61, HW_arg11_62, HW_arg11_63, HW_arg11_64, ↓ View.readCov_skip, ↓ View.readCov_cons_toLoadRect]
  rfl

theorem slab_7_5 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2287 arg2 arg3 arg11 X2 X3 k = slab (sc (rK arg3 X3 (k0_off115 k) (k0_off115_inb k)) (rQ arg2 X2 ![896, 0] inb_S1024x512_S128x512_896_0)) := by
  unfold v2287
  simp (disch := decide) only [HW_arg11_62, HW_arg11_63, HW_arg11_64, ↓ View.readCov_skip, ↓ View.readCov_cons_toLoadRect]
  rfl

theorem slab_7_6 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2300 arg2 arg3 arg11 X2 X3 k = slab (sc (rK arg3 X3 (k0_off117 k) (k0_off117_inb k)) (rQ arg2 X2 ![896, 0] inb_S1024x512_S128x512_896_0)) := by
  unfold v2300
  simp (disch := decide) only [HW_arg11_63, HW_arg11_64, ↓ View.readCov_skip, ↓ View.readCov_cons_toLoadRect]
  rfl

theorem slab_7_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) (arg11 : Memref sig .tc .vmem S2x4096x640 .f32) :
    v2313 arg2 arg3 arg11 X2 X3 k = slab (sc (rK arg3 X3 (k0_off119 k) (k0_off119_inb k)) (rQ arg2 X2 ![896, 0] inb_S1024x512_S128x512_896_0)) := by
  unfold v2313
  simp (disch := decide) only [HW_arg11_64, ↓ View.readCov_skip, ↓ View.readCov_cons_toLoadRect]
  rfl

theorem mx_7 (arg2 : Memref sig .tc .vmem S1024x512 .bf16) (arg3 : Memref sig .tc .vmem S8192x1024 .bf16) (X2 : BufTy.Contents (Elt F) arg2.view.ty) (X3 : BufTy.Contents (Elt F) arg3.view.ty) (k : Fin k0_t1_loop.trips) :
    r_137 arg2 arg3 X2 X3 k = mx (fun n => sc ((![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) n) (rQ arg2 X2 ![896, 0] inb_S1024x512_S128x512_896_0)) := by
  rfl

theorem piece_m7 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[0]? = some ⟨Rect.unit ![7, 0, 0] S1x1x512.size inb_S8x1x512_S1x1x512_7_0_0, mOut (mx (fun n => sc ((![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) n) (rQ arg2 X2 ![896, 0] inb_S1024x512_S128x512_896_0))) (rM arg8 f8 ![7, 0, 0] inb_S8x1x512_S1x1x512_7_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_7, slab_7_0, slab_7_1, slab_7_2, slab_7_3, slab_7_4, slab_7_5, slab_7_6, slab_7_7]
  generalize mx (F := F) _ = x
  rfl

theorem piece_l7 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[0]? = some ⟨Rect.unit ![7, 0, 0] S1x1x512.size inb_S8x1x512_S1x1x512_7_0_0, lOut (pv (ones (F := F)) (![slab (sc (rK arg3 X3 (k0_off105 k) (k0_off105_inb k)) (rQ arg2 X2 ![896, 0] inb_S1024x512_S128x512_896_0)), slab (sc (rK arg3 X3 (k0_off107 k) (k0_off107_inb k)) (rQ arg2 X2 ![896, 0] inb_S1024x512_S128x512_896_0)), slab (sc (rK arg3 X3 (k0_off109 k) (k0_off109_inb k)) (rQ arg2 X2 ![896, 0] inb_S1024x512_S128x512_896_0)), slab (sc (rK arg3 X3 (k0_off111 k) (k0_off111_inb k)) (rQ arg2 X2 ![896, 0] inb_S1024x512_S128x512_896_0)), slab (sc (rK arg3 X3 (k0_off113 k) (k0_off113_inb k)) (rQ arg2 X2 ![896, 0] inb_S1024x512_S128x512_896_0)), slab (sc (rK arg3 X3 (k0_off115 k) (k0_off115_inb k)) (rQ arg2 X2 ![896, 0] inb_S1024x512_S128x512_896_0)), slab (sc (rK arg3 X3 (k0_off117 k) (k0_off117_inb k)) (rQ arg2 X2 ![896, 0] inb_S1024x512_S128x512_896_0)), slab (sc (rK arg3 X3 (k0_off119 k) (k0_off119_inb k)) (rQ arg2 X2 ![896, 0] inb_S1024x512_S128x512_896_0))] : Fin 8 → FVec F S1x512x512 .f32) (![rV arg4 X4 (k0_off121 k) (k0_off121_inb k), rV arg4 X4 (k0_off122 k) (k0_off122_inb k), rV arg4 X4 (k0_off123 k) (k0_off123_inb k), rV arg4 X4 (k0_off124 k) (k0_off124_inb k), rV arg4 X4 (k0_off125 k) (k0_off125_inb k), rV arg4 X4 (k0_off126 k) (k0_off126_inb k), rV arg4 X4 (k0_off127 k) (k0_off127_inb k), rV arg4 X4 (k0_off128 k) (k0_off128_inb k)] : Fin 8 → Vec F S64x512 .bf16) (mNew (rM arg8 f8 ![7, 0, 0] inb_S8x1x512_S1x1x512_7_0_0) (mx (fun n => sc ((![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) n) (rQ arg2 X2 ![896, 0] inb_S1024x512_S128x512_896_0))))) (mx (fun n => sc ((![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) n) (rQ arg2 X2 ![896, 0] inb_S1024x512_S128x512_896_0))) (rM arg8 f8 ![7, 0, 0] inb_S8x1x512_S1x1x512_7_0_0) (rM arg9 f9 ![7, 0, 0] inb_S8x1x512_S1x1x512_7_0_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_7, slab_7_0, slab_7_1, slab_7_2, slab_7_3, slab_7_4, slab_7_5, slab_7_6, slab_7_7]
  generalize mx (F := F) _ = x
  rfl

theorem piece_a7 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[0]? = some ⟨Rect.unit ![448, 0] S64x512.size inb_S512x512_S64x512_448_0, aOut (pv (ones (F := F)) (![slab (sc (rK arg3 X3 (k0_off105 k) (k0_off105_inb k)) (rQ arg2 X2 ![896, 0] inb_S1024x512_S128x512_896_0)), slab (sc (rK arg3 X3 (k0_off107 k) (k0_off107_inb k)) (rQ arg2 X2 ![896, 0] inb_S1024x512_S128x512_896_0)), slab (sc (rK arg3 X3 (k0_off109 k) (k0_off109_inb k)) (rQ arg2 X2 ![896, 0] inb_S1024x512_S128x512_896_0)), slab (sc (rK arg3 X3 (k0_off111 k) (k0_off111_inb k)) (rQ arg2 X2 ![896, 0] inb_S1024x512_S128x512_896_0)), slab (sc (rK arg3 X3 (k0_off113 k) (k0_off113_inb k)) (rQ arg2 X2 ![896, 0] inb_S1024x512_S128x512_896_0)), slab (sc (rK arg3 X3 (k0_off115 k) (k0_off115_inb k)) (rQ arg2 X2 ![896, 0] inb_S1024x512_S128x512_896_0)), slab (sc (rK arg3 X3 (k0_off117 k) (k0_off117_inb k)) (rQ arg2 X2 ![896, 0] inb_S1024x512_S128x512_896_0)), slab (sc (rK arg3 X3 (k0_off119 k) (k0_off119_inb k)) (rQ arg2 X2 ![896, 0] inb_S1024x512_S128x512_896_0))] : Fin 8 → FVec F S1x512x512 .f32) (![rV arg4 X4 (k0_off121 k) (k0_off121_inb k), rV arg4 X4 (k0_off122 k) (k0_off122_inb k), rV arg4 X4 (k0_off123 k) (k0_off123_inb k), rV arg4 X4 (k0_off124 k) (k0_off124_inb k), rV arg4 X4 (k0_off125 k) (k0_off125_inb k), rV arg4 X4 (k0_off126 k) (k0_off126_inb k), rV arg4 X4 (k0_off127 k) (k0_off127_inb k), rV arg4 X4 (k0_off128 k) (k0_off128_inb k)] : Fin 8 → Vec F S64x512 .bf16) (mNew (rM arg8 f8 ![7, 0, 0] inb_S8x1x512_S1x1x512_7_0_0) (mx (fun n => sc ((![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) n) (rQ arg2 X2 ![896, 0] inb_S1024x512_S128x512_896_0))))) (mx (fun n => sc ((![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) n) (rQ arg2 X2 ![896, 0] inb_S1024x512_S128x512_896_0))) (rM arg8 f8 ![7, 0, 0] inb_S8x1x512_S1x1x512_7_0_0) (rA arg10 f10 ![448, 0] inb_S512x512_S64x512_448_0)⟩ := by
  unfold trip_k0_t1
  dsimp only
  simp only [List.getElem?_cons_succ, List.getElem?_cons_zero]
  refine congrArg some ?_
  refine congrArg (Sigma.mk _) ?_
  simp only [r_89, r_85, v442, r_129, r_7, r_2, r_36, r_140, r_12, r_3, r_111, r_133, v444, r_98, r_125, r_10, r_25, r_115, r_72, r_18, r_27, r_37, r_49, r_109, r_39, r_79, r_63, v1295, v440, r_43, r_87, r_9, v441, r_101, r_116, v1509, r_99, r_102, r_60, r_21, r_24, r_50, r_100, r_33, r_14, r_118, r_75, v2215, r_112, v1739, r_28, v445, r_22, r_136, v2199, r_53, r_29, r_91, r_78, r_51, r_110, r_4, r_31, r_76, r_19, r_40, r, r_142, r_108, r_69, r_55, r_105, r_124, r_44, r_20, r_131, r_114, r_88, r_94, r_41, r_80, r_93, r_48, r_145, r_104, v497, r_52, r_132, v2207, v499, r_119, r_81, r_90, v1517, v2326, r_121, r_144, r_84, r_106, r_6, v835, r_54, r_58, v439, r_65, r_107, r_70, r_134, r_15, r_77, r_141, r_96, r_32, r_16, r_8, r_92, r_13, r_126, v1065, r_66, r_67, r_35, r_23, r_122, r_135, r_117, r_38, r_45, r_73, v1755, v1287, r_57, r_11, r_113, v1049, r_46, r_34, r_146, v1969, r_62, r_17, r_59, r_42, v443, v1057, r_82, r_71, r_64, r_95, r_123, r_128, v496, v1977, r_138, r_130, v1747, r_1, v1525, r_139, r_30, r_83, r_61, v1279, v2334, r_143, r_56, v1985, r_74, r_97, r_127, v534, mx_7, slab_7_0, slab_7_1, slab_7_2, slab_7_3, slab_7_4, slab_7_5, slab_7_6, slab_7_7]
  generalize mx (F := F) _ = x
  rfl

theorem kS_7 (arg3 : Memref sig .tc .vmem S8192x1024 .bf16) (X3 : BufTy.Contents (Elt F) arg3.view.ty) (k : Fin k0_t1_loop.trips) (hk : k.val < 2) :
    (![rK arg3 X3 (k0_off105 k) (k0_off105_inb k), rK arg3 X3 (k0_off107 k) (k0_off107_inb k), rK arg3 X3 (k0_off109 k) (k0_off109_inb k), rK arg3 X3 (k0_off111 k) (k0_off111_inb k), rK arg3 X3 (k0_off113 k) (k0_off113_inb k), rK arg3 X3 (k0_off115 k) (k0_off115_inb k), rK arg3 X3 (k0_off117 k) (k0_off117_inb k), rK arg3 X3 (k0_off119 k) (k0_off119_inb k)] : Fin 8 → Vec F S512x128 .bf16) = fun c => kW (arg3.view.read (Elt F) X3) k.val hk 7 c := by
  funext c
  match c with
  | 0 => exact rK_eq _ _ _ _ _ hk 7 0 (k0_off105_eq k)
  | 1 => exact rK_eq _ _ _ _ _ hk 7 1 (k0_off107_eq k)
  | 2 => exact rK_eq _ _ _ _ _ hk 7 2 (k0_off109_eq k)
  | 3 => exact rK_eq _ _ _ _ _ hk 7 3 (k0_off111_eq k)
  | 4 => exact rK_eq _ _ _ _ _ hk 7 4 (k0_off113_eq k)
  | 5 => exact rK_eq _ _ _ _ _ hk 7 5 (k0_off115_eq k)
  | 6 => exact rK_eq _ _ _ _ _ hk 7 6 (k0_off117_eq k)
  | 7 => exact rK_eq _ _ _ _ _ hk 7 7 (k0_off119_eq k)

theorem vS_7 (arg4 : Memref sig .tc .vmem S512x8192 .bf16) (X4 : BufTy.Contents (Elt F) arg4.view.ty) (k : Fin k0_t1_loop.trips) (hk : k.val < 2) :
    (![rV arg4 X4 (k0_off121 k) (k0_off121_inb k), rV arg4 X4 (k0_off122 k) (k0_off122_inb k), rV arg4 X4 (k0_off123 k) (k0_off123_inb k), rV arg4 X4 (k0_off124 k) (k0_off124_inb k), rV arg4 X4 (k0_off125 k) (k0_off125_inb k), rV arg4 X4 (k0_off126 k) (k0_off126_inb k), rV arg4 X4 (k0_off127 k) (k0_off127_inb k), rV arg4 X4 (k0_off128 k) (k0_off128_inb k)] : Fin 8 → Vec F S64x512 .bf16) = fun c => vW (arg4.view.read (Elt F) X4) k.val hk 7 c := by
  funext c
  match c with
  | 0 => exact rV_eq _ _ _ _ _ hk 7 0 (k0_off121_eq k)
  | 1 => exact rV_eq _ _ _ _ _ hk 7 1 (k0_off122_eq k)
  | 2 => exact rV_eq _ _ _ _ _ hk 7 2 (k0_off123_eq k)
  | 3 => exact rV_eq _ _ _ _ _ hk 7 3 (k0_off124_eq k)
  | 4 => exact rV_eq _ _ _ _ _ hk 7 4 (k0_off125_eq k)
  | 5 => exact rV_eq _ _ _ _ _ hk 7 5 (k0_off126_eq k)
  | 6 => exact rV_eq _ _ _ _ _ hk 7 6 (k0_off127_eq k)
  | 7 => exact rV_eq _ _ _ _ _ hk 7 7 (k0_off128_eq k)

theorem tS_7 (arg2 : Memref sig .tc .vmem S1024x512 .bf16) (X2 : BufTy.Contents (Elt F) arg2.view.ty) (arg3 : Memref sig .tc .vmem S8192x1024 .bf16) (X3 : BufTy.Contents (Elt F) arg3.view.ty) (k : Fin k0_t1_loop.trips) (hk : k.val < 2) :
    (![slab (sc (rK arg3 X3 (k0_off105 k) (k0_off105_inb k)) (rQ arg2 X2 ![896, 0] inb_S1024x512_S128x512_896_0)), slab (sc (rK arg3 X3 (k0_off107 k) (k0_off107_inb k)) (rQ arg2 X2 ![896, 0] inb_S1024x512_S128x512_896_0)), slab (sc (rK arg3 X3 (k0_off109 k) (k0_off109_inb k)) (rQ arg2 X2 ![896, 0] inb_S1024x512_S128x512_896_0)), slab (sc (rK arg3 X3 (k0_off111 k) (k0_off111_inb k)) (rQ arg2 X2 ![896, 0] inb_S1024x512_S128x512_896_0)), slab (sc (rK arg3 X3 (k0_off113 k) (k0_off113_inb k)) (rQ arg2 X2 ![896, 0] inb_S1024x512_S128x512_896_0)), slab (sc (rK arg3 X3 (k0_off115 k) (k0_off115_inb k)) (rQ arg2 X2 ![896, 0] inb_S1024x512_S128x512_896_0)), slab (sc (rK arg3 X3 (k0_off117 k) (k0_off117_inb k)) (rQ arg2 X2 ![896, 0] inb_S1024x512_S128x512_896_0)), slab (sc (rK arg3 X3 (k0_off119 k) (k0_off119_inb k)) (rQ arg2 X2 ![896, 0] inb_S1024x512_S128x512_896_0))] : Fin 8 → FVec F S1x512x512 .f32) = fun c => slab (sc (kW (arg3.view.read (Elt F) X3) k.val hk 7 c) (qW (arg2.view.read (Elt F) X2) 7)) := by
  rw [rQ_eq arg2 X2 ![896, 0] inb_S1024x512_S128x512_896_0 7 rfl]
  funext c
  match c with
  | 0 => exact congrArg (fun z => slab (sc z _)) (rK_eq _ _ _ _ _ hk 7 0 (k0_off105_eq k))
  | 1 => exact congrArg (fun z => slab (sc z _)) (rK_eq _ _ _ _ _ hk 7 1 (k0_off107_eq k))
  | 2 => exact congrArg (fun z => slab (sc z _)) (rK_eq _ _ _ _ _ hk 7 2 (k0_off109_eq k))
  | 3 => exact congrArg (fun z => slab (sc z _)) (rK_eq _ _ _ _ _ hk 7 3 (k0_off111_eq k))
  | 4 => exact congrArg (fun z => slab (sc z _)) (rK_eq _ _ _ _ _ hk 7 4 (k0_off113_eq k))
  | 5 => exact congrArg (fun z => slab (sc z _)) (rK_eq _ _ _ _ _ hk 7 5 (k0_off115_eq k))
  | 6 => exact congrArg (fun z => slab (sc z _)) (rK_eq _ _ _ _ _ hk 7 6 (k0_off117_eq k))
  | 7 => exact congrArg (fun z => slab (sc z _)) (rK_eq _ _ _ _ _ hk 7 7 (k0_off119_eq k))

theorem pm_7 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)[0]? = some ⟨Rect.unit ![7, 0, 0] S1x1x512.size inb_S8x1x512_S1x1x512_7_0_0, mOut (xT (arg2.view.read (Elt F) X2) (arg3.view.read (Elt F) X3) k.val hk 7) (mW (arg8.view.read (Elt F) f8) 7)⟩ := by
  rw [piece_m7, kS_7 _ _ _ hk, rQ_eq arg2 X2 ![896, 0] inb_S1024x512_S128x512_896_0 7 rfl, rM_eq arg8 f8 ![7, 0, 0] inb_S8x1x512_S1x1x512_7_0_0 7 rfl]
  rfl

theorem pl_7 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)[0]? = some ⟨Rect.unit ![7, 0, 0] S1x1x512.size inb_S8x1x512_S1x1x512_7_0_0, lOut (wT (arg2.view.read (Elt F) X2) (arg3.view.read (Elt F) X3) (arg4.view.read (Elt F) X4) k.val hk 7 (mW (arg8.view.read (Elt F) f8) 7)) (xT (arg2.view.read (Elt F) X2) (arg3.view.read (Elt F) X3) k.val hk 7) (mW (arg8.view.read (Elt F) f8) 7) (mW (arg9.view.read (Elt F) f9) 7)⟩ := by
  rw [piece_l7, tS_7 _ _ _ _ _ hk, vS_7 _ _ _ hk, kS_7 _ _ _ hk, rQ_eq arg2 X2 ![896, 0] inb_S1024x512_S128x512_896_0 7 rfl, rM_eq arg8 f8 ![7, 0, 0] inb_S8x1x512_S1x1x512_7_0_0 7 rfl, rM_eq arg9 f9 ![7, 0, 0] inb_S8x1x512_S1x1x512_7_0_0 7 rfl]
  rfl

theorem pa_7 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)[0]? = some ⟨Rect.unit ![448, 0] S64x512.size inb_S512x512_S64x512_448_0, aOut (wT (arg2.view.read (Elt F) X2) (arg3.view.read (Elt F) X3) (arg4.view.read (Elt F) X4) k.val hk 7 (mW (arg8.view.read (Elt F) f8) 7)) (xT (arg2.view.read (Elt F) X2) (arg3.view.read (Elt F) X3) k.val hk 7) (mW (arg8.view.read (Elt F) f8) 7) (aW (arg10.view.read (Elt F) f10) 7)⟩ := by
  rw [piece_a7, tS_7 _ _ _ _ _ hk, vS_7 _ _ _ hk, kS_7 _ _ _ hk, rQ_eq arg2 X2 ![896, 0] inb_S1024x512_S128x512_896_0 7 rfl, rM_eq arg8 f8 ![7, 0, 0] inb_S8x1x512_S1x1x512_7_0_0 7 rfl, rA_eq arg10 f10 ![448, 0] inb_S512x512_S64x512_448_0 7 rfl]
  rfl

end Cert.KernelIdeal.Body

end
-- ==== Proof.Trip.lean ====
/- One trip of the loop: the eight heads' stores, put together, are the step on whole arrays. -/
module

public import proofs.«01_k».proof.Proof.Head0
public import proofs.«01_k».proof.Proof.Head1
public import proofs.«01_k».proof.Proof.Head2
public import proofs.«01_k».proof.Proof.Head3
public import proofs.«01_k».proof.Proof.Head4
public import proofs.«01_k».proof.Proof.Head5
public import proofs.«01_k».proof.Proof.Head6
public import proofs.«01_k».proof.Proof.Head7
public import Idealize.ShloMosaic.Lib.WritesUnit

@[expose] public section

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.ShloMosaic.ValueIdx
open Idealize.SL Idealize.SL.RA Idealize.SL.BI
open Idealize.SL.BI.BIBase Idealize.SL.BI.Laws Idealize.SL.ProofMode Idealize.SL.Sem

variable {F : FTy → Type} [FloatOps F]

/-- A list of eight known elements. -/
theorem eq_of_eight {α : Type} {L T : List α} (hl : L.length = 8) (ht : T.length = 8) (h : ∀ i : Fin 8, L[7 - i.val]? = T[7 - i.val]?) : L = T := by
  refine List.ext_getElem? fun i => ?_
  by_cases hi : i < 8
  · have := h ⟨7 - i, by omega⟩
    have e : 7 - (7 - i) = i := by omega
    simpa only [e] using this
  · rw [List.getElem?_eq_none (by omega), List.getElem?_eq_none (by omega)]

/-- Eight stores, one in each head's row, read back. -/
theorem read_rows (b : Memref sig .tc .vmem S8x1x512 .f32) (f : BufTy.Contents (Elt F) b.view.ty) (L : List (View.Piece (Elt F) S8x1x512 .f32))
    (P : Fin 8 → FVec F S1x1x512 .f32) (inb : ∀ (h : Fin 8) a, (![h.val, 0, 0] : Fin 3 → ℕ) a + S1x1x512.size a ≤ S8x1x512.size a)
    (hl : L.length = 8) (hL : ∀ h : Fin 8, L[7 - h.val]? = some ⟨Rect.unit (s := S8x1x512) ![h.val, 0, 0] S1x1x512.size (inb h), P h⟩) :
    b.view.read (Elt F) (b.view.writes (Elt F) f L) = fun y => P (y 0) (ix3 0 (y 1) (y 2)) := by
  have e : L = View.tilePieces (Val := Elt F) (s := S8x1x512) S1x1x512.size (fun h : Fin 8 => ![h.val, 0, 0]) inb P 8 le_rfl := by
    refine eq_of_eight hl rfl fun h => ?_
    rw [hL h]
    match h with
    | 0 => rfl
    | 1 => rfl
    | 2 => rfl
    | 3 => rfl
    | 4 => rfl
    | 5 => rfl
    | 6 => rfl
    | 7 => rfl
  funext y
  rw [e]
  refine View.read_tilePieces b.view f S1x1x512.size (fun h : Fin 8 => ![h.val, 0, 0]) inb P 8 le_rfl y (y 0) (y 0).isLt
    (ix3 0 (y 1) (y 2)) (fun a => ?_) 0 (fun i' hi' => ?_)
  · match a with
    | ⟨0, _⟩ => exact (Nat.add_zero _).symm
    | ⟨1, _⟩ => exact (Nat.zero_add _).symm
    | ⟨2, _⟩ => exact (Nat.zero_add _).symm
  · have : i'.val ≠ (y 0).val := fun h => hi' (Fin.ext h)
    show (y 0).val < i'.val ∨ i'.val + 1 ≤ (y 0).val
    omega

/-- Eight stores, one in each head's 64 rows, read back. -/
theorem read_blocks (b : Memref sig .tc .vmem S512x512 .f32) (f : BufTy.Contents (Elt F) b.view.ty) (L : List (View.Piece (Elt F) S512x512 .f32))
    (P : Fin 8 → FVec F S64x512 .f32) (inb : ∀ (h : Fin 8) a, (![64 * h.val, 0] : Fin 2 → ℕ) a + S64x512.size a ≤ S512x512.size a)
    (hl : L.length = 8) (hL : ∀ h : Fin 8, L[7 - h.val]? = some ⟨Rect.unit (s := S512x512) ![64 * h.val, 0] S64x512.size (inb h), P h⟩) :
    b.view.read (Elt F) (b.view.writes (Elt F) f L) = fun y => P (hd y) (ix2 (rw64 y) (y 1)) := by
  have e : L = View.tilePieces (Val := Elt F) (s := S512x512) S64x512.size (fun h : Fin 8 => ![64 * h.val, 0]) inb P 8 le_rfl := by
    refine eq_of_eight hl rfl fun h => ?_
    rw [hL h]
    match h with
    | 0 => rfl
    | 1 => rfl
    | 2 => rfl
    | 3 => rfl
    | 4 => rfl
    | 5 => rfl
    | 6 => rfl
    | 7 => rfl
  funext y
  rw [e]
  refine View.read_tilePieces b.view f S64x512.size (fun h : Fin 8 => ![64 * h.val, 0]) inb P 8 le_rfl y (hd y) (hd y).isLt
    (ix2 (rw64 y) (y 1)) (fun a => ?_) 0 (fun i' hi' => ?_)
  · match a with
    | ⟨0, _⟩ => exact (Nat.div_add_mod (y 0).val 64).symm
    | ⟨1, _⟩ => exact (Nat.zero_add _).symm
  · have : i'.val ≠ (y 0).val / 64 := fun h => hi' (Fin.ext h)
    show (y 0).val < 64 * i'.val ∨ 64 * i'.val + 64 ≤ (y 0).val
    omega

theorem trip_m (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    arg8.view.read (Elt F) (arg8.view.writes (Elt F) f8 ((trip_k0_t1 𝒱 c bd i arg2 harg2 arg3 harg3 arg4 harg4 arg5 harg5 arg6 harg6 arg7 harg7 arg8 harg8 arg9 harg9 arg10 harg10 arg11 harg11 X2 X3 X4 k).1 f8 f9 f10 f11)) = stepM (arg2.view.read (Elt F) X2) (arg3.view.read (Elt F) X3) k.val hk (arg8.view.read (Elt F) f8) :=
  read_rows arg8 f8 _ (fun h => mOut (xT (arg2.view.read (Elt F) X2) (arg3.view.read (Elt F) X3) k.val hk h) (mW (arg8.view.read (Elt F) f8) h)) (by decide)
    (by unfold trip_k0_t1; rfl)
    (fun h => match h with
      | 0 => pm_0 𝒱 c bd i arg2 harg2 arg3 harg3 arg4 harg4 arg5 harg5 arg6 harg6 arg7 harg7 arg8 harg8 arg9 harg9 arg10 harg10 arg11 harg11 X2 X3 X4 k f8 f9 f10 f11 hk
      | 1 => pm_1 𝒱 c bd i arg2 harg2 arg3 harg3 arg4 harg4 arg5 harg5 arg6 harg6 arg7 harg7 arg8 harg8 arg9 harg9 arg10 harg10 arg11 harg11 X2 X3 X4 k f8 f9 f10 f11 hk
      | 2 => pm_2 𝒱 c bd i arg2 harg2 arg3 harg3 arg4 harg4 arg5 harg5 arg6 harg6 arg7 harg7 arg8 harg8 arg9 harg9 arg10 harg10 arg11 harg11 X2 X3 X4 k f8 f9 f10 f11 hk
      | 3 => pm_3 𝒱 c bd i arg2 harg2 arg3 harg3 arg4 harg4 arg5 harg5 arg6 harg6 arg7 harg7 arg8 harg8 arg9 harg9 arg10 harg10 arg11 harg11 X2 X3 X4 k f8 f9 f10 f11 hk
      | 4 => pm_4 𝒱 c bd i arg2 harg2 arg3 harg3 arg4 harg4 arg5 harg5 arg6 harg6 arg7 harg7 arg8 harg8 arg9 harg9 arg10 harg10 arg11 harg11 X2 X3 X4 k f8 f9 f10 f11 hk
      | 5 => pm_5 𝒱 c bd i arg2 harg2 arg3 harg3 arg4 harg4 arg5 harg5 arg6 harg6 arg7 harg7 arg8 harg8 arg9 harg9 arg10 harg10 arg11 harg11 X2 X3 X4 k f8 f9 f10 f11 hk
      | 6 => pm_6 𝒱 c bd i arg2 harg2 arg3 harg3 arg4 harg4 arg5 harg5 arg6 harg6 arg7 harg7 arg8 harg8 arg9 harg9 arg10 harg10 arg11 harg11 X2 X3 X4 k f8 f9 f10 f11 hk
      | 7 => pm_7 𝒱 c bd i arg2 harg2 arg3 harg3 arg4 harg4 arg5 harg5 arg6 harg6 arg7 harg7 arg8 harg8 arg9 harg9 arg10 harg10 arg11 harg11 X2 X3 X4 k f8 f9 f10 f11 hk)

theorem trip_l (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    arg9.view.read (Elt F) (arg9.view.writes (Elt F) f9 ((trip_k0_t1 𝒱 c bd i arg2 harg2 arg3 harg3 arg4 harg4 arg5 harg5 arg6 harg6 arg7 harg7 arg8 harg8 arg9 harg9 arg10 harg10 arg11 harg11 X2 X3 X4 k).2.1 f8 f9 f10 f11)) = stepL (arg2.view.read (Elt F) X2) (arg3.view.read (Elt F) X3) (arg4.view.read (Elt F) X4) k.val hk (arg8.view.read (Elt F) f8) (arg9.view.read (Elt F) f9) :=
  read_rows arg9 f9 _ (fun h => lOut (wT (arg2.view.read (Elt F) X2) (arg3.view.read (Elt F) X3) (arg4.view.read (Elt F) X4) k.val hk h (mW (arg8.view.read (Elt F) f8) h)) (xT (arg2.view.read (Elt F) X2) (arg3.view.read (Elt F) X3) k.val hk h) (mW (arg8.view.read (Elt F) f8) h) (mW (arg9.view.read (Elt F) f9) h)) (by decide)
    (by unfold trip_k0_t1; rfl)
    (fun h => match h with
      | 0 => pl_0 𝒱 c bd i arg2 harg2 arg3 harg3 arg4 harg4 arg5 harg5 arg6 harg6 arg7 harg7 arg8 harg8 arg9 harg9 arg10 harg10 arg11 harg11 X2 X3 X4 k f8 f9 f10 f11 hk
      | 1 => pl_1 𝒱 c bd i arg2 harg2 arg3 harg3 arg4 harg4 arg5 harg5 arg6 harg6 arg7 harg7 arg8 harg8 arg9 harg9 arg10 harg10 arg11 harg11 X2 X3 X4 k f8 f9 f10 f11 hk
      | 2 => pl_2 𝒱 c bd i arg2 harg2 arg3 harg3 arg4 harg4 arg5 harg5 arg6 harg6 arg7 harg7 arg8 harg8 arg9 harg9 arg10 harg10 arg11 harg11 X2 X3 X4 k f8 f9 f10 f11 hk
      | 3 => pl_3 𝒱 c bd i arg2 harg2 arg3 harg3 arg4 harg4 arg5 harg5 arg6 harg6 arg7 harg7 arg8 harg8 arg9 harg9 arg10 harg10 arg11 harg11 X2 X3 X4 k f8 f9 f10 f11 hk
      | 4 => pl_4 𝒱 c bd i arg2 harg2 arg3 harg3 arg4 harg4 arg5 harg5 arg6 harg6 arg7 harg7 arg8 harg8 arg9 harg9 arg10 harg10 arg11 harg11 X2 X3 X4 k f8 f9 f10 f11 hk
      | 5 => pl_5 𝒱 c bd i arg2 harg2 arg3 harg3 arg4 harg4 arg5 harg5 arg6 harg6 arg7 harg7 arg8 harg8 arg9 harg9 arg10 harg10 arg11 harg11 X2 X3 X4 k f8 f9 f10 f11 hk
      | 6 => pl_6 𝒱 c bd i arg2 harg2 arg3 harg3 arg4 harg4 arg5 harg5 arg6 harg6 arg7 harg7 arg8 harg8 arg9 harg9 arg10 harg10 arg11 harg11 X2 X3 X4 k f8 f9 f10 f11 hk
      | 7 => pl_7 𝒱 c bd i arg2 harg2 arg3 harg3 arg4 harg4 arg5 harg5 arg6 harg6 arg7 harg7 arg8 harg8 arg9 harg9 arg10 harg10 arg11 harg11 X2 X3 X4 k f8 f9 f10 f11 hk)

theorem trip_a (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (hk : k.val < 2) :
    arg10.view.read (Elt F) (arg10.view.writes (Elt F) f10 ((trip_k0_t1 𝒱 c bd i arg2 harg2 arg3 harg3 arg4 harg4 arg5 harg5 arg6 harg6 arg7 harg7 arg8 harg8 arg9 harg9 arg10 harg10 arg11 harg11 X2 X3 X4 k).2.2.1 f8 f9 f10 f11)) = stepA (arg2.view.read (Elt F) X2) (arg3.view.read (Elt F) X3) (arg4.view.read (Elt F) X4) k.val hk (arg8.view.read (Elt F) f8) (arg10.view.read (Elt F) f10) :=
  read_blocks arg10 f10 _ (fun h => aOut (wT (arg2.view.read (Elt F) X2) (arg3.view.read (Elt F) X3) (arg4.view.read (Elt F) X4) k.val hk h (mW (arg8.view.read (Elt F) f8) h)) (xT (arg2.view.read (Elt F) X2) (arg3.view.read (Elt F) X3) k.val hk h) (mW (arg8.view.read (Elt F) f8) h) (aW (arg10.view.read (Elt F) f10) h)) (by decide)
    (by unfold trip_k0_t1; rfl)
    (fun h => match h with
      | 0 => pa_0 𝒱 c bd i arg2 harg2 arg3 harg3 arg4 harg4 arg5 harg5 arg6 harg6 arg7 harg7 arg8 harg8 arg9 harg9 arg10 harg10 arg11 harg11 X2 X3 X4 k f8 f9 f10 f11 hk
      | 1 => pa_1 𝒱 c bd i arg2 harg2 arg3 harg3 arg4 harg4 arg5 harg5 arg6 harg6 arg7 harg7 arg8 harg8 arg9 harg9 arg10 harg10 arg11 harg11 X2 X3 X4 k f8 f9 f10 f11 hk
      | 2 => pa_2 𝒱 c bd i arg2 harg2 arg3 harg3 arg4 harg4 arg5 harg5 arg6 harg6 arg7 harg7 arg8 harg8 arg9 harg9 arg10 harg10 arg11 harg11 X2 X3 X4 k f8 f9 f10 f11 hk
      | 3 => pa_3 𝒱 c bd i arg2 harg2 arg3 harg3 arg4 harg4 arg5 harg5 arg6 harg6 arg7 harg7 arg8 harg8 arg9 harg9 arg10 harg10 arg11 harg11 X2 X3 X4 k f8 f9 f10 f11 hk
      | 4 => pa_4 𝒱 c bd i arg2 harg2 arg3 harg3 arg4 harg4 arg5 harg5 arg6 harg6 arg7 harg7 arg8 harg8 arg9 harg9 arg10 harg10 arg11 harg11 X2 X3 X4 k f8 f9 f10 f11 hk
      | 5 => pa_5 𝒱 c bd i arg2 harg2 arg3 harg3 arg4 harg4 arg5 harg5 arg6 harg6 arg7 harg7 arg8 harg8 arg9 harg9 arg10 harg10 arg11 harg11 X2 X3 X4 k f8 f9 f10 f11 hk
      | 6 => pa_6 𝒱 c bd i arg2 harg2 arg3 harg3 arg4 harg4 arg5 harg5 arg6 harg6 arg7 harg7 arg8 harg8 arg9 harg9 arg10 harg10 arg11 harg11 X2 X3 X4 k f8 f9 f10 f11 hk
      | 7 => pa_7 𝒱 c bd i arg2 harg2 arg3 harg3 arg4 harg4 arg5 harg5 arg6 harg6 arg7 harg7 arg8 harg8 arg9 harg9 arg10 harg10 arg11 harg11 X2 X3 X4 k f8 f9 f10 f11 hk)

end Cert.KernelIdeal.Body

end
-- ==== Proof.RunV.lean ====
/- The kernel's body, run on whole buffers: what it leaves in the result's buffer, as a function of the inputs and of what
   the four scratch buffers held at the start (which turns out not to matter: `Value.lean`). -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body's run: the pieces written to the result's buffer (a function of the scratch buffers' first contents), and the
    triple. -/
def runV (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole)
    (x0 : Vec F S1024x512 .bf16) (x1 : Vec F S8192x1024 .bf16) (x2 : Vec F S512x8192 .bf16) (x3 : Vec F S256x1024 .bf16) (x4 : Vec F S512x256 .bf16) :
    { L : BufTy.Contents (Elt F) arg8.view.ty → BufTy.Contents (Elt F) arg9.view.ty → BufTy.Contents (Elt F) arg10.view.ty → BufTy.Contents (Elt F) arg11.view.ty → List (View.Piece (Elt F) S512x512 .bf16) //
      ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (L f8 f9 f10 f11)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attn i arg2 harg2 arg3 harg3 arg4 harg4 arg5 harg5 arg6 harg6 arg7 harg7 arg8 harg8 arg9 harg9 arg10 harg10 arg11 harg11) K } := by
  refine ⟨?_, fun E f8 f9 f10 f11 K => ?run⟩
  case run =>
    simp only [cc0_mla_attn_eq_skeleton]; unfold cc0_mla_attn_skel
    simp only [k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HS0, HS1, HS2, HS3, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.Ctx.lean ====
module

public import proofs.«01_k».proof.Proof.RunV
public import proofs.«01_k».proof.Proof.Reads

@[expose] public section

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

/-- The writes of the running maximum over the loop, -/
def L8 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) : List (View.Piece (Elt F) S8x1x512 .f32) :=
  (pb_k0_t1 Variants.none c none i arg2 harg2 arg3 harg3 arg4 harg4 arg5 harg5 arg6 harg6 arg7 harg7 arg8 harg8 arg9 harg9 arg10 harg10 arg11 harg11 (harg2.unread x0) (harg3.unread x1) (harg4.unread x2) (arg8.view.writes (Elt F) arg8.view.junk [⟨Rect.unit ![0, 0, 0] S8x1x512.size inb_S8x1x512_S8x1x512_0_0_0, k0_pay314⟩]) (arg9.view.writes (Elt F) arg9.view.junk [⟨Rect.unit ![0, 0, 0] S8x1x512.size inb_S8x1x512_S8x1x512_0_0_0, k0_pay315⟩]) (arg10.view.writes (Elt F) arg10.view.junk [⟨Rect.unit ![0, 0] S512x512.size inb_S512x512_S512x512_0_0, k0_pay316⟩]) f11 (Scf.trips k0_t1_loop.lb k0_t1_loop.ub k0_t1_loop.st)).1 ++ [⟨Rect.unit ![0, 0, 0] S8x1x512.size inb_S8x1x512_S8x1x512_0_0_0, k0_pay314⟩]

/-- of the running weight, -/
def L9 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) : List (View.Piece (Elt F) S8x1x512 .f32) :=
  (pb_k0_t1 Variants.none c none i arg2 harg2 arg3 harg3 arg4 harg4 arg5 harg5 arg6 harg6 arg7 harg7 arg8 harg8 arg9 harg9 arg10 harg10 arg11 harg11 (harg2.unread x0) (harg3.unread x1) (harg4.unread x2) (arg8.view.writes (Elt F) arg8.view.junk [⟨Rect.unit ![0, 0, 0] S8x1x512.size inb_S8x1x512_S8x1x512_0_0_0, k0_pay314⟩]) (arg9.view.writes (Elt F) arg9.view.junk [⟨Rect.unit ![0, 0, 0] S8x1x512.size inb_S8x1x512_S8x1x512_0_0_0, k0_pay315⟩]) (arg10.view.writes (Elt F) arg10.view.junk [⟨Rect.unit ![0, 0] S512x512.size inb_S512x512_S512x512_0_0, k0_pay316⟩]) f11 (Scf.trips k0_t1_loop.lb k0_t1_loop.ub k0_t1_loop.st)).2.1 ++ [⟨Rect.unit ![0, 0, 0] S8x1x512.size inb_S8x1x512_S8x1x512_0_0_0, k0_pay315⟩]

/-- and of the running weighted values. -/
def L10 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) : List (View.Piece (Elt F) S512x512 .f32) :=
  (pb_k0_t1 Variants.none c none i arg2 harg2 arg3 harg3 arg4 harg4 arg5 harg5 arg6 harg6 arg7 harg7 arg8 harg8 arg9 harg9 arg10 harg10 arg11 harg11 (harg2.unread x0) (harg3.unread x1) (harg4.unread x2) (arg8.view.writes (Elt F) arg8.view.junk [⟨Rect.unit ![0, 0, 0] S8x1x512.size inb_S8x1x512_S8x1x512_0_0_0, k0_pay314⟩]) (arg9.view.writes (Elt F) arg9.view.junk [⟨Rect.unit ![0, 0, 0] S8x1x512.size inb_S8x1x512_S8x1x512_0_0_0, k0_pay315⟩]) (arg10.view.writes (Elt F) arg10.view.junk [⟨Rect.unit ![0, 0] S512x512.size inb_S512x512_S512x512_0_0, k0_pay316⟩]) f11 (Scf.trips k0_t1_loop.lb k0_t1_loop.ub k0_t1_loop.st)).2.2.1 ++ [⟨Rect.unit ![0, 0] S512x512.size inb_S512x512_S512x512_0_0, k0_pay316⟩]

theorem c_v29 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) :
    runV.sl.v29 c i arg2 harg2 arg3 harg3 arg4 harg4 arg5 harg5 arg6 harg6 arg7 harg7 arg8 harg8 arg9 harg9 arg10 harg10 arg11 harg11 x0 x1 x2 f11 = cM arg8 (L8 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0 := by
  unfold runV.sl.v29
  rfl

theorem c_v47 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v47 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 0] inb_S256x1024_S256x128_0_0) (rQ arg2 (harg2.unread x0) ![0, 0] inb_S1024x512_S128x512_0_0)) := by
  unfold runV.sl.v47
  simp (disch := decide) only [runV.sl.HS3_2, ↓ View.readCov_skip, ↓ View.readCov_cons_toLoadRect]
  rfl

theorem c_v57 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) :
    runV.sl.v57 c i arg2 harg2 arg3 harg3 arg4 harg4 arg5 harg5 arg6 harg6 arg7 harg7 arg8 harg8 arg9 harg9 arg10 harg10 arg11 harg11 x0 x1 x2 f11 = cM arg9 (L9 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0 := by
  unfold runV.sl.v57
  rfl

theorem c_v65 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) :
    runV.sl.v65 c i arg2 harg2 arg3 harg3 arg4 harg4 arg5 harg5 arg6 harg6 arg7 harg7 arg8 harg8 arg9 harg9 arg10 harg10 arg11 harg11 x0 x1 x2 f11 = cA arg10 (L10 c i arg2 harg2 arg3 harg3 arg4 harg4 arg5 harg5 arg6 harg6 arg7 harg7 arg8 harg8 arg9 harg9 arg10 harg10 arg11 harg11 x0 x1 x2 f11) ![0, 0] inb_S512x512_S64x512_0_0 := by
  unfold runV.sl.v65
  rfl

theorem c_v73 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v73 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0 := by
  unfold runV.sl.v73
  simp (disch := decide) only [runV.sl.HS0_1_1, ↓ View.readCov_skip]
  rfl

theorem c_v91 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v91 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 128] inb_S256x1024_S256x128_0_128) (rQ arg2 (harg2.unread x0) ![128, 0] inb_S1024x512_S128x512_128_0)) := by
  unfold runV.sl.v91
  simp (disch := decide) only [runV.sl.HS3_3, runV.sl.HS3_2, ↓ View.readCov_skip, ↓ View.readCov_cons_toLoadRect]
  rfl

theorem c_v101 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v101 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0 := by
  unfold runV.sl.v101
  simp (disch := decide) only [runV.sl.HS1_1_1, ↓ View.readCov_skip]
  rfl

theorem c_v109 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v109 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![64, 0] inb_S512x512_S64x512_64_0 := by
  unfold runV.sl.v109
  simp (disch := decide) only [runV.sl.HS2_1_1, ↓ View.readCov_skip]
  rfl

theorem c_v117 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v117 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0 := by
  unfold runV.sl.v117
  simp (disch := decide) only [runV.sl.HS0_1_1, runV.sl.HS0_2, ↓ View.readCov_skip]
  rfl

theorem c_v135 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v135 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 256] inb_S256x1024_S256x128_0_256) (rQ arg2 (harg2.unread x0) ![256, 0] inb_S1024x512_S128x512_256_0)) := by
  unfold runV.sl.v135
  simp (disch := decide) only [runV.sl.HS3_3, runV.sl.HS3_4, ↓ View.readCov_skip, ↓ View.readCov_cons_toLoadRect]
  rfl

theorem c_v145 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v145 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0 := by
  unfold runV.sl.v145
  simp (disch := decide) only [runV.sl.HS1_2, runV.sl.HS1_1_1, ↓ View.readCov_skip]
  rfl

theorem c_v153 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v153 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![128, 0] inb_S512x512_S64x512_128_0 := by
  unfold runV.sl.v153
  simp (disch := decide) only [runV.sl.HS2_1_1, runV.sl.HS2_2, ↓ View.readCov_skip]
  rfl

theorem c_v161 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v161 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0 := by
  unfold runV.sl.v161
  simp (disch := decide) only [runV.sl.HS0_3, runV.sl.HS0_1_1, runV.sl.HS0_2, ↓ View.readCov_skip]
  rfl

theorem c_v179 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v179 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 384] inb_S256x1024_S256x128_0_384) (rQ arg2 (harg2.unread x0) ![384, 0] inb_S1024x512_S128x512_384_0)) := by
  unfold runV.sl.v179
  simp (disch := decide) only [runV.sl.HS3_5, runV.sl.HS3_4, ↓ View.readCov_skip, ↓ View.readCov_cons_toLoadRect]
  rfl

theorem c_v189 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v189 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0 := by
  unfold runV.sl.v189
  simp (disch := decide) only [runV.sl.HS1_2, runV.sl.HS1_1_1, runV.sl.HS1_3, ↓ View.readCov_skip]
  rfl

theorem c_v197 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v197 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![192, 0] inb_S512x512_S64x512_192_0 := by
  unfold runV.sl.v197
  simp (disch := decide) only [runV.sl.HS2_1_1, runV.sl.HS2_3, runV.sl.HS2_2, ↓ View.readCov_skip]
  rfl

theorem c_v205 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v205 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0 := by
  unfold runV.sl.v205
  simp (disch := decide) only [runV.sl.HS0_3, runV.sl.HS0_1_1, runV.sl.HS0_2, runV.sl.HS0_4, ↓ View.readCov_skip]
  rfl

theorem c_v223 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v223 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 512] inb_S256x1024_S256x128_0_512) (rQ arg2 (harg2.unread x0) ![512, 0] inb_S1024x512_S128x512_512_0)) := by
  unfold runV.sl.v223
  simp (disch := decide) only [runV.sl.HS3_5, runV.sl.HS3_6, ↓ View.readCov_skip, ↓ View.readCov_cons_toLoadRect]
  rfl

theorem c_v233 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v233 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0 := by
  unfold runV.sl.v233
  simp (disch := decide) only [runV.sl.HS1_4, runV.sl.HS1_2, runV.sl.HS1_1_1, runV.sl.HS1_3, ↓ View.readCov_skip]
  rfl

theorem c_v241 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v241 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![256, 0] inb_S512x512_S64x512_256_0 := by
  unfold runV.sl.v241
  simp (disch := decide) only [runV.sl.HS2_4, runV.sl.HS2_1_1, runV.sl.HS2_3, runV.sl.HS2_2, ↓ View.readCov_skip]
  rfl

theorem c_v249 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v249 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0 := by
  unfold runV.sl.v249
  simp (disch := decide) only [runV.sl.HS0_3, runV.sl.HS0_1_1, runV.sl.HS0_2, runV.sl.HS0_4, runV.sl.HS0_5, ↓ View.readCov_skip]
  rfl

theorem c_v267 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v267 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 640] inb_S256x1024_S256x128_0_640) (rQ arg2 (harg2.unread x0) ![640, 0] inb_S1024x512_S128x512_640_0)) := by
  unfold runV.sl.v267
  simp (disch := decide) only [runV.sl.HS3_6, runV.sl.HS3_7, ↓ View.readCov_skip, ↓ View.readCov_cons_toLoadRect]
  rfl

theorem c_v277 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v277 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0 := by
  unfold runV.sl.v277
  simp (disch := decide) only [runV.sl.HS1_5, runV.sl.HS1_4, runV.sl.HS1_2, runV.sl.HS1_1_1, runV.sl.HS1_3, ↓ View.readCov_skip]
  rfl

theorem c_v285 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v285 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![320, 0] inb_S512x512_S64x512_320_0 := by
  unfold runV.sl.v285
  simp (disch := decide) only [runV.sl.HS2_5, runV.sl.HS2_4, runV.sl.HS2_1_1, runV.sl.HS2_3, runV.sl.HS2_2, ↓ View.readCov_skip]
  rfl

theorem c_v293 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v293 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0 := by
  unfold runV.sl.v293
  simp (disch := decide) only [runV.sl.HS0_3, runV.sl.HS0_6, runV.sl.HS0_1_1, runV.sl.HS0_2, runV.sl.HS0_4, runV.sl.HS0_5, ↓ View.readCov_skip]
  rfl

theorem c_v311 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v311 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 768] inb_S256x1024_S256x128_0_768) (rQ arg2 (harg2.unread x0) ![768, 0] inb_S1024x512_S128x512_768_0)) := by
  unfold runV.sl.v311
  simp (disch := decide) only [runV.sl.HS3_8, runV.sl.HS3_7, ↓ View.readCov_skip, ↓ View.readCov_cons_toLoadRect]
  rfl

theorem c_v321 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v321 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0 := by
  unfold runV.sl.v321
  simp (disch := decide) only [runV.sl.HS1_5, runV.sl.HS1_6, runV.sl.HS1_4, runV.sl.HS1_2, runV.sl.HS1_1_1, runV.sl.HS1_3, ↓ View.readCov_skip]
  rfl

theorem c_v329 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v329 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![384, 0] inb_S512x512_S64x512_384_0 := by
  unfold runV.sl.v329
  simp (disch := decide) only [runV.sl.HS2_5, runV.sl.HS2_4, runV.sl.HS2_1_1, runV.sl.HS2_3, runV.sl.HS2_6, runV.sl.HS2_2, ↓ View.readCov_skip]
  rfl

theorem c_v337 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v337 c i arg2 harg2 arg3 harg3 arg4 harg4 arg5 harg5 arg6 harg6 arg7 harg7 arg8 harg8 arg9 harg9 arg10 harg10 arg11 harg11 x0 x1 x2 x3 f11 = cM arg8 (L8 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0 := by
  unfold runV.sl.v337
  simp (disch := decide) only [runV.sl.HS0_3, runV.sl.HS0_6, runV.sl.HS0_1_1, runV.sl.HS0_2, runV.sl.HS0_4, runV.sl.HS0_5, runV.sl.HS0_7, ↓ View.readCov_skip]
  rfl

theorem c_v345 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (f11 : BufTy.Contents (Elt F) arg11.view.ty) :
    runV.sl.v345 c i arg2 harg2 arg3 harg3 arg4 harg4 arg5 harg5 arg6 harg6 arg7 harg7 arg8 harg8 arg9 harg9 arg10 harg10 arg11 harg11 x0 x1 x2 x3 f11 = slabC (scC (rKC arg5 (harg5.unread x3) ![0, 896] inb_S256x1024_S256x128_0_896) (rQ arg2 (harg2.unread x0) ![896, 0] inb_S1024x512_S128x512_896_0)) := by
  unfold runV.sl.v345
  simp (disch := decide) only [runV.sl.HS3_8, ↓ View.readCov_skip, ↓ View.readCov_cons_toLoadRect]
  rfl

theorem c_v355 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v355 c i arg2 harg2 arg3 harg3 arg4 harg4 arg5 harg5 arg6 harg6 arg7 harg7 arg8 harg8 arg9 harg9 arg10 harg10 arg11 harg11 x0 x1 x2 x3 x4 f11 = cM arg9 (L9 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0 := by
  unfold runV.sl.v355
  simp (disch := decide) only [runV.sl.HS1_7, runV.sl.HS1_5, runV.sl.HS1_6, runV.sl.HS1_4, runV.sl.HS1_2, runV.sl.HS1_1_1, runV.sl.HS1_3, ↓ View.readCov_skip]
  rfl

theorem c_v363 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v363 c i arg2 harg2 arg3 harg3 arg4 harg4 arg5 harg5 arg6 harg6 arg7 harg7 arg8 harg8 arg9 harg9 arg10 harg10 arg11 harg11 x0 x1 x2 x3 x4 f11 = cA arg10 (L10 c i arg2 harg2 arg3 harg3 arg4 harg4 arg5 harg5 arg6 harg6 arg7 harg7 arg8 harg8 arg9 harg9 arg10 harg10 arg11 harg11 x0 x1 x2 f11) ![448, 0] inb_S512x512_S64x512_448_0 := by
  unfold runV.sl.v363
  simp (disch := decide) only [runV.sl.HS2_5, runV.sl.HS2_4, runV.sl.HS2_1_1, runV.sl.HS2_3, runV.sl.HS2_6, runV.sl.HS2_2, runV.sl.HS2_7, ↓ View.readCov_skip]
  rfl

theorem fin_0 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[7]? = some ⟨Rect.unit ![0, 0] S64x512.size inb_S512x512_S64x512_0_0, fin (aOut (pvC (onesC (F := F)) (rVC arg6 (harg6.unread x4) ![0, 0] inb_S512x256_S64x256_0_0) (prC (mNew (cM arg8 (L8 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0) (cmxC (scC (rKC arg5 (harg5.unread x3) ![0, 0] inb_S256x1024_S256x128_0_0) (rQ arg2 (harg2.unread x0) ![0, 0] inb_S1024x512_S128x512_0_0)))) (slabC (scC (rKC arg5 (harg5.unread x3) ![0, 0] inb_S256x1024_S256x128_0_0) (rQ arg2 (harg2.unread x0) ![0, 0] inb_S1024x512_S128x512_0_0))))) (cmxC (scC (rKC arg5 (harg5.unread x3) ![0, 0] inb_S256x1024_S256x128_0_0) (rQ arg2 (harg2.unread x0) ![0, 0] inb_S1024x512_S128x512_0_0))) (cM arg8 (L8 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0) (cA arg10 (L10 c i arg2 harg2 arg3 harg3 arg4 harg4 arg5 harg5 arg6 harg6 arg7 harg7 arg8 harg8 arg9 harg9 arg10 harg10 arg11 harg11 x0 x1 x2 f11) ![0, 0] inb_S512x512_S64x512_0_0)) (lOut (pvC (onesC (F := F)) (rVC arg6 (harg6.unread x4) ![0, 0] inb_S512x256_S64x256_0_0) (prC (mNew (cM arg8 (L8 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0) (cmxC (scC (rKC arg5 (harg5.unread x3) ![0, 0] inb_S256x1024_S256x128_0_0) (rQ arg2 (harg2.unread x0) ![0, 0] inb_S1024x512_S128x512_0_0)))) (slabC (scC (rKC arg5 (harg5.unread x3) ![0, 0] inb_S256x1024_S256x128_0_0) (rQ arg2 (harg2.unread x0) ![0, 0] inb_S1024x512_S128x512_0_0))))) (cmxC (scC (rKC arg5 (harg5.unread x3) ![0, 0] inb_S256x1024_S256x128_0_0) (rQ arg2 (harg2.unread x0) ![0, 0] inb_S1024x512_S128x512_0_0))) (cM arg8 (L8 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0) (cM arg9 (L9 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp (disch := decide) only [runV.sl.v371, runV.sl.v372, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_1 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[6]? = some ⟨Rect.unit ![64, 0] S64x512.size inb_S512x512_S64x512_64_0, fin (aOut (pvC (onesC (F := F)) (rVC arg6 (harg6.unread x4) ![64, 0] inb_S512x256_S64x256_64_0) (prC (mNew (cM arg8 (L8 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0) (cmxC (scC (rKC arg5 (harg5.unread x3) ![0, 128] inb_S256x1024_S256x128_0_128) (rQ arg2 (harg2.unread x0) ![128, 0] inb_S1024x512_S128x512_128_0)))) (slabC (scC (rKC arg5 (harg5.unread x3) ![0, 128] inb_S256x1024_S256x128_0_128) (rQ arg2 (harg2.unread x0) ![128, 0] inb_S1024x512_S128x512_128_0))))) (cmxC (scC (rKC arg5 (harg5.unread x3) ![0, 128] inb_S256x1024_S256x128_0_128) (rQ arg2 (harg2.unread x0) ![128, 0] inb_S1024x512_S128x512_128_0))) (cM arg8 (L8 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0) (cA arg10 (L10 c i arg2 harg2 arg3 harg3 arg4 harg4 arg5 harg5 arg6 harg6 arg7 harg7 arg8 harg8 arg9 harg9 arg10 harg10 arg11 harg11 x0 x1 x2 f11) ![64, 0] inb_S512x512_S64x512_64_0)) (lOut (pvC (onesC (F := F)) (rVC arg6 (harg6.unread x4) ![64, 0] inb_S512x256_S64x256_64_0) (prC (mNew (cM arg8 (L8 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0) (cmxC (scC (rKC arg5 (harg5.unread x3) ![0, 128] inb_S256x1024_S256x128_0_128) (rQ arg2 (harg2.unread x0) ![128, 0] inb_S1024x512_S128x512_128_0)))) (slabC (scC (rKC arg5 (harg5.unread x3) ![0, 128] inb_S256x1024_S256x128_0_128) (rQ arg2 (harg2.unread x0) ![128, 0] inb_S1024x512_S128x512_128_0))))) (cmxC (scC (rKC arg5 (harg5.unread x3) ![0, 128] inb_S256x1024_S256x128_0_128) (rQ arg2 (harg2.unread x0) ![128, 0] inb_S1024x512_S128x512_128_0))) (cM arg8 (L8 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0) (cM arg9 (L9 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp (disch := decide) only [runV.sl.v379, runV.sl.v380, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_2 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[5]? = some ⟨Rect.unit ![128, 0] S64x512.size inb_S512x512_S64x512_128_0, fin (aOut (pvC (onesC (F := F)) (rVC arg6 (harg6.unread x4) ![128, 0] inb_S512x256_S64x256_128_0) (prC (mNew (cM arg8 (L8 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0) (cmxC (scC (rKC arg5 (harg5.unread x3) ![0, 256] inb_S256x1024_S256x128_0_256) (rQ arg2 (harg2.unread x0) ![256, 0] inb_S1024x512_S128x512_256_0)))) (slabC (scC (rKC arg5 (harg5.unread x3) ![0, 256] inb_S256x1024_S256x128_0_256) (rQ arg2 (harg2.unread x0) ![256, 0] inb_S1024x512_S128x512_256_0))))) (cmxC (scC (rKC arg5 (harg5.unread x3) ![0, 256] inb_S256x1024_S256x128_0_256) (rQ arg2 (harg2.unread x0) ![256, 0] inb_S1024x512_S128x512_256_0))) (cM arg8 (L8 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0) (cA arg10 (L10 c i arg2 harg2 arg3 harg3 arg4 harg4 arg5 harg5 arg6 harg6 arg7 harg7 arg8 harg8 arg9 harg9 arg10 harg10 arg11 harg11 x0 x1 x2 f11) ![128, 0] inb_S512x512_S64x512_128_0)) (lOut (pvC (onesC (F := F)) (rVC arg6 (harg6.unread x4) ![128, 0] inb_S512x256_S64x256_128_0) (prC (mNew (cM arg8 (L8 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0) (cmxC (scC (rKC arg5 (harg5.unread x3) ![0, 256] inb_S256x1024_S256x128_0_256) (rQ arg2 (harg2.unread x0) ![256, 0] inb_S1024x512_S128x512_256_0)))) (slabC (scC (rKC arg5 (harg5.unread x3) ![0, 256] inb_S256x1024_S256x128_0_256) (rQ arg2 (harg2.unread x0) ![256, 0] inb_S1024x512_S128x512_256_0))))) (cmxC (scC (rKC arg5 (harg5.unread x3) ![0, 256] inb_S256x1024_S256x128_0_256) (rQ arg2 (harg2.unread x0) ![256, 0] inb_S1024x512_S128x512_256_0))) (cM arg8 (L8 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0) (cM arg9 (L9 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp only [runV.sl.r_32]
  simp (disch := decide) only [runV.sl.v387, runV.sl.v388, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_3 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[4]? = some ⟨Rect.unit ![192, 0] S64x512.size inb_S512x512_S64x512_192_0, fin (aOut (pvC (onesC (F := F)) (rVC arg6 (harg6.unread x4) ![192, 0] inb_S512x256_S64x256_192_0) (prC (mNew (cM arg8 (L8 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0) (cmxC (scC (rKC arg5 (harg5.unread x3) ![0, 384] inb_S256x1024_S256x128_0_384) (rQ arg2 (harg2.unread x0) ![384, 0] inb_S1024x512_S128x512_384_0)))) (slabC (scC (rKC arg5 (harg5.unread x3) ![0, 384] inb_S256x1024_S256x128_0_384) (rQ arg2 (harg2.unread x0) ![384, 0] inb_S1024x512_S128x512_384_0))))) (cmxC (scC (rKC arg5 (harg5.unread x3) ![0, 384] inb_S256x1024_S256x128_0_384) (rQ arg2 (harg2.unread x0) ![384, 0] inb_S1024x512_S128x512_384_0))) (cM arg8 (L8 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0) (cA arg10 (L10 c i arg2 harg2 arg3 harg3 arg4 harg4 arg5 harg5 arg6 harg6 arg7 harg7 arg8 harg8 arg9 harg9 arg10 harg10 arg11 harg11 x0 x1 x2 f11) ![192, 0] inb_S512x512_S64x512_192_0)) (lOut (pvC (onesC (F := F)) (rVC arg6 (harg6.unread x4) ![192, 0] inb_S512x256_S64x256_192_0) (prC (mNew (cM arg8 (L8 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0) (cmxC (scC (rKC arg5 (harg5.unread x3) ![0, 384] inb_S256x1024_S256x128_0_384) (rQ arg2 (harg2.unread x0) ![384, 0] inb_S1024x512_S128x512_384_0)))) (slabC (scC (rKC arg5 (harg5.unread x3) ![0, 384] inb_S256x1024_S256x128_0_384) (rQ arg2 (harg2.unread x0) ![384, 0] inb_S1024x512_S128x512_384_0))))) (cmxC (scC (rKC arg5 (harg5.unread x3) ![0, 384] inb_S256x1024_S256x128_0_384) (rQ arg2 (harg2.unread x0) ![384, 0] inb_S1024x512_S128x512_384_0))) (cM arg8 (L8 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0) (cM arg9 (L9 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp (disch := decide) only [runV.sl.v395, runV.sl.v396, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_4 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[3]? = some ⟨Rect.unit ![256, 0] S64x512.size inb_S512x512_S64x512_256_0, fin (aOut (pvC (onesC (F := F)) (rVC arg6 (harg6.unread x4) ![256, 0] inb_S512x256_S64x256_256_0) (prC (mNew (cM arg8 (L8 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0) (cmxC (scC (rKC arg5 (harg5.unread x3) ![0, 512] inb_S256x1024_S256x128_0_512) (rQ arg2 (harg2.unread x0) ![512, 0] inb_S1024x512_S128x512_512_0)))) (slabC (scC (rKC arg5 (harg5.unread x3) ![0, 512] inb_S256x1024_S256x128_0_512) (rQ arg2 (harg2.unread x0) ![512, 0] inb_S1024x512_S128x512_512_0))))) (cmxC (scC (rKC arg5 (harg5.unread x3) ![0, 512] inb_S256x1024_S256x128_0_512) (rQ arg2 (harg2.unread x0) ![512, 0] inb_S1024x512_S128x512_512_0))) (cM arg8 (L8 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0) (cA arg10 (L10 c i arg2 harg2 arg3 harg3 arg4 harg4 arg5 harg5 arg6 harg6 arg7 harg7 arg8 harg8 arg9 harg9 arg10 harg10 arg11 harg11 x0 x1 x2 f11) ![256, 0] inb_S512x512_S64x512_256_0)) (lOut (pvC (onesC (F := F)) (rVC arg6 (harg6.unread x4) ![256, 0] inb_S512x256_S64x256_256_0) (prC (mNew (cM arg8 (L8 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0) (cmxC (scC (rKC arg5 (harg5.unread x3) ![0, 512] inb_S256x1024_S256x128_0_512) (rQ arg2 (harg2.unread x0) ![512, 0] inb_S1024x512_S128x512_512_0)))) (slabC (scC (rKC arg5 (harg5.unread x3) ![0, 512] inb_S256x1024_S256x128_0_512) (rQ arg2 (harg2.unread x0) ![512, 0] inb_S1024x512_S128x512_512_0))))) (cmxC (scC (rKC arg5 (harg5.unread x3) ![0, 512] inb_S256x1024_S256x128_0_512) (rQ arg2 (harg2.unread x0) ![512, 0] inb_S1024x512_S128x512_512_0))) (cM arg8 (L8 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0) (cM arg9 (L9 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp (disch := decide) only [runV.sl.v403, runV.sl.v404, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_5 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[2]? = some ⟨Rect.unit ![320, 0] S64x512.size inb_S512x512_S64x512_320_0, fin (aOut (pvC (onesC (F := F)) (rVC arg6 (harg6.unread x4) ![320, 0] inb_S512x256_S64x256_320_0) (prC (mNew (cM arg8 (L8 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0) (cmxC (scC (rKC arg5 (harg5.unread x3) ![0, 640] inb_S256x1024_S256x128_0_640) (rQ arg2 (harg2.unread x0) ![640, 0] inb_S1024x512_S128x512_640_0)))) (slabC (scC (rKC arg5 (harg5.unread x3) ![0, 640] inb_S256x1024_S256x128_0_640) (rQ arg2 (harg2.unread x0) ![640, 0] inb_S1024x512_S128x512_640_0))))) (cmxC (scC (rKC arg5 (harg5.unread x3) ![0, 640] inb_S256x1024_S256x128_0_640) (rQ arg2 (harg2.unread x0) ![640, 0] inb_S1024x512_S128x512_640_0))) (cM arg8 (L8 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0) (cA arg10 (L10 c i arg2 harg2 arg3 harg3 arg4 harg4 arg5 harg5 arg6 harg6 arg7 harg7 arg8 harg8 arg9 harg9 arg10 harg10 arg11 harg11 x0 x1 x2 f11) ![320, 0] inb_S512x512_S64x512_320_0)) (lOut (pvC (onesC (F := F)) (rVC arg6 (harg6.unread x4) ![320, 0] inb_S512x256_S64x256_320_0) (prC (mNew (cM arg8 (L8 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0) (cmxC (scC (rKC arg5 (harg5.unread x3) ![0, 640] inb_S256x1024_S256x128_0_640) (rQ arg2 (harg2.unread x0) ![640, 0] inb_S1024x512_S128x512_640_0)))) (slabC (scC (rKC arg5 (harg5.unread x3) ![0, 640] inb_S256x1024_S256x128_0_640) (rQ arg2 (harg2.unread x0) ![640, 0] inb_S1024x512_S128x512_640_0))))) (cmxC (scC (rKC arg5 (harg5.unread x3) ![0, 640] inb_S256x1024_S256x128_0_640) (rQ arg2 (harg2.unread x0) ![640, 0] inb_S1024x512_S128x512_640_0))) (cM arg8 (L8 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0) (cM arg9 (L9 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp (disch := decide) only [runV.sl.v411, runV.sl.v412, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_6 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[1]? = some ⟨Rect.unit ![384, 0] S64x512.size inb_S512x512_S64x512_384_0, fin (aOut (pvC (onesC (F := F)) (rVC arg6 (harg6.unread x4) ![384, 0] inb_S512x256_S64x256_384_0) (prC (mNew (cM arg8 (L8 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0) (cmxC (scC (rKC arg5 (harg5.unread x3) ![0, 768] inb_S256x1024_S256x128_0_768) (rQ arg2 (harg2.unread x0) ![768, 0] inb_S1024x512_S128x512_768_0)))) (slabC (scC (rKC arg5 (harg5.unread x3) ![0, 768] inb_S256x1024_S256x128_0_768) (rQ arg2 (harg2.unread x0) ![768, 0] inb_S1024x512_S128x512_768_0))))) (cmxC (scC (rKC arg5 (harg5.unread x3) ![0, 768] inb_S256x1024_S256x128_0_768) (rQ arg2 (harg2.unread x0) ![768, 0] inb_S1024x512_S128x512_768_0))) (cM arg8 (L8 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0) (cA arg10 (L10 c i arg2 harg2 arg3 harg3 arg4 harg4 arg5 harg5 arg6 harg6 arg7 harg7 arg8 harg8 arg9 harg9 arg10 harg10 arg11 harg11 x0 x1 x2 f11) ![384, 0] inb_S512x512_S64x512_384_0)) (lOut (pvC (onesC (F := F)) (rVC arg6 (harg6.unread x4) ![384, 0] inb_S512x256_S64x256_384_0) (prC (mNew (cM arg8 (L8 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0) (cmxC (scC (rKC arg5 (harg5.unread x3) ![0, 768] inb_S256x1024_S256x128_0_768) (rQ arg2 (harg2.unread x0) ![768, 0] inb_S1024x512_S128x512_768_0)))) (slabC (scC (rKC arg5 (harg5.unread x3) ![0, 768] inb_S256x1024_S256x128_0_768) (rQ arg2 (harg2.unread x0) ![768, 0] inb_S1024x512_S128x512_768_0))))) (cmxC (scC (rKC arg5 (harg5.unread x3) ![0, 768] inb_S256x1024_S256x128_0_768) (rQ arg2 (harg2.unread x0) ![768, 0] inb_S1024x512_S128x512_768_0))) (cM arg8 (L8 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0) (cM arg9 (L9 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp only [runV.sl.r_33]
  simp (disch := decide) only [runV.sl.v419, runV.sl.v420, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

theorem fin_7 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[0]? = some ⟨Rect.unit ![448, 0] S64x512.size inb_S512x512_S64x512_448_0, fin (aOut (pvC (onesC (F := F)) (rVC arg6 (harg6.unread x4) ![448, 0] inb_S512x256_S64x256_448_0) (prC (mNew (cM arg8 (L8 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0) (cmxC (scC (rKC arg5 (harg5.unread x3) ![0, 896] inb_S256x1024_S256x128_0_896) (rQ arg2 (harg2.unread x0) ![896, 0] inb_S1024x512_S128x512_896_0)))) (slabC (scC (rKC arg5 (harg5.unread x3) ![0, 896] inb_S256x1024_S256x128_0_896) (rQ arg2 (harg2.unread x0) ![896, 0] inb_S1024x512_S128x512_896_0))))) (cmxC (scC (rKC arg5 (harg5.unread x3) ![0, 896] inb_S256x1024_S256x128_0_896) (rQ arg2 (harg2.unread x0) ![896, 0] inb_S1024x512_S128x512_896_0))) (cM arg8 (L8 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0) (cA arg10 (L10 c i arg2 harg2 arg3 harg3 arg4 harg4 arg5 harg5 arg6 harg6 arg7 harg7 arg8 harg8 arg9 harg9 arg10 harg10 arg11 harg11 x0 x1 x2 f11) ![448, 0] inb_S512x512_S64x512_448_0)) (lOut (pvC (onesC (F := F)) (rVC arg6 (harg6.unread x4) ![448, 0] inb_S512x256_S64x256_448_0) (prC (mNew (cM arg8 (L8 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0) (cmxC (scC (rKC arg5 (harg5.unread x3) ![0, 896] inb_S256x1024_S256x128_0_896) (rQ arg2 (harg2.unread x0) ![896, 0] inb_S1024x512_S128x512_896_0)))) (slabC (scC (rKC arg5 (harg5.unread x3) ![0, 896] inb_S256x1024_S256x128_0_896) (rQ arg2 (harg2.unread x0) ![896, 0] inb_S1024x512_S128x512_896_0))))) (cmxC (scC (rKC arg5 (harg5.unread x3) ![0, 896] inb_S256x1024_S256x128_0_896) (rQ arg2 (harg2.unread x0) ![896, 0] inb_S1024x512_S128x512_896_0))) (cM arg8 (L8 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0) (cM arg9 (L9 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0))⟩ := by
  simp only [runV.sl.HS2_9, runV.sl.HS2_10, runV.sl.HS2_11, runV.sl.HS2_12, runV.sl.HS2_13, runV.sl.HS2_14, runV.sl.HS2_15, runV.sl.HS2_16, List.getElem?_cons_succ, List.getElem?_cons_zero]
  refine congrArg some ?_
  refine congrArg (Sigma.mk _) ?_
  simp (disch := decide) only [runV.sl.v427, runV.sl.v428, runV.sl.HS1_1, runV.sl.HS1_1_1, runV.sl.HS1_2, runV.sl.HS1_3, runV.sl.HS1_4, runV.sl.HS1_5, runV.sl.HS1_6, runV.sl.HS1_7, runV.sl.HS1_8, runV.sl.HS2_1, runV.sl.HS2_10, runV.sl.HS2_11, runV.sl.HS2_12, runV.sl.HS2_13, runV.sl.HS2_14, runV.sl.HS2_15, runV.sl.HS2_16, runV.sl.HS2_1_1, runV.sl.HS2_2, runV.sl.HS2_3, runV.sl.HS2_4, runV.sl.HS2_5, runV.sl.HS2_6, runV.sl.HS2_7, runV.sl.HS2_8, runV.sl.HS2_9, ↓ View.readCov_skip, ↓ View.readCov_cons_toLoadRect]
  simp only [runV.sl.r_1, runV.sl.r_2, runV.sl.r_3, runV.sl.r_4, runV.sl.r_5, runV.sl.r_6, runV.sl.r_7, runV.sl.r_8, runV.sl.r_9, runV.sl.r_10, runV.sl.r_11, runV.sl.r_12, runV.sl.r_13, runV.sl.r_14, runV.sl.r_15, runV.sl.r_16, runV.sl.r_17, runV.sl.r_18, runV.sl.r_19, runV.sl.r_20, runV.sl.r_21, runV.sl.r_22, runV.sl.r_23, runV.sl.r_24, runV.sl.r_25, runV.sl.r_26, runV.sl.r_27, runV.sl.r_28, runV.sl.r_29, runV.sl.r_30, runV.sl.r_31, runV.sl.r_32, runV.sl.r_33, runV.sl.r, c_v29, c_v47, c_v57, c_v65, c_v73, c_v91, c_v101, c_v109, c_v117, c_v135, c_v145, c_v153, c_v161, c_v179, c_v189, c_v197, c_v205, c_v223, c_v233, c_v241, c_v249, c_v267, c_v277, c_v285, c_v293, c_v311, c_v321, c_v329, c_v337, c_v345, c_v355, c_v363]
  rfl

end Cert.KernelIdeal.Body

end
-- ==== Proof.Tile.lean ====
/- The two trips of the loop, the context step and the division: what the body leaves, on whole arrays. -/
module

public import proofs.«01_k».proof.Proof.Trip
public import proofs.«01_k».proof.Proof.Ctx

@[expose] public section

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.ShloMosaic.ValueIdx
open Idealize.SL Idealize.SL.RA Idealize.SL.BI
open Idealize.SL.BI.BIBase Idealize.SL.BI.Laws Idealize.SL.ProofMode Idealize.SL.Sem

variable {F : FTy → Type} [FloatOps F]

/-- After the first trip. -/
theorem loop1 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (G11 : BufTy.Contents (Elt F) arg11.view.ty) :
    arg8.view.read (Elt F) (arg8.view.writes (Elt F) G8 (pb_k0_t1 𝒱 c bd i arg2 harg2 arg3 harg3 arg4 harg4 arg5 harg5 arg6 harg6 arg7 harg7 arg8 harg8 arg9 harg9 arg10 harg10 arg11 harg11 X2 X3 X4 G8 G9 G10 G11 1).1) = (stepM (arg2.view.read (Elt F) X2) (arg3.view.read (Elt F) X3) 0 (by decide) (arg8.view.read (Elt F) G8))
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 arg11 harg11 X2 X3 X4 G8 G9 G10 G11 1).2.1) = (stepL (arg2.view.read (Elt F) X2) (arg3.view.read (Elt F) X3) (arg4.view.read (Elt F) X4) 0 (by decide) (arg8.view.read (Elt F) G8) (arg9.view.read (Elt F) G9))
    ∧ arg10.view.read (Elt F) (arg10.view.writes (Elt F) G10 (pb_k0_t1 𝒱 c bd i arg2 harg2 arg3 harg3 arg4 harg4 arg5 harg5 arg6 harg6 arg7 harg7 arg8 harg8 arg9 harg9 arg10 harg10 arg11 harg11 X2 X3 X4 G8 G9 G10 G11 1).2.2.1) = (stepA (arg2.view.read (Elt F) X2) (arg3.view.read (Elt F) X3) (arg4.view.read (Elt F) X4) 0 (by decide) (arg8.view.read (Elt F) G8) (arg10.view.read (Elt F) G10)) := by
  have e := pb_k0_t1_succ 𝒱 c bd i arg2 harg2 arg3 harg3 arg4 harg4 arg5 harg5 arg6 harg6 arg7 harg7 arg8 harg8 arg9 harg9 arg10 harg10 arg11 harg11 X2 X3 X4 G8 G9 G10 G11 ⟨0, by decide⟩
  have e0 : (pb_k0_t1 𝒱 c bd i arg2 harg2 arg3 harg3 arg4 harg4 arg5 harg5 arg6 harg6 arg7 harg7 arg8 harg8 arg9 harg9 arg10 harg10 arg11 harg11 X2 X3 X4 G8 G9 G10 G11 0) = ([], [], [], []) := pb_k0_t1.eq_1 𝒱 c bd i arg2 harg2 arg3 harg3 arg4 harg4 arg5 harg5 arg6 harg6 arg7 harg7 arg8 harg8 arg9 harg9 arg10 harg10 arg11 harg11 X2 X3 X4 G8 G9 G10 G11
  rw [show (⟨0, by decide⟩ : Fin k0_t1_loop.trips).val = 0 from rfl, e0] at e
  rw [show (0 : ℕ) + 1 = 1 from rfl] at e
  rw [e]
  dsimp only
  simp only [View.writes_nil, List.append_nil]
  exact ⟨trip_m 𝒱 c bd i arg2 harg2 arg3 harg3 arg4 harg4 arg5 harg5 arg6 harg6 arg7 harg7 arg8 harg8 arg9 harg9 arg10 harg10 arg11 harg11 X2 X3 X4 ⟨0, by decide⟩ G8 G9 G10 G11 (by decide),
    trip_l 𝒱 c bd i arg2 harg2 arg3 harg3 arg4 harg4 arg5 harg5 arg6 harg6 arg7 harg7 arg8 harg8 arg9 harg9 arg10 harg10 arg11 harg11 X2 X3 X4 ⟨0, by decide⟩ G8 G9 G10 G11 (by decide),
    trip_a 𝒱 c bd i arg2 harg2 arg3 harg3 arg4 harg4 arg5 harg5 arg6 harg6 arg7 harg7 arg8 harg8 arg9 harg9 arg10 harg10 arg11 harg11 X2 X3 X4 ⟨0, by decide⟩ G8 G9 G10 G11 (by decide)⟩

set_option maxHeartbeats 2000000 in
/-- After the second. -/
theorem loop2 (𝒱 : Variants) (c : Dev nD) (bd : Option 𝒱.V) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (X2 : BufTy.Contents (Elt F) arg2.view.ty) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (G11 : BufTy.Contents (Elt F) arg11.view.ty) :
    arg8.view.read (Elt F) (arg8.view.writes (Elt F) G8 (pb_k0_t1 𝒱 c bd i arg2 harg2 arg3 harg3 arg4 harg4 arg5 harg5 arg6 harg6 arg7 harg7 arg8 harg8 arg9 harg9 arg10 harg10 arg11 harg11 X2 X3 X4 G8 G9 G10 G11 2).1) = (stepM (arg2.view.read (Elt F) X2) (arg3.view.read (Elt F) X3) 1 (by decide) (stepM (arg2.view.read (Elt F) X2) (arg3.view.read (Elt F) X3) 0 (by decide) (arg8.view.read (Elt F) G8)))
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 arg11 harg11 X2 X3 X4 G8 G9 G10 G11 2).2.1) = (stepL (arg2.view.read (Elt F) X2) (arg3.view.read (Elt F) X3) (arg4.view.read (Elt F) X4) 1 (by decide) (stepM (arg2.view.read (Elt F) X2) (arg3.view.read (Elt F) X3) 0 (by decide) (arg8.view.read (Elt F) G8)) (stepL (arg2.view.read (Elt F) X2) (arg3.view.read (Elt F) X3) (arg4.view.read (Elt F) X4) 0 (by decide) (arg8.view.read (Elt F) G8) (arg9.view.read (Elt F) G9)))
    ∧ arg10.view.read (Elt F) (arg10.view.writes (Elt F) G10 (pb_k0_t1 𝒱 c bd i arg2 harg2 arg3 harg3 arg4 harg4 arg5 harg5 arg6 harg6 arg7 harg7 arg8 harg8 arg9 harg9 arg10 harg10 arg11 harg11 X2 X3 X4 G8 G9 G10 G11 2).2.2.1) = (stepA (arg2.view.read (Elt F) X2) (arg3.view.read (Elt F) X3) (arg4.view.read (Elt F) X4) 1 (by decide) (stepM (arg2.view.read (Elt F) X2) (arg3.view.read (Elt F) X3) 0 (by decide) (arg8.view.read (Elt F) G8)) (stepA (arg2.view.read (Elt F) X2) (arg3.view.read (Elt F) X3) (arg4.view.read (Elt F) X4) 0 (by decide) (arg8.view.read (Elt F) G8) (arg10.view.read (Elt F) G10))) := by
  have e := pb_k0_t1_succ 𝒱 c bd i arg2 harg2 arg3 harg3 arg4 harg4 arg5 harg5 arg6 harg6 arg7 harg7 arg8 harg8 arg9 harg9 arg10 harg10 arg11 harg11 X2 X3 X4 G8 G9 G10 G11 ⟨1, by decide⟩
  have h := loop1 𝒱 c bd i arg2 harg2 arg3 harg3 arg4 harg4 arg5 harg5 arg6 harg6 arg7 harg7 arg8 harg8 arg9 harg9 arg10 harg10 arg11 harg11 X2 X3 X4 G8 G9 G10 G11
  rw [show (⟨1, by decide⟩ : Fin k0_t1_loop.trips).val = 1 from rfl] at e
  rw [show (1 : ℕ) + 1 = 2 from rfl] at e
  rw [e]
  clear e
  generalize (pb_k0_t1 𝒱 c bd i arg2 harg2 arg3 harg3 arg4 harg4 arg5 harg5 arg6 harg6 arg7 harg7 arg8 harg8 arg9 harg9 arg10 harg10 arg11 harg11 X2 X3 X4 G8 G9 G10 G11 1) = s at h ⊢
  obtain ⟨s8, s9, s10, s11⟩ := s
  dsimp only at h ⊢
  rw [← h.1, ← h.2.1, ← h.2.2]
  exact ⟨(congrArg (arg8.view.read (Elt F)) (View.writes_append arg8.view G8 _ s8)).trans (trip_m 𝒱 c bd i arg2 harg2 arg3 harg3 arg4 harg4 arg5 harg5 arg6 harg6 arg7 harg7 arg8 harg8 arg9 harg9 arg10 harg10 arg11 harg11 X2 X3 X4 ⟨1, by decide⟩ (arg8.view.writes (Elt F) G8 s8) (arg9.view.writes (Elt F) G9 s9) (arg10.view.writes (Elt F) G10 s10) (arg11.view.writes (Elt F) G11 s11) (by decide)),
    (congrArg (arg9.view.read (Elt F)) (View.writes_append arg9.view G9 _ s9)).trans (trip_l 𝒱 c bd i arg2 harg2 arg3 harg3 arg4 harg4 arg5 harg5 arg6 harg6 arg7 harg7 arg8 harg8 arg9 harg9 arg10 harg10 arg11 harg11 X2 X3 X4 ⟨1, by decide⟩ (arg8.view.writes (Elt F) G8 s8) (arg9.view.writes (Elt F) G9 s9) (arg10.view.writes (Elt F) G10 s10) (arg11.view.writes (Elt F) G11 s11) (by decide)),
    (congrArg (arg10.view.read (Elt F)) (View.writes_append arg10.view G10 _ s10)).trans (trip_a 𝒱 c bd i arg2 harg2 arg3 harg3 arg4 harg4 arg5 harg5 arg6 harg6 arg7 harg7 arg8 harg8 arg9 harg9 arg10 harg10 arg11 harg11 X2 X3 X4 ⟨1, by decide⟩ (arg8.view.writes (Elt F) G8 s8) (arg9.view.writes (Elt F) G9 s9) (arg10.view.writes (Elt F) G10 s10) (arg11.view.writes (Elt F) G11 s11) (by decide))⟩

/-- The running maximum after the two blocks of keys, -/
def M2 (q : Vec F S1024x512 .bf16) (kk : Vec F S8192x1024 .bf16) : Vec F S8x1x512 .f32 :=
  stepM q kk 1 (by decide) (stepM q kk 0 (by decide) k0_pay314)

/-- the running weight, -/
def W2 (q : Vec F S1024x512 .bf16) (kk : Vec F S8192x1024 .bf16) (v : Vec F S512x8192 .bf16) : Vec F S8x1x512 .f32 :=
  stepL q kk v 1 (by decide) (stepM q kk 0 (by decide) k0_pay314) (stepL q kk v 0 (by decide) k0_pay314 k0_pay315)

/-- and the running weighted values. -/
def A2 (q : Vec F S1024x512 .bf16) (kk : Vec F S8192x1024 .bf16) (v : Vec F S512x8192 .bf16) : Vec F S512x512 .f32 :=
  stepA q kk v 1 (by decide) (stepM q kk 0 (by decide) k0_pay314) (stepA q kk v 0 (by decide) k0_pay314 k0_pay316)

/-- What the body leaves in the result's buffer. -/
def tileOut (q : Vec F S1024x512 .bf16) (kk : Vec F S8192x1024 .bf16) (v : Vec F S512x8192 .bf16) (kc : Vec F S256x1024 .bf16)
    (vc : Vec F S512x256 .bf16) : Vec F S512x512 .bf16 :=
  k0_pay3 (stepC q kc vc (M2 q kk) (W2 q kk v) (A2 q kk v))

theorem read_L8 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) :
    arg8.view.read (Elt F) (arg8.view.writes (Elt F) arg8.view.junk (L8 c i arg2 harg2 arg3 harg3 arg4 harg4 arg5 harg5 arg6 harg6 arg7 harg7 arg8 harg8 arg9 harg9 arg10 harg10 arg11 harg11 x0 x1 x2 f11)) = M2 x0 x1 := by
  unfold L8
  rw [View.writes_append]
  have e := (loop2 Variants.none c none i arg2 harg2 arg3 harg3 arg4 harg4 arg5 harg5 arg6 harg6 arg7 harg7 arg8 harg8 arg9 harg9 arg10 harg10 arg11 harg11 (harg2.unread x0) (harg3.unread x1) (harg4.unread x2)
    (arg8.view.writes (Elt F) arg8.view.junk [⟨Rect.unit ![0, 0, 0] S8x1x512.size inb_S8x1x512_S8x1x512_0_0_0, k0_pay314⟩])
    (arg9.view.writes (Elt F) arg9.view.junk [⟨Rect.unit ![0, 0, 0] S8x1x512.size inb_S8x1x512_S8x1x512_0_0_0, k0_pay315⟩])
    (arg10.view.writes (Elt F) arg10.view.junk [⟨Rect.unit ![0, 0] S512x512.size inb_S512x512_S512x512_0_0, k0_pay316⟩]) f11).1
  rw [harg2.read_unread, harg3.read_unread] at e

  rw [View.read_writes_full arg8.view _ inb_S8x1x512_S8x1x512_0_0_0] at e
  exact e

theorem read_L9 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) :
    arg9.view.read (Elt F) (arg9.view.writes (Elt F) arg9.view.junk (L9 c i arg2 harg2 arg3 harg3 arg4 harg4 arg5 harg5 arg6 harg6 arg7 harg7 arg8 harg8 arg9 harg9 arg10 harg10 arg11 harg11 x0 x1 x2 f11)) = W2 x0 x1 x2 := by
  unfold L9
  rw [View.writes_append]
  have e := (loop2 Variants.none c none i arg2 harg2 arg3 harg3 arg4 harg4 arg5 harg5 arg6 harg6 arg7 harg7 arg8 harg8 arg9 harg9 arg10 harg10 arg11 harg11 (harg2.unread x0) (harg3.unread x1) (harg4.unread x2)
    (arg8.view.writes (Elt F) arg8.view.junk [⟨Rect.unit ![0, 0, 0] S8x1x512.size inb_S8x1x512_S8x1x512_0_0_0, k0_pay314⟩])
    (arg9.view.writes (Elt F) arg9.view.junk [⟨Rect.unit ![0, 0, 0] S8x1x512.size inb_S8x1x512_S8x1x512_0_0_0, k0_pay315⟩])
    (arg10.view.writes (Elt F) arg10.view.junk [⟨Rect.unit ![0, 0] S512x512.size inb_S512x512_S512x512_0_0, k0_pay316⟩]) f11).2.1
  rw [harg2.read_unread, harg3.read_unread] at e
  rw [harg4.read_unread] at e
  rw [View.read_writes_full arg8.view _ inb_S8x1x512_S8x1x512_0_0_0, View.read_writes_full arg9.view _ inb_S8x1x512_S8x1x512_0_0_0] at e
  exact e

theorem read_L10 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (f11 : BufTy.Contents (Elt F) arg11.view.ty) :
    arg10.view.read (Elt F) (arg10.view.writes (Elt F) arg10.view.junk (L10 c i arg2 harg2 arg3 harg3 arg4 harg4 arg5 harg5 arg6 harg6 arg7 harg7 arg8 harg8 arg9 harg9 arg10 harg10 arg11 harg11 x0 x1 x2 f11)) = A2 x0 x1 x2 := by
  unfold L10
  rw [View.writes_append]
  have e := (loop2 Variants.none c none i arg2 harg2 arg3 harg3 arg4 harg4 arg5 harg5 arg6 harg6 arg7 harg7 arg8 harg8 arg9 harg9 arg10 harg10 arg11 harg11 (harg2.unread x0) (harg3.unread x1) (harg4.unread x2)
    (arg8.view.writes (Elt F) arg8.view.junk [⟨Rect.unit ![0, 0, 0] S8x1x512.size inb_S8x1x512_S8x1x512_0_0_0, k0_pay314⟩])
    (arg9.view.writes (Elt F) arg9.view.junk [⟨Rect.unit ![0, 0, 0] S8x1x512.size inb_S8x1x512_S8x1x512_0_0_0, k0_pay315⟩])
    (arg10.view.writes (Elt F) arg10.view.junk [⟨Rect.unit ![0, 0] S512x512.size inb_S512x512_S512x512_0_0, k0_pay316⟩]) f11).2.2
  rw [harg2.read_unread, harg3.read_unread] at e
  rw [harg4.read_unread] at e
  rw [View.read_writes_full arg8.view _ inb_S8x1x512_S8x1x512_0_0_0, View.read_writes_full arg10.view _ inb_S512x512_S512x512_0_0] at e
  exact e

theorem cM_eq (b : Memref sig .tc .vmem S8x1x512 .f32) (L : List (View.Piece (Elt F) S8x1x512 .f32)) (off : Fin 3 → ℕ)
    (inb : ∀ a, off a + S1x1x512.size a ≤ S8x1x512.size a) (h : Fin 8) (e : off = ![h.val, 0, 0]) (x : Vec F S8x1x512 .f32)
    (hx : b.view.read (Elt F) (b.view.writes (Elt F) b.view.junk L) = x) : cM b L off inb = mW x h :=
  (rM_eq b (b.view.writes (Elt F) b.view.junk L) off inb h e).trans (by rw [hx])

theorem cA_eq (b : Memref sig .tc .vmem S512x512 .f32) (L : List (View.Piece (Elt F) S512x512 .f32)) (off : Fin 2 → ℕ)
    (inb : ∀ a, off a + S64x512.size a ≤ S512x512.size a) (h : Fin 8) (e : off = ![64 * h.val, 0]) (x : Vec F S512x512 .f32)
    (hx : b.view.read (Elt F) (b.view.writes (Elt F) b.view.junk L) = x) : cA b L off inb = aW x h :=
  (rA_eq b (b.view.writes (Elt F) b.view.junk L) off inb h e).trans (by rw [hx])

theorem finW_0 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[7]? = some ⟨Rect.unit ![0, 0] S64x512.size inb_S512x512_S64x512_0_0, finC x0 x3 x4 0 (mW (M2 x0 x1) 0) (mW (W2 x0 x1 x2) 0) (aW (A2 x0 x1 x2) 0)⟩ := by
  rw [fin_0, cM_eq arg8 (L8 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0 0 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![0, 0, 0] inb_S8x1x512_S1x1x512_0_0_0 0 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![0, 0] inb_S512x512_S64x512_0_0 0 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![0, 0] inb_S1024x512_S128x512_0_0 0 rfl, harg2.read_unread,
    rKC_eq arg5 (harg5.unread x3) ![0, 0] inb_S256x1024_S256x128_0_0 0 rfl, harg5.read_unread,
    rVC_eq arg6 (harg6.unread x4) ![0, 0] inb_S512x256_S64x256_0_0 0 rfl, harg6.read_unread]
  rfl

theorem finW_1 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[6]? = some ⟨Rect.unit ![64, 0] S64x512.size inb_S512x512_S64x512_64_0, finC x0 x3 x4 1 (mW (M2 x0 x1) 1) (mW (W2 x0 x1 x2) 1) (aW (A2 x0 x1 x2) 1)⟩ := by
  rw [fin_1, cM_eq arg8 (L8 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0 1 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![1, 0, 0] inb_S8x1x512_S1x1x512_1_0_0 1 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![64, 0] inb_S512x512_S64x512_64_0 1 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![128, 0] inb_S1024x512_S128x512_128_0 1 rfl, harg2.read_unread,
    rKC_eq arg5 (harg5.unread x3) ![0, 128] inb_S256x1024_S256x128_0_128 1 rfl, harg5.read_unread,
    rVC_eq arg6 (harg6.unread x4) ![64, 0] inb_S512x256_S64x256_64_0 1 rfl, harg6.read_unread]
  rfl

theorem finW_2 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[5]? = some ⟨Rect.unit ![128, 0] S64x512.size inb_S512x512_S64x512_128_0, finC x0 x3 x4 2 (mW (M2 x0 x1) 2) (mW (W2 x0 x1 x2) 2) (aW (A2 x0 x1 x2) 2)⟩ := by
  rw [fin_2, cM_eq arg8 (L8 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0 2 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![2, 0, 0] inb_S8x1x512_S1x1x512_2_0_0 2 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![128, 0] inb_S512x512_S64x512_128_0 2 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![256, 0] inb_S1024x512_S128x512_256_0 2 rfl, harg2.read_unread,
    rKC_eq arg5 (harg5.unread x3) ![0, 256] inb_S256x1024_S256x128_0_256 2 rfl, harg5.read_unread,
    rVC_eq arg6 (harg6.unread x4) ![128, 0] inb_S512x256_S64x256_128_0 2 rfl, harg6.read_unread]
  rfl

theorem finW_3 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[4]? = some ⟨Rect.unit ![192, 0] S64x512.size inb_S512x512_S64x512_192_0, finC x0 x3 x4 3 (mW (M2 x0 x1) 3) (mW (W2 x0 x1 x2) 3) (aW (A2 x0 x1 x2) 3)⟩ := by
  rw [fin_3, cM_eq arg8 (L8 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0 3 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![3, 0, 0] inb_S8x1x512_S1x1x512_3_0_0 3 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![192, 0] inb_S512x512_S64x512_192_0 3 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![384, 0] inb_S1024x512_S128x512_384_0 3 rfl, harg2.read_unread,
    rKC_eq arg5 (harg5.unread x3) ![0, 384] inb_S256x1024_S256x128_0_384 3 rfl, harg5.read_unread,
    rVC_eq arg6 (harg6.unread x4) ![192, 0] inb_S512x256_S64x256_192_0 3 rfl, harg6.read_unread]
  rfl

theorem finW_4 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[3]? = some ⟨Rect.unit ![256, 0] S64x512.size inb_S512x512_S64x512_256_0, finC x0 x3 x4 4 (mW (M2 x0 x1) 4) (mW (W2 x0 x1 x2) 4) (aW (A2 x0 x1 x2) 4)⟩ := by
  rw [fin_4, cM_eq arg8 (L8 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0 4 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![4, 0, 0] inb_S8x1x512_S1x1x512_4_0_0 4 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![256, 0] inb_S512x512_S64x512_256_0 4 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![512, 0] inb_S1024x512_S128x512_512_0 4 rfl, harg2.read_unread,
    rKC_eq arg5 (harg5.unread x3) ![0, 512] inb_S256x1024_S256x128_0_512 4 rfl, harg5.read_unread,
    rVC_eq arg6 (harg6.unread x4) ![256, 0] inb_S512x256_S64x256_256_0 4 rfl, harg6.read_unread]
  rfl

theorem finW_5 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[2]? = some ⟨Rect.unit ![320, 0] S64x512.size inb_S512x512_S64x512_320_0, finC x0 x3 x4 5 (mW (M2 x0 x1) 5) (mW (W2 x0 x1 x2) 5) (aW (A2 x0 x1 x2) 5)⟩ := by
  rw [fin_5, cM_eq arg8 (L8 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0 5 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![5, 0, 0] inb_S8x1x512_S1x1x512_5_0_0 5 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![320, 0] inb_S512x512_S64x512_320_0 5 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![640, 0] inb_S1024x512_S128x512_640_0 5 rfl, harg2.read_unread,
    rKC_eq arg5 (harg5.unread x3) ![0, 640] inb_S256x1024_S256x128_0_640 5 rfl, harg5.read_unread,
    rVC_eq arg6 (harg6.unread x4) ![320, 0] inb_S512x256_S64x256_320_0 5 rfl, harg6.read_unread]
  rfl

theorem finW_6 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[1]? = some ⟨Rect.unit ![384, 0] S64x512.size inb_S512x512_S64x512_384_0, finC x0 x3 x4 6 (mW (M2 x0 x1) 6) (mW (W2 x0 x1 x2) 6) (aW (A2 x0 x1 x2) 6)⟩ := by
  rw [fin_6, cM_eq arg8 (L8 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0 6 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![6, 0, 0] inb_S8x1x512_S1x1x512_6_0_0 6 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![384, 0] inb_S512x512_S64x512_384_0 6 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![768, 0] inb_S1024x512_S128x512_768_0 6 rfl, harg2.read_unread,
    rKC_eq arg5 (harg5.unread x3) ![0, 768] inb_S256x1024_S256x128_0_768 6 rfl, harg5.read_unread,
    rVC_eq arg6 (harg6.unread x4) ![384, 0] inb_S512x256_S64x256_384_0 6 rfl, harg6.read_unread]
  rfl

theorem finW_7 (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    (runV.sl.HS2_16 c i arg2 harg2 arg3 harg3 arg4 harg4 arg5 harg5 arg6 harg6 arg7 harg7 arg8 harg8 arg9 harg9 arg10 harg10 arg11 harg11 x0 x1 x2 x3 x4 f11)[0]? = some ⟨Rect.unit ![448, 0] S64x512.size inb_S512x512_S64x512_448_0, finC x0 x3 x4 7 (mW (M2 x0 x1) 7) (mW (W2 x0 x1 x2) 7) (aW (A2 x0 x1 x2) 7)⟩ := by
  rw [fin_7, cM_eq arg8 (L8 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0 7 rfl _ (read_L8 c i arg2 harg2 arg3 harg3 arg4 harg4 arg5 harg5 arg6 harg6 arg7 harg7 arg8 harg8 arg9 harg9 arg10 harg10 arg11 harg11 x0 x1 x2 f11),
    cM_eq arg9 (L9 c i arg2 harg2 arg3 harg3 arg4 harg4 arg5 harg5 arg6 harg6 arg7 harg7 arg8 harg8 arg9 harg9 arg10 harg10 arg11 harg11 x0 x1 x2 f11) ![7, 0, 0] inb_S8x1x512_S1x1x512_7_0_0 7 rfl _ (read_L9 c i arg2 harg2 arg3 harg3 arg4 harg4 arg5 harg5 arg6 harg6 arg7 harg7 arg8 harg8 arg9 harg9 arg10 harg10 arg11 harg11 x0 x1 x2 f11),
    cA_eq arg10 (L10 c i arg2 harg2 arg3 harg3 arg4 harg4 arg5 harg5 arg6 harg6 arg7 harg7 arg8 harg8 arg9 harg9 arg10 harg10 arg11 harg11 x0 x1 x2 f11) ![448, 0] inb_S512x512_S64x512_448_0 7 rfl _ (read_L10 c i arg2 harg2 arg3 harg3 arg4 harg4 arg5 harg5 arg6 harg6 arg7 harg7 arg8 harg8 arg9 harg9 arg10 harg10 arg11 harg11 x0 x1 x2 f11),
    rQ_eq arg2 (harg2.unread x0) ![896, 0] inb_S1024x512_S128x512_896_0 7 rfl, harg2.read_unread,
    rKC_eq arg5 (harg5.unread x3) ![0, 896] inb_S256x1024_S256x128_0_896 7 rfl, harg5.read_unread,
    rVC_eq arg6 (harg6.unread x4) ![448, 0] inb_S512x256_S64x256_448_0 7 rfl, harg6.read_unread]
  rfl

theorem read_fin (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f11 : BufTy.Contents (Elt F) arg11.view.ty) :
    runV.sl.v435 c i arg2 harg2 arg3 harg3 arg4 harg4 arg5 harg5 arg6 harg6 arg7 harg7 arg8 harg8 arg9 harg9 arg10 harg10 arg11 harg11 x0 x1 x2 x3 x4 f11 = stepC x0 x3 x4 (M2 x0 x1) (W2 x0 x1 x2) (A2 x0 x1 x2) := by
  have hw : ∀ h : Fin 8, (runV.sl.HS2_16 c i arg2 harg2 arg3 harg3 arg4 harg4 arg5 harg5 arg6 harg6 arg7 harg7 arg8 harg8 arg9 harg9 arg10 harg10 arg11 harg11 x0 x1 x2 x3 x4 f11)[7 - h.val]? = some ⟨Rect.unit (s := S512x512) ![64 * h.val, 0] S64x512.size
      ((by decide : ∀ (h : Fin 8) a, (![64 * h.val, 0] : Fin 2 → ℕ) a + S64x512.size a ≤ S512x512.size a) h), finC x0 x3 x4 h (mW (M2 x0 x1) h) (mW (W2 x0 x1 x2) h) (aW (A2 x0 x1 x2) h)⟩ := fun h => match h with
    | 0 => finW_0 c i arg2 harg2 arg3 harg3 arg4 harg4 arg5 harg5 arg6 harg6 arg7 harg7 arg8 harg8 arg9 harg9 arg10 harg10 arg11 harg11 x0 x1 x2 x3 x4 f11
    | 1 => finW_1 c i arg2 harg2 arg3 harg3 arg4 harg4 arg5 harg5 arg6 harg6 arg7 harg7 arg8 harg8 arg9 harg9 arg10 harg10 arg11 harg11 x0 x1 x2 x3 x4 f11
    | 2 => finW_2 c i arg2 harg2 arg3 harg3 arg4 harg4 arg5 harg5 arg6 harg6 arg7 harg7 arg8 harg8 arg9 harg9 arg10 harg10 arg11 harg11 x0 x1 x2 x3 x4 f11
    | 3 => finW_3 c i arg2 harg2 arg3 harg3 arg4 harg4 arg5 harg5 arg6 harg6 arg7 harg7 arg8 harg8 arg9 harg9 arg10 harg10 arg11 harg11 x0 x1 x2 x3 x4 f11
    | 4 => finW_4 c i arg2 harg2 arg3 harg3 arg4 harg4 arg5 harg5 arg6 harg6 arg7 harg7 arg8 harg8 arg9 harg9 arg10 harg10 arg11 harg11 x0 x1 x2 x3 x4 f11
    | 5 => finW_5 c i arg2 harg2 arg3 harg3 arg4 harg4 arg5 harg5 arg6 harg6 arg7 harg7 arg8 harg8 arg9 harg9 arg10 harg10 arg11 harg11 x0 x1 x2 x3 x4 f11
    | 6 => finW_6 c i arg2 harg2 arg3 harg3 arg4 harg4 arg5 harg5 arg6 harg6 arg7 harg7 arg8 harg8 arg9 harg9 arg10 harg10 arg11 harg11 x0 x1 x2 x3 x4 f11
    | 7 => finW_7 c i arg2 harg2 arg3 harg3 arg4 harg4 arg5 harg5 arg6 harg6 arg7 harg7 arg8 harg8 arg9 harg9 arg10 harg10 arg11 harg11 x0 x1 x2 x3 x4 f11

  unfold runV.sl.v435
  generalize runV.sl.HS2_16 c i arg2 harg2 arg3 harg3 arg4 harg4 arg5 harg5 arg6 harg6 arg7 harg7 arg8 harg8 arg9 harg9 arg10 harg10 arg11 harg11 x0 x1 x2 x3 x4 f11 = L at hw ⊢
  have h7 : 7 < L.length := (List.getElem?_eq_some_iff.mp (hw 0)).1
  refine (View.readAt_full arg10.view _ _).trans ?_
  rw [← List.take_append_drop 8 L, View.writes_append]
  refine (read_blocks arg10 _ (L.take 8) (fun h => finC x0 x3 x4 h (mW (M2 x0 x1) h) (mW (W2 x0 x1 x2) h) (aW (A2 x0 x1 x2) h)) (by decide) (by rw [List.length_take]; omega) fun h => ?_).trans rfl
  rw [List.getElem?_take_of_lt (by omega)]
  exact hw h

/-- What the body leaves, whatever the scratch held. -/
theorem run_eq (c : Dev nD) (i : grid0.Coords) (arg2 : Memref sig .tc .vmem S1024x512 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S256x1024 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S512x512 .f32) (harg10 : arg10.IsWhole) (arg11 : Memref sig .tc .vmem S2x4096x640 .f32) (harg11 : arg11.IsWhole) (x0 : Vec F S1024x512 .bf16) (x1 : Vec F S8192x1024 .bf16) (x2 : Vec F S512x8192 .bf16) (x3 : Vec F S256x1024 .bf16) (x4 : Vec F S512x256 .bf16) (f8 : BufTy.Contents (Elt F) arg8.view.ty) (f9 : BufTy.Contents (Elt F) arg9.view.ty) (f10 : BufTy.Contents (Elt F) arg10.view.ty) (f11 : BufTy.Contents (Elt F) arg11.view.ty) :
    (runV c i arg2 harg2 arg3 harg3 arg4 harg4 arg5 harg5 arg6 harg6 arg7 harg7 arg8 harg8 arg9 harg9 arg10 harg10 arg11 harg11 x0 x1 x2 x3 x4).1 f8 f9 f10 f11 = [⟨Rect.unit ![0, 0] ![512, 512] inb_S512x512_S512x512_0_0, tileOut x0 x1 x2 x3 x4⟩] := by
  refine Eq.trans (b := [⟨Rect.unit ![0, 0] ![512, 512] inb_S512x512_S512x512_0_0, k0_pay3 (runV.sl.v435 c i arg2 harg2 arg3 harg3 arg4 harg4 arg5 harg5 arg6 harg6 arg7 harg7 arg8 harg8 arg9 harg9 arg10 harg10 arg11 harg11 x0 x1 x2 x3 x4 f11)⟩]) ?_ ?_
  · unfold runV
    rfl
  · rw [read_fin]
    rfl

end Cert.KernelIdeal.Body

end
-- ==== Proof.Launch.lean ====
/- The launch: at every grid point the body leaves `tileOut` of the point's blocks in the result's buffer, whatever the
   scratch held; so the run ends with each block of the result's array at that, and the arguments as they were. -/
module

public import proofs.«01_k».proof.Proof.Tile
public import Idealize.ShloMosaic.Lib.Pipeline.Value
public import Idealize.ShloMosaic.Lib.Claim

@[expose] public section

set_option maxRecDepth 16384

noncomputable section

namespace Cert.KernelIdeal.Launch

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the result's buffer. -/
def outT (c : Dev nD) (t : Fin cfg0.N) : Vec F S512x512 .bf16 :=
  tileOut (iblk m c 0 t) (iblk m c 1 t) (iblk m c 2 t) (iblk m c 3 t) (iblk m c 4 t)

/-- The launch's data: an input's buffer holds its block, the result's `outT`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outT m c t
  Φ _ := Pipeline.ΦA spec0 c
  q _ := fullShare
  owed _ := 0

theorem data_A (c : Dev nD) (w : Fin cfg0.W) : (data m 0 c).A w = V m c (Pipeline.arrRef spec0 w) := by
  dsimp only [data]

theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = iblk m c 2 t := by dsimp only [data]
theorem data_after3 (c : Dev nD) (t : Fin cfg0.N) : (data m 0 c).after 3 t = iblk m c 3 t := by dsimp only [data]
theorem data_after4 (c : Dev nD) (t : Fin cfg0.N) : (data m 0 c).after 4 t = iblk m c 4 t := by dsimp only [data]
theorem data_after5 (c : Dev nD) (t : Fin cfg0.N) : (data m 0 c).after 5 t = outT m c t := by dsimp only [data]

theorem data_before0 (c : Dev nD) (t : Fin cfg0.N) (d) : (data m 0 c).before 0 t d = iblk m c 0 t :=
  before0_0_of m (data m 0 c) (data_A m c 0) (data_after0 m c) t d
theorem data_before1 (c : Dev nD) (t : Fin cfg0.N) (d) : (data m 0 c).before 1 t d = iblk m c 1 t :=
  before0_1_of m (data m 0 c) (data_A m c 1) (data_after1 m c) t d
theorem data_before2 (c : Dev nD) (t : Fin cfg0.N) (d) : (data m 0 c).before 2 t d = iblk m c 2 t :=
  before0_2_of m (data m 0 c) (data_A m c 2) (data_after2 m c) t d
theorem data_before3 (c : Dev nD) (t : Fin cfg0.N) (d) : (data m 0 c).before 3 t d = iblk m c 3 t :=
  before0_3_of m (data m 0 c) (data_A m c 3) (data_after3 m c) t d
theorem data_before4 (c : Dev nD) (t : Fin cfg0.N) (d) : (data m 0 c).before 4 t d = iblk m c 4 t :=
  before0_4_of m (data m 0 c) (data_A m c 4) (data_after4 m c) t d

/-- What the body is handed at point `t`, -/
def handed (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d)))

/-- and what it hands back. -/
def back (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t))

/-- The scratch, at some contents. -/
theorem scratch_eq (c : Dev nD) :
    (Pipeline.ΦA spec0 c : sProp 𝕄)
      = iprop(iprop((∃ d f, ⌜scM0_0.view.read (Elt F) f = d⌝ ∗ (scM0_0.view.loc (c : Thread nD τ) ↦[scM0_0.view.set]{fullShare} f))
        ∗ (∃ d f, ⌜scM0_1.view.read (Elt F) f = d⌝ ∗ (scM0_1.view.loc (c : Thread nD τ) ↦[scM0_1.view.set]{fullShare} f))
        ∗ (∃ d f, ⌜scM0_2.view.read (Elt F) f = d⌝ ∗ (scM0_2.view.loc (c : Thread nD τ) ↦[scM0_2.view.set]{fullShare} f))
        ∗ (∃ d f, ⌜scM0_3.view.read (Elt F) f = d⌝ ∗ (scM0_3.view.loc (c : Thread nD τ) ↦[scM0_3.view.set]{fullShare} f))) ∗ (∃ r, prngReg c r)) := by
  rw [PhiA0_eq]
  rfl

set_option maxHeartbeats 1600000 in
/-- The body at any point. -/
theorem body_ok (c : Dev nD) (t : Fin cfg0.N) :
    handed m c t ⊢ wp frame (wpE (defs₀ (F := F)) Variants.none c none) Set.univ (bodyAt0 t) (fun _ => back m c t) := by
  unfold handed back bodyAt0
  simp only [data_before0, data_before1, data_before2, data_before3, data_before4]
  rw [show (data m 0 c).Φ t.succ = (data m 0 c).Φ t.castSucc from rfl,
    show (data m 0 c).owesAt () t.succ = (data m 0 c).owesAt () t.castSucc from rfl,
    data_after0, data_after1, data_after2, data_after3, data_after4, data_after5]
  rw [show (data m 0 c).Φ t.castSucc = Pipeline.ΦA spec0 c from rfl, scratch_eq]
  unfold outT
  iintro ⟨⟨⟨⟨%g0, %e8, -, HS0⟩, ⟨%g1, %e9, -, HS1⟩, ⟨%g2, %e10, -, HS2⟩, ⟨%g3, %e11, -, HS3⟩⟩, Hg⟩, Ho, ⟨%d0, H0⟩, ⟨%d1, H1⟩, ⟨%d2, H2⟩, ⟨%d3, H3⟩, ⟨%d4, H4⟩, ⟨%d5, H5⟩⟩
  iapply ((runV c (grid0.coords t) _ _ _ _ _ _ _ _ _ _ _ _ _ _ _ _ _ _ _ _ (iblk m c 0 t) (iblk m c 1 t) (iblk m c 2 t) (iblk m c 3 t) (iblk m c 4 t)).2 Set.univ e8 e9 e10 e11 _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [run_eq]
  exact View.read_writes_full _ _ _ _ _

/-- The body table's row at point `t`. -/
theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_ok m c t) rfl .rfl fun _ => .rfl

set_option backward.isDefEq.respectTransparency.types false in
/-- The launch: the arrays at what the data computes, every counter at zero. -/
theorem launch : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- What point `t` writes back. -/
theorem flushed (c : Dev nD) (t : Fin cfg0.N) : (data m 0 c).flushed 5 t = (cfg0.win 5).cut (grid0.coords t) (outT m c t) := by
  show (cfg0.win 5).cut (grid0.coords t) ((data m 0 c).after 5 t) = _
  rw [data_after5]

theorem index_inj : ∀ t t' : Fin cfg0.N, win0_5.index t = win0_5.index t' → t = t' :=
  (by decide +kernel : ∀ t t' : Fin grid0.N, win0_5.index t = win0_5.index t' → t = t')

theorem apart : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (index_inj t t' h)

/-- Block `t` of the final array is what point `t` wrote back. -/
theorem block (c : Dev nD) (t : Fin cfg0.N) (hf : (cfg0.win 5).flush t = true) :
    ((cfg0.win 5).blk t).view.read (Elt F) ((data m 0 c).arrAt 5 cfg0.N) = (data m 0 c).flushed 5 t :=
  (data m 0 c).read_blk_arrAt_eq_flushed 5 apart cfg0.N t t.isLt hf

/-- The run: the result's array named, the arguments unchanged, every counter at zero. -/
theorem run : θ_run defs (onTc (τ := τ) (main (F := F))) ⟨m, fun _ => 0, ρ⟩ fun r => (∀ c : Dev nD,
      r.2.mem ((c : Thread nD τ).loc main_v28) = (data m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0 :=
  (θ_run defs _ _).mono (fun r h => ⟨fun c => ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (launch m ρ)

/-- The arguments unchanged and every counter at zero, alone. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0 :=
  (θ_run defs _ _).mono (fun _ h => ⟨fun c => (h.1 c).2, h.2⟩) (run m ρ)

end Cert.KernelIdeal.Launch

end
-- ==== Proof.Online.lean ====
/- The running softmax as mathematics: over the first `n` keys, with scores `s` (real) and values `v` (extended reals), a
   running maximum that is some real number `M`, the weight `∑ 2 ^ (s k - M)` and the weighted values `∑ v k * 2 ^ (s k - M)`.
   A further block of keys keeps that form, whatever real number the new maximum is; and the quotient at the end does not
   depend on it. Nothing here is about a program. -/
module

public import Idealize.ShloMosaic.PureOps.Ideal
public import Idealize.ShloMosaic.Lib.Pointwise

@[expose] public section

noncomputable section

namespace Cert.Online

open Idealize.ShloMosaic

/-- A real factor goes through a sum of extended reals. -/
theorem coe_mul_sum {ι : Type*} (t : Finset ι) (a : ℝ) (ha : 0 ≤ a) (f : ι → EReal) :
    (a : EReal) * ∑ i ∈ t, f i = ∑ i ∈ t, (a : EReal) * f i := by
  classical
  induction t using Finset.induction_on with
  | empty => simp
  | insert i t hi ih =>
    rw [Finset.sum_insert hi, Finset.sum_insert hi, ← ih]
    exact EReal.left_distrib_of_nonneg_of_ne_top (by exact_mod_cast ha) (EReal.coe_ne_top a) _ _

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- The greatest of finitely many reals, and of `⊥`, is a real. -/
theorem fold_real {n : ℕ} (hn : 0 < n) (b : EReal) (hb : b < ⊤) (s : Fin n → ℝ) :
    ∃ x : ℝ, Finset.fold max b (fun r => ((s r : ℝ) : EReal)) Finset.univ = x := by
  have h1 : Finset.fold max b (fun r => ((s r : ℝ) : EReal)) Finset.univ ≠ ⊤ :=
    ((Finset.fold_max_lt ⊤).mpr ⟨hb, fun r _ => EReal.coe_lt_top _⟩).ne
  have h2 : Finset.fold max b (fun r => ((s r : ℝ) : EReal)) Finset.univ ≠ ⊥ := by
    refine ne_of_gt ((Finset.lt_fold_max ⊥).mpr (.inr ⟨⟨0, hn⟩, Finset.mem_univ _, EReal.bot_lt_coe _⟩))
  exact ⟨_, (EReal.coe_toReal h1 h2).symm⟩

/-- The weights at maximum `M`. -/
def wt (s : ℕ → ℝ) (M : ℝ) (k : ℕ) : ℝ := (2 : ℝ) ^ (s k - M)

theorem wt_pos (s : ℕ → ℝ) (M : ℝ) (k : ℕ) : 0 < wt s M k := Real.rpow_pos_of_pos two_pos _

/-- The running state over the first `n` keys. -/
def Inv {κ : Type} (s : ℕ → ℝ) (v : κ → ℕ → EReal) (n : ℕ) (m l : EReal) (a : κ → EReal) : Prop :=
  ∃ M : ℝ, m = M ∧ l = ((∑ k ∈ Finset.range n, wt s M k : ℝ) : EReal)
    ∧ ∀ e, a e = ∑ k ∈ Finset.range n, v e k * (wt s M k : EReal)

/-- It starts at any real maximum, with nothing summed. -/
theorem inv_zero {κ : Type} (s : ℕ → ℝ) (v : κ → ℕ → EReal) (M : ℝ) : Inv s v 0 M 0 fun _ => 0 :=
  ⟨M, rfl, by simp, fun _ => by simp⟩

theorem exp2_sub (a b : ℝ) : Ideal.exp2 ((a : EReal) - (b : EReal)) = ((2 : ℝ) ^ (a - b) : ℝ) := by
  rw [← EReal.coe_sub]
  rfl

/-- One block of `p` keys more. -/
theorem inv_step {κ : Type} (s : ℕ → ℝ) (v : κ → ℕ → EReal) (n p : ℕ) (m l : EReal) (a : κ → EReal) (x : ℝ) (h : Inv s v n m l a) :
    Inv s v (n + p) (max m x)
      (Ideal.exp2 (m - max m x) * l + ∑ i ∈ Finset.range p, Ideal.exp2 ((s (n + i) : EReal) - max m x))
      fun e => Ideal.exp2 (m - max m x) * a e + ∑ i ∈ Finset.range p, v e (n + i) * Ideal.exp2 ((s (n + i) : EReal) - max m x) := by
  obtain ⟨M, rfl, rfl, ha⟩ := h
  have hm : max (M : EReal) (x : EReal) = ((max M x : ℝ) : EReal) := (EReal.coe_strictMono.monotone.map_max (a := M) (b := x)).symm
  have hw : ∀ k, (2 : ℝ) ^ (M - max M x) * wt s M k = wt s (max M x) k := fun k => by
    unfold wt
    rw [← Real.rpow_add two_pos]
    congr 1
    ring
  refine ⟨max M x, hm, ?_, fun e => ?_⟩
  · rw [hm, exp2_sub, ← EReal.coe_mul, Finset.mul_sum, Finset.sum_congr rfl fun k _ => hw k, Finset.sum_range_add, EReal.coe_add]
    congr 1
    rw [coe_sum]
    exact Finset.sum_congr rfl fun i _ => exp2_sub _ _
  · simp only [ha e]
    rw [hm, exp2_sub, coe_mul_sum _ _ (Real.rpow_nonneg two_pos.le _), Finset.sum_range_add]
    congr 1
    · refine Finset.sum_congr rfl fun k _ => ?_
      rw [mul_left_comm, ← EReal.coe_mul, hw]

/-- The quotient at the end, over `n > 0` keys: each value at its share of the weight. -/
theorem inv_div {κ : Type} (s : ℕ → ℝ) (v : κ → ℕ → EReal) (n : ℕ) (hn : 0 < n) (m l : EReal) (a : κ → EReal) (h : Inv s v n m l a) (e : κ) :
    ∃ M : ℝ, Ideal.div (a e) l = ∑ k ∈ Finset.range n, v e k * ((wt s M k / ∑ k' ∈ Finset.range n, wt s M k' : ℝ) : EReal) := by
  obtain ⟨M, -, rfl, ha⟩ := h
  have hW : 0 < ∑ k ∈ Finset.range n, wt s M k := Finset.sum_pos (fun k _ => wt_pos s M k) ⟨0, Finset.mem_range.mpr hn⟩
  refine ⟨M, ?_⟩
  unfold Ideal.div
  rw [if_neg (by exact_mod_cast hW.ne'), ha e, ← EReal.coe_inv, mul_comm, coe_mul_sum _ _ (inv_pos.mpr hW).le]
  refine Finset.sum_congr rfl fun k _ => ?_
  rw [mul_left_comm, ← EReal.coe_mul, div_eq_inv_mul]

/-- The shares do not depend on the maximum subtracted, nor on the base: with `t k = s k * log 2` they are the softmax's. -/
theorem share_eq (s t : ℕ → ℝ) (n : ℕ) (hn : 0 < n) (ht : ∀ k, t k = s k * Real.log 2) (M T : ℝ) (k : ℕ) :
    wt s M k / ∑ k' ∈ Finset.range n, wt s M k' = Real.exp (t k - T) / ∑ k' ∈ Finset.range n, Real.exp (t k' - T) := by
  have h : ∀ j, wt s M j = Real.exp (t j - T) * Real.exp (T - M * Real.log 2) := fun j => by
    unfold wt
    rw [Real.rpow_def_of_pos two_pos, ← Real.exp_add, ht]
    congr 1
    ring
  simp only [h]
  rw [← Finset.sum_mul, mul_div_mul_right _ _ (Real.exp_pos _).ne']

/-- A sum over eight chunks of 512 is a sum over 4096. -/
theorem sum_chunks {A : Type*} [AddCommMonoid A] (g : ℕ → A) :
    ∑ c : Fin 8, ∑ r : Fin 512, g (512 * c.val + r.val) = ∑ i ∈ Finset.range 4096, g i := by
  rw [← Fin.sum_univ_eq_sum_range g 4096, ← Fintype.sum_prod_type' (fun (c : Fin 8) (r : Fin 512) => g (512 * c.val + r.val))]
  refine Fintype.sum_equiv (finProdFinEquiv (m := 8) (n := 512)) _ _ fun x => ?_
  show g _ = g (x.2.val + 512 * x.1.val)
  rw [Nat.add_comm]

end Cert.Online

end
-- ==== Proof.StepRead.lean ====
/- The step's operations at an element, at the extended reals. -/
module

public import proofs.«01_k».proof.Proof.Win
public import proofs.«01_k».proof.Proof.Online
public import Idealize.ShloMosaic.Lib.Pointwise

@[expose] public section

noncomputable section

namespace Cert.KernelIdeal.Step

open Cert.KernelIdeal Cert.KernelIdeal.Gen Idealize.ShloMosaic

/-- A chunk's scores. -/
theorem sc_apply (Kb : Vec Ideal S512x128 .bf16) (Qb : Vec Ideal S128x512 .bf16) (r j : Fin 512) :
    sc (F := Ideal) Kb Qb (ix2 r j) = ∑ d : Fin 128, Kb (ix2 r d) * Qb (ix2 d j) := by
  pointwise [sc]

theorem scC_apply (Kb : Vec Ideal S256x128 .bf16) (Qb : Vec Ideal S128x512 .bf16) (r : Fin 256) (j : Fin 512) :
    scC (F := Ideal) Kb Qb (ix2 r j) = ∑ d : Fin 128, Kb (ix2 r d) * Qb (ix2 d j) := by
  pointwise [scC]

theorem pr_apply (m' : FVec Ideal S1x512 .f32) (s : FVec Ideal S512x512 .f32) (r j : Fin 512) :
    pr (F := Ideal) m' (slab s) (ix2 r j) = Ideal.exp2 (s (ix2 r j) - m' (ix2 0 j)) := by
  pointwise [pr, slab]
  rfl

theorem prC_apply (m' : FVec Ideal S1x512 .f32) (s : FVec Ideal S256x512 .f32) (r : Fin 256) (j : Fin 512) :
    prC (F := Ideal) m' (slabC s) (ix2 r j) = Ideal.exp2 (s (ix2 r j) - m' (ix2 0 j)) := by
  pointwise [prC, slabC]
  rfl

theorem alpha_apply (m : Vec Ideal S1x1x512 .f32) (m' : FVec Ideal S1x512 .f32) (j : Fin 512) :
    alpha (F := Ideal) m m' (ix2 0 j) = Ideal.exp2 (m (ix3 0 0 j) - m' (ix2 0 j)) := by
  pointwise [alpha]
  rfl

theorem mNew_apply (m : Vec Ideal S1x1x512 .f32) (x : FVec Ideal S1x512 .f32) (j : Fin 512) :
    mNew (F := Ideal) m x (ix2 0 j) = max (m (ix3 0 0 j)) (x (ix2 0 j)) := by
  pointwise [mNew]

theorem mOut_apply (x : FVec Ideal S1x512 .f32) (m : Vec Ideal S1x1x512 .f32) (j : Fin 512) :
    mOut (F := Ideal) x m (ix3 0 0 j) = mNew m x (ix2 0 j) := by
  pointwise [mOut]

theorem lOut_apply (w : FVec Ideal S80x512 .f32) (x : FVec Ideal S1x512 .f32) (m l : Vec Ideal S1x1x512 .f32) (j : Fin 512) :
    lOut (F := Ideal) w x m l (ix3 0 0 j) = alpha m (mNew m x) (ix2 0 j) * l (ix3 0 0 j) + w (ix2 64 j) := by
  pointwise [lOut]

theorem aOut_apply (w : FVec Ideal S80x512 .f32) (x : FVec Ideal S1x512 .f32) (m : Vec Ideal S1x1x512 .f32) (a : Vec Ideal S64x512 .f32)
    (e : Fin 64) (j : Fin 512) :
    aOut (F := Ideal) w x m a (ix2 e j) = alpha m (mNew m x) (ix2 0 j) * a (ix2 e j) + w (ix2 ⟨e.val, by omega⟩ j) := by
  pointwise [aOut]

theorem fin_apply (a : Vec Ideal S64x512 .f32) (l : Vec Ideal S1x1x512 .f32) (e : Fin 64) (j : Fin 512) :
    fin (F := Ideal) a l (ix2 e j) = Ideal.div (a (ix2 e j)) (l (ix3 0 0 j)) := by
  pointwise [fin]

/-- A row of the chunk's product: a row of the values, or of the rows under them. -/
theorem pvc_apply (o : FVec Ideal S16x512 .bf16) (Vb : Vec Ideal S64x512 .bf16) (p : FVec Ideal S512x512 .bf16)
    (e : Fin 80) (j : Fin 512) :
    pvc (F := Ideal) o Vb p (ix2 e j) = ∑ r : Fin 512, (if h : e.val < 64 then Vb (ix2 ⟨e.val, h⟩ r) else o (ix2 ⟨e.val - 64, by omega⟩ r)) * p (ix2 r j) := by
  pointwise [pvc]

theorem pvC_apply (o : FVec Ideal S16x256 .bf16) (Vb : Vec Ideal S64x256 .bf16) (p : FVec Ideal S256x512 .bf16)
    (e : Fin 80) (j : Fin 512) :
    pvC (F := Ideal) o Vb p (ix2 e j) = ∑ r : Fin 256, (if h : e.val < 64 then Vb (ix2 ⟨e.val, h⟩ r) else o (ix2 ⟨e.val - 64, by omega⟩ r)) * p (ix2 r j) := by
  pointwise [pvC]

theorem sitofp_one : (FloatOps.sitofp FTy.f32 (BitVec.setWidth 32 1#1) : Ideal FTy.f32) = (1 : EReal) := by
  show (((BitVec.setWidth 32 1#1).toInt : ℝ) : EReal) = 1
  rw [show (BitVec.setWidth 32 1#1).toInt = 1 from by decide]
  simp

/-- The first row under the values is all ones. -/
theorem ones_apply (r : Fin 512) : ones (F := Ideal) (ix2 0 r) = (1 : EReal) := by
  pointwise [ones]
  exact sitofp_one

theorem onesC_apply (r : Fin 256) : onesC (F := Ideal) (ix2 0 r) = (1 : EReal) := by
  pointwise [onesC]
  exact sitofp_one

theorem negInf_lt : Ideal.ofBits FTy.f32 4286578688#32 < (⊤ : EReal) := by
  have h : Ideal.ofBits FTy.f32 4286578688#32 = (⊥ : EReal) := by
    simp [Ideal.ofBits, Ideal.ieee]
  rw [h]
  exact bot_lt_top

/-- The column maximum of real scores is a real. -/
theorem cmx_real (s : FVec Ideal S512x512 .f32) (j : Fin 512) (f : Fin 512 → ℝ) (hf : ∀ r, s (ix2 r j) = (f r : EReal)) :
    ∃ x : ℝ, cmx (F := Ideal) s (ix2 0 j) = (x : EReal) := by
  obtain ⟨x, hx⟩ := Online.fold_real (by decide) _ negInf_lt f
  refine ⟨x, Eq.trans ?_ hx⟩
  pointwise [cmx]
  simp only [hf]

theorem cmxC_real (s : FVec Ideal S256x512 .f32) (j : Fin 512) (f : Fin 256 → ℝ) (hf : ∀ r, s (ix2 r j) = (f r : EReal)) :
    ∃ x : ℝ, cmxC (F := Ideal) s (ix2 0 j) = (x : EReal) := by
  obtain ⟨x, hx⟩ := Online.fold_real (by decide) _ negInf_lt f
  refine ⟨x, Eq.trans ?_ hx⟩
  pointwise [cmxC]
  simp only [hf]

theorem max_real (a b : EReal) (ha : ∃ x : ℝ, a = x) (hb : ∃ x : ℝ, b = x) : ∃ x : ℝ, max a b = (x : EReal) := by
  obtain ⟨x, rfl⟩ := ha
  obtain ⟨y, rfl⟩ := hb
  exact ⟨max x y, (EReal.coe_strictMono.monotone.map_max (a := x) (b := y)).symm⟩

theorem mx_real (S : Fin 8 → FVec Ideal S512x512 .f32) (j : Fin 512) (f : Fin 8 → Fin 512 → ℝ) (hf : ∀ c r, S c (ix2 r j) = (f c r : EReal)) :
    ∃ x : ℝ, mx (F := Ideal) S (ix2 0 j) = (x : EReal) := by
  have h := fun c => cmx_real (S c) j (f c) (hf c)
  have e : mx (F := Ideal) S (ix2 0 j) = max (max (max (max (max (max (max (cmx (F := Ideal) (S 0) (ix2 0 j)) (cmx (F := Ideal) (S 1) (ix2 0 j)))
      (cmx (F := Ideal) (S 2) (ix2 0 j))) (cmx (F := Ideal) (S 3) (ix2 0 j))) (cmx (F := Ideal) (S 4) (ix2 0 j))) (cmx (F := Ideal) (S 5) (ix2 0 j)))
      (cmx (F := Ideal) (S 6) (ix2 0 j))) (cmx (F := Ideal) (S 7) (ix2 0 j)) := by
    pointwise [mx]
  rw [e]
  exact max_real _ _ (max_real _ _ (max_real _ _ (max_real _ _ (max_real _ _ (max_real _ _ (max_real _ _ (h 0) (h 1)) (h 2)) (h 3)) (h 4)) (h 5)) (h 6)) (h 7)

/-- The eight chunks' products, summed. -/
theorem pv_apply (o : FVec Ideal S16x512 .bf16) (T : Fin 8 → FVec Ideal S1x512x512 .f32) (V : Fin 8 → Vec Ideal S64x512 .bf16)
    (m' : FVec Ideal S1x512 .f32) (e : Fin 80) (j : Fin 512) :
    pv (F := Ideal) o T V m' (ix2 e j) = ∑ c : Fin 8, pvc (F := Ideal) o (V c) (pr m' (T c)) (ix2 e j) := by
  rw [Fin.sum_univ_eight]
  pointwise [pv]

/-- A row of the values, weighted: over the block's 4096 keys, numbered from `n`. -/
theorem pv_row (S : Fin 8 → FVec Ideal S512x512 .f32) (V : Fin 8 → Vec Ideal S64x512 .bf16) (m' : FVec Ideal S1x512 .f32) (j : Fin 512)
    (n : ℕ) (s : ℕ → ℝ) (v : Fin 64 → ℕ → EReal) (hs : ∀ c r, S c (ix2 r j) = (s (n + (512 * c.val + r.val)) : EReal))
    (hv : ∀ c e r, V c (ix2 e r) = v e (n + (512 * c.val + r.val))) (e : Fin 64) :
    pv (F := Ideal) ones (fun c => slab (S c)) V m' (ix2 ⟨e.val, by omega⟩ j)
      = ∑ i ∈ Finset.range 4096, v e (n + i) * Ideal.exp2 ((s (n + i) : EReal) - m' (ix2 0 j)) := by
  rw [pv_apply, ← Online.sum_chunks fun i => v e (n + i) * Ideal.exp2 ((s (n + i) : EReal) - m' (ix2 0 j))]
  refine Finset.sum_congr rfl fun c _ => ?_
  rw [pvc_apply]
  refine Finset.sum_congr rfl fun r _ => ?_
  rw [dif_pos e.isLt, pr_apply, hs, hv]

/-- And their weight. -/
theorem pv_weight (S : Fin 8 → FVec Ideal S512x512 .f32) (V : Fin 8 → Vec Ideal S64x512 .bf16) (m' : FVec Ideal S1x512 .f32) (j : Fin 512)
    (n : ℕ) (s : ℕ → ℝ) (hs : ∀ c r, S c (ix2 r j) = (s (n + (512 * c.val + r.val)) : EReal)) :
    pv (F := Ideal) ones (fun c => slab (S c)) V m' (ix2 64 j)
      = ∑ i ∈ Finset.range 4096, Ideal.exp2 ((s (n + i) : EReal) - m' (ix2 0 j)) := by
  rw [pv_apply, ← Online.sum_chunks fun i => Ideal.exp2 ((s (n + i) : EReal) - m' (ix2 0 j))]
  refine Finset.sum_congr rfl fun c _ => ?_
  rw [pvc_apply]
  refine Finset.sum_congr rfl fun r _ => ?_
  rw [dif_neg (by decide), pr_apply, hs]
  exact (congrArg (· * _) (ones_apply r)).trans (one_mul _)

/-- The same over the context's 256 keys. -/
theorem pvC_row (S : FVec Ideal S256x512 .f32) (V : Vec Ideal S64x256 .bf16) (m' : FVec Ideal S1x512 .f32) (j : Fin 512)
    (n : ℕ) (s : ℕ → ℝ) (v : Fin 64 → ℕ → EReal) (hs : ∀ r, S (ix2 r j) = (s (n + r.val) : EReal))
    (hv : ∀ e r, V (ix2 e r) = v e (n + r.val)) (e : Fin 64) :
    pvC (F := Ideal) onesC V (prC m' (slabC S)) (ix2 ⟨e.val, by omega⟩ j)
      = ∑ i ∈ Finset.range 256, v e (n + i) * Ideal.exp2 ((s (n + i) : EReal) - m' (ix2 0 j)) := by
  rw [pvC_apply, ← Fin.sum_univ_eq_sum_range fun i => v e (n + i) * Ideal.exp2 ((s (n + i) : EReal) - m' (ix2 0 j))]
  refine Finset.sum_congr rfl fun r _ => ?_
  rw [dif_pos e.isLt, prC_apply, hs, hv]

theorem pvC_weight (S : FVec Ideal S256x512 .f32) (V : Vec Ideal S64x256 .bf16) (m' : FVec Ideal S1x512 .f32) (j : Fin 512)
    (n : ℕ) (s : ℕ → ℝ) (hs : ∀ r, S (ix2 r j) = (s (n + r.val) : EReal)) :
    pvC (F := Ideal) onesC V (prC m' (slabC S)) (ix2 64 j)
      = ∑ i ∈ Finset.range 256, Ideal.exp2 ((s (n + i) : EReal) - m' (ix2 0 j)) := by
  rw [pvC_apply, ← Fin.sum_univ_eq_sum_range fun i => Ideal.exp2 ((s (n + i) : EReal) - m' (ix2 0 j))]
  refine Finset.sum_congr rfl fun r _ => ?_
  rw [dif_neg (by decide), prC_apply, hs]
  exact (congrArg (· * _) (onesC_apply r)).trans (one_mul _)

end Cert.KernelIdeal.Step

end
-- ==== Proof.StepValue.lean ====
/- The three steps (two blocks of 4096 keys, then the 256 context keys) at the extended reals, for one head and one query:
   with real scores `s` and any values `v`, numbered by key, what the body leaves is each value at its share of the weight. -/
module

public import proofs.«01_k».proof.Proof.StepRead
public import proofs.«01_k».proof.Proof.Tile

@[expose] public section

noncomputable section

namespace Cert.KernelIdeal.Step

open Cert.KernelIdeal Cert.KernelIdeal.Gen Idealize.ShloMosaic

/-- The row of head `h`'s value coordinate `e`. -/
abbrev row (h : Fin 8) (e : Fin 64) : Fin 512 := ⟨64 * h.val + e.val, by omega⟩

theorem mW_apply (x : Vec Ideal S8x1x512 .f32) (h : Fin 8) (j : Fin 512) : mW x h (ix3 0 0 j) = x (ix3 h 0 j) := by
  change x (ValueIdx.ix3 h 0 j) = _
  rw [← ix3_eq_valueIdx]

theorem aW_apply (x : Vec Ideal S512x512 .f32) (h : Fin 8) (e : Fin 64) (j : Fin 512) : aW x h (ix2 e j) = x (ix2 (row h e) j) := by
  change x (ValueIdx.ix2 (row h e) j) = _
  rw [← ix2_eq_valueIdx]

theorem hd_apply (h : Fin 8) (e : Fin 64) (j : Fin 512) : hd (ix2 (row h e) j) = h :=
  Fin.ext (show (64 * h.val + e.val) / 64 = h.val by omega)

theorem rw64_apply (h : Fin 8) (e : Fin 64) (j : Fin 512) : rw64 (ix2 (row h e) j) = e :=
  Fin.ext (show (64 * h.val + e.val) % 64 = e.val by omega)

theorem stepM_apply (q : Vec Ideal S1024x512 .bf16) (kk : Vec Ideal S8192x1024 .bf16) (k : ℕ) (hk : k < 2) (M : Vec Ideal S8x1x512 .f32)
    (h : Fin 8) (j : Fin 512) :
    stepM (F := Ideal) q kk k hk M (ix3 h 0 j) = mNew (F := Ideal) (mW M h) (xT q kk k hk h) (ix2 0 j) := by
  change mOut (F := Ideal) (xT q kk k hk h) (mW M h) (ValueIdx.ix3 0 0 j) = _
  rw [← ix3_eq_valueIdx]
  exact mOut_apply _ _ _

theorem stepL_apply (q : Vec Ideal S1024x512 .bf16) (kk : Vec Ideal S8192x1024 .bf16) (v : Vec Ideal S512x8192 .bf16) (k : ℕ) (hk : k < 2)
    (M L : Vec Ideal S8x1x512 .f32) (h : Fin 8) (j : Fin 512) :
    stepL (F := Ideal) q kk v k hk M L (ix3 h 0 j)
      = lOut (F := Ideal) (wT q kk v k hk h (mW M h)) (xT q kk k hk h) (mW M h) (mW L h) (ix3 0 0 j) := by
  change lOut (F := Ideal) (wT q kk v k hk h (mW M h)) (xT q kk k hk h) (mW M h) (mW L h) (ValueIdx.ix3 0 0 j) = _
  rw [← ix3_eq_valueIdx]

theorem stepA_apply (q : Vec Ideal S1024x512 .bf16) (kk : Vec Ideal S8192x1024 .bf16) (v : Vec Ideal S512x8192 .bf16) (k : ℕ) (hk : k < 2)
    (M : Vec Ideal S8x1x512 .f32) (A : Vec Ideal S512x512 .f32) (h : Fin 8) (e : Fin 64) (j : Fin 512) :
    stepA (F := Ideal) q kk v k hk M A (ix2 (row h e) j)
      = aOut (F := Ideal) (wT q kk v k hk h (mW M h)) (xT q kk k hk h) (mW M h) (aW A h) (ix2 e j) := by
  unfold stepA
  rw [hd_apply, rw64_apply]
  change aOut (F := Ideal) (wT q kk v k hk h (mW M h)) (xT q kk k hk h) (mW M h) (aW A h) (ValueIdx.ix2 e j) = _
  rw [← ix2_eq_valueIdx]

theorem stepC_apply (q : Vec Ideal S1024x512 .bf16) (kc : Vec Ideal S256x1024 .bf16) (vc : Vec Ideal S512x256 .bf16)
    (M L : Vec Ideal S8x1x512 .f32) (A : Vec Ideal S512x512 .f32) (h : Fin 8) (e : Fin 64) (j : Fin 512) :
    stepC (F := Ideal) q kc vc M L A (ix2 (row h e) j)
      = finC (F := Ideal) q kc vc h (mW M h) (mW L h) (aW A h) (ix2 e j) := by
  unfold stepC
  rw [hd_apply, rw64_apply]
  change finC (F := Ideal) q kc vc h (mW M h) (mW L h) (aW A h) (ValueIdx.ix2 e j) = _
  rw [← ix2_eq_valueIdx]

/-- Head `h`'s running state for query `j`. -/
def St (s : ℕ → ℝ) (v : Fin 64 → ℕ → EReal) (n : ℕ) (h : Fin 8) (j : Fin 512) (M L : Vec Ideal S8x1x512 .f32) (A : Vec Ideal S512x512 .f32) : Prop :=
  Online.Inv s v n (M (ix3 h 0 j)) (L (ix3 h 0 j)) fun e => A (ix2 (row h e) j)

/-- A block of 4096 keys. -/
theorem st_step (q : Vec Ideal S1024x512 .bf16) (kk : Vec Ideal S8192x1024 .bf16) (vv : Vec Ideal S512x8192 .bf16) (k : ℕ) (hk : k < 2)
    (M L : Vec Ideal S8x1x512 .f32) (A : Vec Ideal S512x512 .f32) (h : Fin 8) (j : Fin 512) (s : ℕ → ℝ) (v : Fin 64 → ℕ → EReal)
    (hs : ∀ c r, sc (F := Ideal) (kW kk k hk h c) (qW q h) (ix2 r j) = (s (4096 * k + (512 * c.val + r.val)) : EReal))
    (hv : ∀ c e r, vW (F := Ideal) vv k hk h c (ix2 e r) = v e (4096 * k + (512 * c.val + r.val)))
    (I : St s v (4096 * k) h j M L A) :
    St s v (4096 * k + 4096) h j (stepM q kk k hk M) (stepL q kk vv k hk M L) (stepA q kk vv k hk M A) := by
  obtain ⟨x, hx⟩ := mx_real (fun c => sc (F := Ideal) (kW kk k hk h c) (qW q h)) j _ hs
  have hx' : xT (F := Ideal) q kk k hk h (ix2 0 j) = (x : EReal) := hx
  have hm : mNew (F := Ideal) (mW M h) (xT q kk k hk h) (ix2 0 j) = max (M (ix3 h 0 j)) (x : EReal) := by
    rw [mNew_apply, mW_apply, hx']
  have key := Online.inv_step s v (4096 * k) 4096 _ _ _ x I
  unfold St
  convert key using 1
  · rw [stepM_apply, hm]
  · rw [stepL_apply, lOut_apply, alpha_apply, hm, mW_apply, mW_apply]
    refine congrArg (HAdd.hAdd _) ?_
    exact (pv_weight _ _ _ j _ s hs).trans (by rw [hm])
  · funext e
    rw [stepA_apply, aOut_apply, alpha_apply, hm, mW_apply, aW_apply]
    refine congrArg (HAdd.hAdd _) ?_
    exact (pv_row _ _ _ j _ s v hs hv e).trans (by rw [hm])

/-- The context keys, and the division. -/
theorem st_fin (q : Vec Ideal S1024x512 .bf16) (kc : Vec Ideal S256x1024 .bf16) (vc : Vec Ideal S512x256 .bf16)
    (M L : Vec Ideal S8x1x512 .f32) (A : Vec Ideal S512x512 .f32) (h : Fin 8) (j : Fin 512) (n : ℕ) (s : ℕ → ℝ) (v : Fin 64 → ℕ → EReal)
    (hs : ∀ r, scC (F := Ideal) (kcW kc h) (qW q h) (ix2 r j) = (s (n + r.val) : EReal))
    (hv : ∀ e r, vcW (F := Ideal) vc h (ix2 e r) = v e (n + r.val))
    (I : St s v n h j M L A) (e : Fin 64) :
    ∃ T : ℝ, stepC (F := Ideal) q kc vc M L A (ix2 (row h e) j)
      = ∑ k ∈ Finset.range (n + 256), v e k * ((Online.wt s T k / ∑ k' ∈ Finset.range (n + 256), Online.wt s T k' : ℝ) : EReal) := by
  obtain ⟨x, hx⟩ := cmxC_real (scC (F := Ideal) (kcW kc h) (qW q h)) j _ hs
  have hx' : xC (F := Ideal) q kc h (ix2 0 j) = (x : EReal) := hx
  have hm : mNew (F := Ideal) (mW M h) (xC q kc h) (ix2 0 j) = max (M (ix3 h 0 j)) (x : EReal) := by
    rw [mNew_apply, mW_apply, hx']
  have key := Online.inv_step s v n 256 _ _ _ x I
  obtain ⟨T, hT⟩ := Online.inv_div s v (n + 256) (by omega) _ _ _ key e
  refine ⟨T, Eq.trans ?_ hT⟩
  rw [stepC_apply]
  unfold finC
  rw [fin_apply, aOut_apply, lOut_apply, alpha_apply, hm, mW_apply, mW_apply, aW_apply]
  refine congrArg₂ Ideal.div (congrArg (HAdd.hAdd _) ?_) (congrArg (HAdd.hAdd _) ?_)
  · exact (pvC_row _ _ _ j _ s v hs hv e).trans (by rw [hm])
  · exact (pvC_weight _ _ _ j _ s hs).trans (by rw [hm])

end Cert.KernelIdeal.Step

end
-- ==== Proof.Host.lean ====
/- What the call's host code prepares, as functions of the arguments: the five operands the region finds. -/
module

public import proofs.«01_k».proof.Proof.Gen.KernelIdeal.Frame.Runs
public import Idealize.ShloMosaic.Lib.Pointwise

@[expose] public section

set_option maxRecDepth 16384

noncomputable section

namespace Cert.KernelIdeal.Host

open Cert.KernelIdeal Cert.KernelIdeal.Gen Idealize.ShloMosaic

variable {F : FTy → Type} [FloatOps F]

/-- The queries' two parts and the zeros, one row a token. -/
def qCat (x0 : FVec F S2x8192x8x64 .f32) (x1 : FVec F S2x8192x8x32 .f32) : FVec F S16384x1024 .f32 :=
  shapeCast S16384x1024 (concatenate S2x8192x8x128 3 [⟨S2x8192x8x64, x0⟩, ⟨S2x8192x8x32, x1⟩,
    ⟨S2x8192x8x32, broadcastInDim S2x8192x8x32 ![] bcast_S_S2x8192x8x32 (constant (F := F) S_ .f32 0x00000000#32)⟩]
    concatenates_S2x8192x8x64_S2x8192x8x32_S2x8192x8x32_S2x8192x8x128_d3) shapeCasts_S2x8192x8x128_S16384x1024

/-- The scaled queries, one column a token. -/
def qArr (x0 : FVec F S2x8192x8x64 .f32) (x1 : FVec F S2x8192x8x32 .f32) : FVec F S1024x16384 .bf16 :=
  truncf .bf16 (transpose S1024x16384 [1, 0] (Host.divf (mulf (qCat x0 x1)
    (broadcastInDim S16384x1024 ![] bcast_S_S16384x1024 (constant (F := F) S_ .f32 0x3DD105EC#32)))
    (broadcastInDim S16384x1024 ![] bcast_S_S16384x1024 (Host.log (constant (F := F) S_ .f32 0x40000000#32))))
    transposes_S16384x1024_S1024x16384_1_0) bitsLt_bf16_f32

/-- The keys: each head's own part, the part all heads share, zeros. -/
def kArr (x2 : FVec F S2x8192x8x64 .f32) (x3 : FVec F S2x8192x32 .f32) : FVec F S16384x1024 .bf16 :=
  truncf .bf16 (shapeCast S16384x1024 (concatenate S2x8192x8x128 3 [⟨S2x8192x8x64, x2⟩,
    ⟨S2x8192x8x32, broadcastInDim S2x8192x8x32 ![0, 1, 2, 3] bcast_S2x8192x1x32_S2x8192x8x32_0_1_2_3
      (broadcastInDim S2x8192x1x32 ![0, 1, 3] bcast_S2x8192x32_S2x8192x1x32_0_1_3 x3)⟩,
    ⟨S2x8192x8x32, broadcastInDim S2x8192x8x32 ![] bcast_S_S2x8192x8x32 (constant (F := F) S_ .f32 0x00000000#32)⟩]
    concatenates_S2x8192x8x64_S2x8192x8x32_S2x8192x8x32_S2x8192x8x128_d3) shapeCasts_S2x8192x8x128_S16384x1024) bitsLt_bf16_f32

/-- The context keys. -/
def kcArr (x5 : FVec F S2x256x8x64 .f32) (x6 : FVec F S2x256x32 .f32) : FVec F S512x1024 .bf16 :=
  truncf .bf16 (shapeCast S512x1024 (concatenate S2x256x8x128 3 [⟨S2x256x8x64, x5⟩,
    ⟨S2x256x8x32, broadcastInDim S2x256x8x32 ![0, 1, 2, 3] bcast_S2x256x1x32_S2x256x8x32_0_1_2_3
      (broadcastInDim S2x256x1x32 ![0, 1, 3] bcast_S2x256x32_S2x256x1x32_0_1_3 x6)⟩,
    ⟨S2x256x8x32, broadcastInDim S2x256x8x32 ![] bcast_S_S2x256x8x32 (constant (F := F) S_ .f32 0x00000000#32)⟩]
    concatenates_S2x256x8x64_S2x256x8x32_S2x256x8x32_S2x256x8x128_d3) shapeCasts_S2x256x8x128_S512x1024) bitsLt_bf16_f32

/-- The values, one column a key. -/
def vArr (x4 : FVec F S2x8192x8x64 .f32) : FVec F S512x16384 .bf16 :=
  truncf .bf16 (transpose S512x16384 [1, 0] (shapeCast S16384x512 x4 shapeCasts_S2x8192x8x64_S16384x512)
    transposes_S16384x512_S512x16384_1_0) bitsLt_bf16_f32

/-- The context values. -/
def vcArr (x7 : FVec F S2x256x8x64 .f32) : FVec F S512x512 .bf16 :=
  truncf .bf16 (transpose S512x512 [1, 0] (shapeCast S512x512 x7 shapeCasts_S2x256x8x64_S512x512)
    transposes_S512x512_S512x512_1_0) bitsLt_bf16_f32

variable (m : (ℓ : Loc nD τ sig) → Buf (Elt F) ℓ) (c : Dev nD)

theorem V_q : V m c main_v9 = qArr (m ((c.tc : Thread nD τ).loc main_arg0)) (m ((c.tc : Thread nD τ).loc main_arg1)) := by
  show StableHlo.after hostOps0 _ (Proc.devRef .tc main_v9) = _
  after_results <;> rfl
theorem V_k : V m c main_v15 = kArr (m ((c.tc : Thread nD τ).loc main_arg2)) (m ((c.tc : Thread nD τ).loc main_arg3)) := by
  show StableHlo.after hostOps0 _ (Proc.devRef .tc main_v15) = _
  after_results <;> rfl
theorem V_kc : V m c main_v21 = kcArr (m ((c.tc : Thread nD τ).loc main_arg5)) (m ((c.tc : Thread nD τ).loc main_arg6)) := by
  show StableHlo.after hostOps0 _ (Proc.devRef .tc main_v21) = _
  after_results <;> rfl
theorem V_v : V m c main_v24 = vArr (m ((c.tc : Thread nD τ).loc main_arg4)) := by
  show StableHlo.after hostOps0 _ (Proc.devRef .tc main_v24) = _
  after_results <;> rfl
theorem V_vc : V m c main_v27 = vcArr (m ((c.tc : Thread nD τ).loc main_arg7)) := by
  show StableHlo.after hostOps0 _ (Proc.devRef .tc main_v27) = _
  after_results <;> rfl

end Cert.KernelIdeal.Host

end
-- ==== Proof.Blocks.lean ====
/- The blocks of a grid point at an element of the prepared operands, and those at an element of the arguments: point `t` works
   on batch `t / 16` and on that batch's queries `512 * (t % 16) + j`. -/
module

public import proofs.«01_k».proof.Proof.Host
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe

/-- Every window's block at every point. -/
theorem index_eq : ∀ t : Fin cfg0.N, win0_0.index t = ![0, t.val] ∧ win0_1.index t = ![t.val / 16, 0] ∧ win0_2.index t = ![0, t.val / 16]
    ∧ win0_3.index t = ![t.val / 16, 0] ∧ win0_4.index t = ![0, t.val / 16] ∧ win0_5.index t = ![t.val, 0] :=
  (by decide +kernel : ∀ t : Fin grid0.N, _)

theorem lt_points (t : Fin cfg0.N) : t.val < 32 := lt_of_lt_of_eq t.isLt (by decide +kernel)

section blocks
variable {F : FTy → Type} [FloatOps F] (m : (ℓ : Loc nD τ sig) → Buf (Elt F) ℓ) (c : Dev nD) (t : Fin cfg0.N)

theorem block_q (a : Fin 1024) (j : Fin 512) : iblk m c 0 t (ix2 a j) = V m c main_v9 (ix2 a ⟨512 * t.val + j.val, by have := lt_points t; omega⟩) := by
  unfold iblk
  blk_simp
  refine congrArg (V m c main_v9) (funext fun x => Fin.ext ?_)
  match x with
  | ⟨0, _⟩ => blk_simp [(index_eq t).1]
  | ⟨1, _⟩ => blk_simp [(index_eq t).1]; exact congrArg (· + j.val) (Nat.mul_comm _ _)

theorem block_k (n : Fin 8192) (a : Fin 1024) : iblk m c 1 t (ix2 n a) = V m c main_v15 (ix2 ⟨8192 * (t.val / 16) + n.val, by have := lt_points t; omega⟩ a) := by
  unfold iblk
  blk_simp
  refine congrArg (V m c main_v15) (funext fun x => Fin.ext ?_)
  match x with
  | ⟨0, _⟩ => blk_simp [(index_eq t).2.1]; exact congrArg (· + n.val) (Nat.mul_comm _ _)
  | ⟨1, _⟩ => blk_simp [(index_eq t).2.1]

theorem block_v (e : Fin 512) (n : Fin 8192) : iblk m c 2 t (ix2 e n) = V m c main_v24 (ix2 e ⟨8192 * (t.val / 16) + n.val, by have := lt_points t; omega⟩) := by
  unfold iblk
  blk_simp
  refine congrArg (V m c main_v24) (funext fun x => Fin.ext ?_)
  match x with
  | ⟨0, _⟩ => blk_simp [(index_eq t).2.2.1]
  | ⟨1, _⟩ => blk_simp [(index_eq t).2.2.1]; exact congrArg (· + n.val) (Nat.mul_comm _ _)

theorem block_kc (n : Fin 256) (a : Fin 1024) : iblk m c 3 t (ix2 n a) = V m c main_v21 (ix2 ⟨256 * (t.val / 16) + n.val, by have := lt_points t; omega⟩ a) := by
  unfold iblk
  blk_simp
  refine congrArg (V m c main_v21) (funext fun x => Fin.ext ?_)
  match x with
  | ⟨0, _⟩ => blk_simp [(index_eq t).2.2.2.1]; exact congrArg (· + n.val) (Nat.mul_comm _ _)
  | ⟨1, _⟩ => blk_simp [(index_eq t).2.2.2.1]

theorem block_vc (e : Fin 512) (n : Fin 256) : iblk m c 4 t (ix2 e n) = V m c main_v27 (ix2 e ⟨256 * (t.val / 16) + n.val, by have := lt_points t; omega⟩) := by
  unfold iblk
  blk_simp
  refine congrArg (V m c main_v27) (funext fun x => Fin.ext ?_)
  match x with
  | ⟨0, _⟩ => blk_simp [(index_eq t).2.2.2.2.1]
  | ⟨1, _⟩ => blk_simp [(index_eq t).2.2.2.2.1]; exact congrArg (· + n.val) (Nat.mul_comm _ _)

end blocks

variable (b : Fin 2) (h : Fin 8)

/-- A query's element, scaled: its first part, its second, zeros. -/
theorem qArr_apply (x0 : FVec Ideal S2x8192x8x64 .f32) (x1 : FVec Ideal S2x8192x8x32 .f32) (j : Fin 8192) (d : Fin 128) :
    qArr x0 x1 (ix2 ⟨128 * h.val + d.val, by omega⟩ ⟨8192 * b.val + j.val, by omega⟩)
      = Ideal.div ((if h1 : d.val < 64 then x0 (ix4 b j h ⟨d.val, h1⟩) else if h2 : d.val - 64 < 32 then x1 (ix4 b j h ⟨d.val - 64, h2⟩) else 0)
          * Ideal.ofBits .f32 0x3DD105EC#32) (Ideal.log (Ideal.ofBits .f32 0x40000000#32)) := by
  pointwise [qArr, qCat]

theorem kArr_apply (x2 : FVec Ideal S2x8192x8x64 .f32) (x3 : FVec Ideal S2x8192x32 .f32) (n : Fin 8192) (d : Fin 128) :
    kArr x2 x3 (ix2 ⟨8192 * b.val + n.val, by omega⟩ ⟨128 * h.val + d.val, by omega⟩)
      = if h1 : d.val < 64 then x2 (ix4 b n h ⟨d.val, h1⟩) else if h2 : d.val - 64 < 32 then x3 (ix3 b n ⟨d.val - 64, h2⟩) else 0 := by
  pointwise [kArr]

theorem kcArr_apply (x5 : FVec Ideal S2x256x8x64 .f32) (x6 : FVec Ideal S2x256x32 .f32) (n : Fin 256) (d : Fin 128) :
    kcArr x5 x6 (ix2 ⟨256 * b.val + n.val, by omega⟩ ⟨128 * h.val + d.val, by omega⟩)
      = if h1 : d.val < 64 then x5 (ix4 b n h ⟨d.val, h1⟩) else if h2 : d.val - 64 < 32 then x6 (ix3 b n ⟨d.val - 64, h2⟩) else 0 := by
  pointwise [kcArr]

theorem vArr_apply (x4 : FVec Ideal S2x8192x8x64 .f32) (n : Fin 8192) (e : Fin 64) :
    vArr x4 (ix2 ⟨64 * h.val + e.val, by omega⟩ ⟨8192 * b.val + n.val, by omega⟩) = x4 (ix4 b n h e) := by
  pointwise [vArr]

theorem vcArr_apply (x7 : FVec Ideal S2x256x8x64 .f32) (n : Fin 256) (e : Fin 64) :
    vcArr x7 (ix2 ⟨64 * h.val + e.val, by omega⟩ ⟨256 * b.val + n.val, by omega⟩) = x7 (ix4 b n h e) := by
  pointwise [vcArr]

end Cert.KernelIdeal.Host

end
-- ==== Proof.Score.lean ====
/- What both programs compute, over real queries and keys: a query's scores against the 8192 keys of its batch and the 256 context
   keys, and the values each at its share of the exponentials. -/
module

public import proofs.«01_k».proof.KernelIdeal
public import proofs.«01_k».proof.Proof.Online

@[expose] public section

set_option maxRecDepth 16384

noncomputable section

namespace Cert.Score

open Cert.KernelIdeal Idealize.ShloMosaic

/-- The scores' scale, the number its word stands for. -/
def scale : ℝ := (Ideal.ofBits .f32 0x3DD105EC#32).toReal

theorem scale_eq : Ideal.ofBits .f32 0x3DD105EC#32 = (scale : EReal) := by
  unfold scale
  refine (EReal.coe_toReal ?_ ?_).symm <;> simp [Ideal.ofBits, Ideal.ieee] <;> rw [← EReal.coe_mul]
  · exact EReal.coe_ne_top _
  · exact EReal.coe_ne_bot _

theorem two_eq : Ideal.ofBits .f32 0x40000000#32 = ((2 : ℝ) : EReal) := by
  simp [Ideal.ofBits, Ideal.ieee]
  rw [← EReal.coe_mul]
  norm_num

theorem log_two : Ideal.log (Ideal.ofBits .f32 0x40000000#32) = (Real.log 2 : EReal) := by
  rw [two_eq, Ideal.log_coe, if_neg (by norm_num)]

theorem log_two_ne : Real.log 2 ≠ 0 := (Real.log_pos one_lt_two).ne'

/-- An index on the two parts and the zeros of a head's 128 columns. -/
def parts (a : Fin 64 → ℝ) (b : Fin 32 → ℝ) (d : Fin 128) : ℝ :=
  if h1 : d.val < 64 then a ⟨d.val, h1⟩ else if h2 : d.val - 64 < 32 then b ⟨d.val - 64, h2⟩ else 0

theorem parts_coe (a : Fin 64 → ℝ) (b : Fin 32 → ℝ) (d : Fin 128) :
    (if h1 : d.val < 64 then (a ⟨d.val, h1⟩ : EReal) else if h2 : d.val - 64 < 32 then (b ⟨d.val - 64, h2⟩ : EReal) else 0) = (parts a b d : EReal) := by
  unfold parts
  split_ifs <;> simp

theorem sum_parts (a a' : Fin 64 → ℝ) (b b' : Fin 32 → ℝ) :
    ∑ d, parts a b d * parts a' b' d = ∑ d, a d * a' d + ∑ d, b d * b' d := by
  rw [show ∑ d : Fin 128, parts a b d * parts a' b' d = ∑ d : Fin (64 + (32 + 32)), parts a b d * parts a' b' d from rfl,
    Fin.sum_univ_add, Fin.sum_univ_add]
  have h1 : ∀ i : Fin 64, parts a b (Fin.castAdd (32 + 32) i) * parts a' b' (Fin.castAdd (32 + 32) i) = a i * a' i := fun i => by
    have : (Fin.castAdd (32 + 32) i).val < 64 := i.isLt
    simp [parts]
  have h2 : ∀ i : Fin 32, parts a b (Fin.natAdd 64 (Fin.castAdd 32 i)) * parts a' b' (Fin.natAdd 64 (Fin.castAdd 32 i)) = b i * b' i := fun i => by
    simp [parts]
  have h3 : ∀ i : Fin 32, parts a b (Fin.natAdd 64 (Fin.natAdd 32 i)) * parts a' b' (Fin.natAdd 64 (Fin.natAdd 32 i)) = 0 := fun i => by
    simp [parts]
  simp only [h1, h2, h3, Finset.sum_const_zero, add_zero]

/-- A score against a key as the kernel forms it: the query scaled first, in base two. -/
theorem dot_real (K Q : Fin 128 → EReal) (a a' : Fin 64 → ℝ) (b b' : Fin 32 → ℝ) (c l : ℝ) (hl : l ≠ 0)
    (hK : ∀ d, K d = (parts a' b' d : EReal)) (hQ : ∀ d, Q d = Ideal.div ((parts a b d : EReal) * (c : EReal)) (l : EReal)) :
    ∑ d, K d * Q d = (((∑ d, a d * a' d + ∑ d, b' d * b d) * c / l : ℝ) : EReal) := by
  have h : ∀ d, K d * Q d = ((parts a b d * parts a' b' d * (c / l) : ℝ) : EReal) := fun d => by
    rw [hK, hQ, Ideal.div_coe hl, ← EReal.coe_mul, ← EReal.coe_mul, ← EReal.coe_mul]
    congr 1
    ring
  rw [Finset.sum_congr rfl fun d _ => h d, ← Online.coe_sum, ← Finset.sum_mul, sum_parts]
  congr 1
  rw [Finset.sum_congr rfl fun d _ => mul_comm (b' d) (b d)]
  ring

variable (r0 r2 : S2x8192x8x64.Idx → ℝ) (r1 : S2x8192x8x32.Idx → ℝ) (r3 : S2x8192x32.Idx → ℝ) (r5 : S2x256x8x64.Idx → ℝ) (r6 : S2x256x32.Idx → ℝ)
  (x4 : S2x8192x8x64.Idx → EReal) (x7 : S2x256x8x64.Idx → EReal) (b : Fin 2) (h : Fin 8) (j : Fin 8192)

/-- A head's own part of key `n`, -/
def keyN (n : ℕ) (d : Fin 64) : ℝ :=
  if h1 : n < 8192 then r2 (ix4 b ⟨n, h1⟩ h d) else if h2 : n - 8192 < 256 then r5 (ix4 b ⟨n - 8192, h2⟩ h d) else 0

/-- the part all heads share, -/
def keyR (n : ℕ) (d : Fin 32) : ℝ :=
  if h1 : n < 8192 then r3 (ix3 b ⟨n, h1⟩ d) else if h2 : n - 8192 < 256 then r6 (ix3 b ⟨n - 8192, h2⟩ d) else 0

/-- and its value. -/
def val (e : Fin 64) (n : ℕ) : EReal :=
  if h1 : n < 8192 then x4 (ix4 b ⟨n, h1⟩ h e) else if h2 : n - 8192 < 256 then x7 (ix4 b ⟨n - 8192, h2⟩ h e) else 0

/-- Query `j`'s score against key `n`. -/
def score (n : ℕ) : ℝ :=
  (∑ d, r0 (ix4 b j h d) * keyN r2 r5 b h n d + ∑ d, keyR r3 r6 b n d * r1 (ix4 b j h d)) * scale

/-- The values, each at its share. -/
def att (T : ℝ) (e : Fin 64) : EReal :=
  ∑ n ∈ Finset.range 8448, val x4 x7 b h e n
    * ((Real.exp (score r0 r2 r1 r3 r5 r6 b h j n - T) / ∑ n' ∈ Finset.range 8448, Real.exp (score r0 r2 r1 r3 r5 r6 b h j n' - T) : ℝ) : EReal)

/-- In base two, from any shift: what the kernel computes. -/
theorem att_eq (M T : ℝ) (e : Fin 64) (s : ℕ → ℝ) (hs : ∀ n, s n = score r0 r2 r1 r3 r5 r6 b h j n / Real.log 2) :
    ∑ n ∈ Finset.range 8448, val x4 x7 b h e n * ((Online.wt s M n / ∑ n' ∈ Finset.range 8448, Online.wt s M n' : ℝ) : EReal)
      = att r0 r2 r1 r3 r5 r6 x4 x7 b h j T e := by
  unfold att
  refine Finset.sum_congr rfl fun n _ => ?_
  rw [Online.share_eq s (score r0 r2 r1 r3 r5 r6 b h j) 8448 (by norm_num) (fun k => by rw [hs, div_mul_cancel₀ _ log_two_ne]) M T n]

/-- The shift does not matter. -/
theorem att_shift (T T' : ℝ) (e : Fin 64) : att r0 r2 r1 r3 r5 r6 x4 x7 b h j T e = att r0 r2 r1 r3 r5 r6 x4 x7 b h j T' e :=
  (att_eq r0 r2 r1 r3 r5 r6 x4 x7 b h j 0 T e _ fun _ => rfl).symm.trans (att_eq r0 r2 r1 r3 r5 r6 x4 x7 b h j 0 T' e _ fun _ => rfl)

end Cert.Score

end
-- ==== Proof.KernelValue.lean ====
/- The kernel's result at an element, for real queries and keys. -/
module

public import proofs.«01_k».proof.Proof.Launch
public import proofs.«01_k».proof.Proof.StepValue
public import proofs.«01_k».proof.Proof.Blocks
public import proofs.«01_k».proof.Proof.Score

@[expose] public section

set_option maxRecDepth 16384

noncomputable section

namespace Cert.KernelIdeal.Host

open Cert.KernelIdeal Cert.KernelIdeal.Gen Cert.KernelIdeal.Body Cert.KernelIdeal.Step Cert.Score Idealize.ShloMosaic Idealize.ShloMosaic.TcCoe

section operands
variable (r0 r2 : S2x8192x8x64.Idx → ℝ) (r1 : S2x8192x8x32.Idx → ℝ) (r3 : S2x8192x32.Idx → ℝ) (r5 : S2x256x8x64.Idx → ℝ) (r6 : S2x256x32.Idx → ℝ)
  (b : Fin 2) (h : Fin 8)

theorem qArr_real (x0 : FVec Ideal S2x8192x8x64 .f32) (x1 : FVec Ideal S2x8192x8x32 .f32) (h0 : ∀ i, x0 i = (r0 i : EReal))
    (h1 : ∀ i, x1 i = (r1 i : EReal)) (j : Fin 8192) (d : Fin 128) :
    qArr x0 x1 (ix2 ⟨128 * h.val + d.val, by omega⟩ ⟨8192 * b.val + j.val, by omega⟩)
      = Ideal.div ((parts (fun d => r0 (ix4 b j h d)) (fun d => r1 (ix4 b j h d)) d : EReal) * (scale : EReal)) (Real.log 2 : EReal) := by
  rw [qArr_apply, ← parts_coe, scale_eq, log_two]
  simp only [h0, h1]

theorem kArr_real (x2 : FVec Ideal S2x8192x8x64 .f32) (x3 : FVec Ideal S2x8192x32 .f32) (h2 : ∀ i, x2 i = (r2 i : EReal))
    (h3 : ∀ i, x3 i = (r3 i : EReal)) (n : Fin 8192) (d : Fin 128) :
    kArr x2 x3 (ix2 ⟨8192 * b.val + n.val, by omega⟩ ⟨128 * h.val + d.val, by omega⟩)
      = (parts (keyN r2 r5 b h n.val) (keyR r3 r6 b n.val) d : EReal) := by
  rw [kArr_apply, ← parts_coe]
  simp only [h2, h3, keyN, keyR, n.isLt, dite_true, Fin.eta]

theorem kcArr_real (x5 : FVec Ideal S2x256x8x64 .f32) (x6 : FVec Ideal S2x256x32 .f32) (h5 : ∀ i, x5 i = (r5 i : EReal))
    (h6 : ∀ i, x6 i = (r6 i : EReal)) (n : Fin 256) (d : Fin 128) :
    kcArr x5 x6 (ix2 ⟨256 * b.val + n.val, by omega⟩ ⟨128 * h.val + d.val, by omega⟩)
      = (parts (keyN r2 r5 b h (8192 + n.val)) (keyR r3 r6 b (8192 + n.val)) d : EReal) := by
  rw [kcArr_apply, ← parts_coe]
  have e : ¬ 8192 + n.val < 8192 := by omega
  simp only [h5, h6, keyN, keyR, e, dite_false, Nat.add_sub_cancel_left, n.isLt, dite_true, Fin.eta]

theorem vArr_val (x4 : FVec Ideal S2x8192x8x64 .f32) (x7 : FVec Ideal S2x256x8x64 .f32) (n : Fin 8192) (e : Fin 64) :
    vArr x4 (ix2 ⟨64 * h.val + e.val, by omega⟩ ⟨8192 * b.val + n.val, by omega⟩) = val x4 x7 b h e n.val := by
  rw [vArr_apply]
  simp only [val, n.isLt, dite_true, Fin.eta]

theorem vcArr_val (x4 : FVec Ideal S2x8192x8x64 .f32) (x7 : FVec Ideal S2x256x8x64 .f32) (n : Fin 256) (e : Fin 64) :
    vcArr x7 (ix2 ⟨64 * h.val + e.val, by omega⟩ ⟨256 * b.val + n.val, by omega⟩) = val x4 x7 b h e (8192 + n.val) := by
  rw [vcArr_apply]
  have e : ¬ 8192 + n.val < 8192 := by omega
  simp only [val, e, dite_false, Nat.add_sub_cancel_left, n.isLt, dite_true, Fin.eta]

end operands

/-- The start of the running maximum is a real number, -/
theorem start_max (h : Fin 8) (j : Fin 512) : ∃ M : ℝ, k0_pay314 (F := Ideal) (ix3 h 0 j) = (M : EReal) := by
  have e : k0_pay314 (F := Ideal) (ix3 h 0 j) = Ideal.ofBits .f32 0xF149F2CA#32 := by pointwise [k0_pay314]
  refine ⟨(Ideal.ofBits .f32 0xF149F2CA#32).toReal, e.trans (EReal.coe_toReal ?_ ?_).symm⟩ <;> simp [Ideal.ofBits, Ideal.ieee] <;>
    rw [← EReal.coe_pow, ← EReal.coe_mul]
  · exact EReal.coe_ne_bot _
  · exact EReal.coe_ne_top _

theorem start_weight (h : Fin 8) (j : Fin 512) : k0_pay315 (F := Ideal) (ix3 h 0 j) = 0 := by pointwise [k0_pay315]

theorem start_values (i j : Fin 512) : k0_pay316 (F := Ideal) (ix2 i j) = 0 := by pointwise [k0_pay316]

theorem pay3_apply (x : Vec Ideal S512x512 .f32) (i j : Fin 512) : k0_pay3 (F := Ideal) x (ix2 i j) = x (ix2 j i) := by pointwise [k0_pay3]

/-- A point's tile, from its blocks' elements. -/
theorem tile_apply (q : Vec Ideal S1024x512 .bf16) (kk : Vec Ideal S8192x1024 .bf16) (vv : Vec Ideal S512x8192 .bf16) (kc : Vec Ideal S256x1024 .bf16)
    (vc : Vec Ideal S512x256 .bf16) (h : Fin 8) (j : Fin 512) (s : ℕ → ℝ) (v : Fin 64 → ℕ → EReal)
    (hs : ∀ (k : ℕ) (hk : k < 2) c r, sc (F := Ideal) (kW kk k hk h c) (qW q h) (ix2 r j) = (s (4096 * k + (512 * c.val + r.val)) : EReal))
    (hv : ∀ (k : ℕ) (hk : k < 2) c e r, vW (F := Ideal) vv k hk h c (ix2 e r) = v e (4096 * k + (512 * c.val + r.val)))
    (hsc : ∀ r, scC (F := Ideal) (kcW kc h) (qW q h) (ix2 r j) = (s (8192 + r.val) : EReal))
    (hvc : ∀ e r, vcW (F := Ideal) vc h (ix2 e r) = v e (8192 + r.val)) (e : Fin 64) :
    ∃ T : ℝ, tileOut q kk vv kc vc (ix2 j (row h e))
      = ∑ k ∈ Finset.range 8448, v e k * ((Online.wt s T k / ∑ k' ∈ Finset.range 8448, Online.wt s T k' : ℝ) : EReal) := by
  obtain ⟨M, hM⟩ := start_max h j
  have I0 : St s v (4096 * 0) h j (k0_pay314 (F := Ideal)) (k0_pay315 (F := Ideal)) (k0_pay316 (F := Ideal)) := by
    unfold St
    convert Online.inv_zero s v M using 1
    · exact start_weight h j
    · exact funext fun e => start_values _ _
  have I1 := st_step q kk vv 0 (by decide) _ _ _ h j s v (hs 0 (by decide)) (hv 0 (by decide)) I0
  have I2 := st_step q kk vv 1 (by decide) _ _ _ h j s v (hs 1 (by decide)) (hv 1 (by decide)) I1
  obtain ⟨T, hT⟩ := st_fin q kc vc _ _ _ h j 8192 s v hsc hvc I2 e
  refine ⟨T, Eq.trans ?_ hT⟩
  unfold tileOut
  rw [pay3_apply]
  rfl

variable (m : (ℓ : Loc nD τ sig) → Buf (Elt Ideal) ℓ) (c : Dev nD)
variable (r0 r2 : S2x8192x8x64.Idx → ℝ) (r1 : S2x8192x8x32.Idx → ℝ) (r3 : S2x8192x32.Idx → ℝ) (r5 : S2x256x8x64.Idx → ℝ) (r6 : S2x256x32.Idx → ℝ)

/-- The arguments that must be finite are these reals. -/
structure Reals : Prop where
  h0 : ∀ i, (m ((c.tc : Thread nD τ).loc main_arg0) : FVec Ideal S2x8192x8x64 .f32) i = (r0 i : EReal)
  h1 : ∀ i, (m ((c.tc : Thread nD τ).loc main_arg1) : FVec Ideal S2x8192x8x32 .f32) i = (r1 i : EReal)
  h2 : ∀ i, (m ((c.tc : Thread nD τ).loc main_arg2) : FVec Ideal S2x8192x8x64 .f32) i = (r2 i : EReal)
  h3 : ∀ i, (m ((c.tc : Thread nD τ).loc main_arg3) : FVec Ideal S2x8192x32 .f32) i = (r3 i : EReal)
  h5 : ∀ i, (m ((c.tc : Thread nD τ).loc main_arg5) : FVec Ideal S2x256x8x64 .f32) i = (r5 i : EReal)
  h6 : ∀ i, (m ((c.tc : Thread nD τ).loc main_arg6) : FVec Ideal S2x256x32 .f32) i = (r6 i : EReal)

variable (R : Reals m c r0 r2 r1 r3 r5 r6) (t : Fin cfg0.N)

/-- The point's batch, -/
def batch : Fin 2 := ⟨t.val / 16, by have := lt_points t; omega⟩

/-- and its queries. -/
def query (j : Fin 512) : Fin 8192 := ⟨512 * (t.val % 16) + j.val, by omega⟩

include R in
theorem q_elem (h : Fin 8) (d : Fin 128) (j : Fin 512) : qW (F := Ideal) (iblk m c 0 t) h (ix2 d j)
    = Ideal.div ((parts (fun d => r0 (ix4 (batch t) (query t j) h d)) (fun d => r1 (ix4 (batch t) (query t j) h d)) d : EReal) * (scale : EReal))
        (Real.log 2 : EReal) := by
  change iblk m c 0 t (ValueIdx.ix2 ⟨128 * h.val + d.val, _⟩ j) = _
  rw [← ix2_eq_valueIdx, block_q, V_q, ← qArr_real r0 r1 (batch t) h _ _ R.h0 R.h1]
  congr 2
  exact Fin.ext (show 512 * t.val + j.val = 8192 * (t.val / 16) + (512 * (t.val % 16) + j.val) by omega)

include R in
theorem k_elem (k : ℕ) (hk : k < 2) (h c' : Fin 8) (r : Fin 512) (d : Fin 128) : kW (F := Ideal) (iblk m c 1 t) k hk h c' (ix2 r d)
    = (parts (keyN r2 r5 (batch t) h (4096 * k + (512 * c'.val + r.val))) (keyR r3 r6 (batch t) (4096 * k + (512 * c'.val + r.val))) d : EReal) := by
  change iblk m c 1 t (ValueIdx.ix2 ⟨4096 * k + 512 * c'.val + r.val, _⟩ ⟨128 * h.val + d.val, _⟩) = _
  rw [← ix2_eq_valueIdx, block_k, V_k]
  exact (congrArg (kArr _ _) (congrArg (fun x => ix2 x _) (Fin.ext (show 8192 * (t.val / 16) + (4096 * k + 512 * c'.val + r.val)
    = 8192 * (t.val / 16) + (4096 * k + (512 * c'.val + r.val)) by omega)))).trans
    (kArr_real r2 r3 r5 r6 (batch t) h _ _ R.h2 R.h3 ⟨4096 * k + (512 * c'.val + r.val), by omega⟩ d)

include R in
theorem kc_elem (h : Fin 8) (r : Fin 256) (d : Fin 128) : kcW (F := Ideal) (iblk m c 3 t) h (ix2 r d)
    = (parts (keyN r2 r5 (batch t) h (8192 + r.val)) (keyR r3 r6 (batch t) (8192 + r.val)) d : EReal) := by
  change iblk m c 3 t (ValueIdx.ix2 r ⟨128 * h.val + d.val, _⟩) = _
  rw [← ix2_eq_valueIdx, block_kc, V_kc]
  exact kcArr_real r2 r3 r5 r6 (batch t) h _ _ R.h5 R.h6 r d

theorem v_elem (k : ℕ) (hk : k < 2) (h c' : Fin 8) (e : Fin 64) (r : Fin 512) : vW (F := Ideal) (iblk m c 2 t) k hk h c' (ix2 e r)
    = val (m ((c.tc : Thread nD τ).loc main_arg4)) (m ((c.tc : Thread nD τ).loc main_arg7)) (batch t) h e (4096 * k + (512 * c'.val + r.val)) := by
  change iblk m c 2 t (ValueIdx.ix2 ⟨64 * h.val + e.val, _⟩ ⟨4096 * k + 512 * c'.val + r.val, _⟩) = _
  rw [← ix2_eq_valueIdx, block_v, V_v]
  exact (congrArg (vArr _) (congrArg (fun x => ix2 _ x) (Fin.ext (show 8192 * (t.val / 16) + (4096 * k + 512 * c'.val + r.val)
    = 8192 * (t.val / 16) + (4096 * k + (512 * c'.val + r.val)) by omega)))).trans
    (vArr_val (batch t) h _ _ ⟨4096 * k + (512 * c'.val + r.val), by omega⟩ e)

theorem vc_elem (h : Fin 8) (e : Fin 64) (r : Fin 256) : vcW (F := Ideal) (iblk m c 4 t) h (ix2 e r)
    = val (m ((c.tc : Thread nD τ).loc main_arg4)) (m ((c.tc : Thread nD τ).loc main_arg7)) (batch t) h e (8192 + r.val) := by
  change iblk m c 4 t (ValueIdx.ix2 ⟨64 * h.val + e.val, _⟩ r) = _
  rw [← ix2_eq_valueIdx, block_vc, V_vc]
  exact vcArr_val (batch t) h _ _ r e

include R in
/-- What point `t` leaves, at an element. -/
theorem out_apply (h : Fin 8) (j : Fin 512) (e : Fin 64) (T : ℝ) : Launch.outT m c t (ix2 j (row h e))
    = att r0 r2 r1 r3 r5 r6 (m ((c.tc : Thread nD τ).loc main_arg4)) (m ((c.tc : Thread nD τ).loc main_arg7)) (batch t) h (query t j) T e := by
  unfold Launch.outT
  obtain ⟨M, hM⟩ := tile_apply (iblk m c 0 t) (iblk m c 1 t) (iblk m c 2 t) (iblk m c 3 t) (iblk m c 4 t) h j
    (fun n => score r0 r2 r1 r3 r5 r6 (batch t) h (query t j) n / Real.log 2)
    (val (m ((c.tc : Thread nD τ).loc main_arg4)) (m ((c.tc : Thread nD τ).loc main_arg7)) (batch t) h)
    (fun k hk c' r => (sc_apply _ _ _ _).trans (dot_real _ _ _ _ _ _ _ _ log_two_ne
      (fun d => k_elem m c r0 r2 r1 r3 r5 r6 R t k hk h c' r d) fun d => q_elem m c r0 r2 r1 r3 r5 r6 R t h d j))
    (fun k hk c' e r => v_elem m c t k hk h c' e r)
    (fun r => (scC_apply _ _ _ _).trans (dot_real _ _ _ _ _ _ _ _ log_two_ne
      (fun d => kc_elem m c r0 r2 r1 r3 r5 r6 R t h r d) fun d => q_elem m c r0 r2 r1 r3 r5 r6 R t h d j))
    (fun e r => vc_elem m c t h e r) e
  exact hM.trans (att_eq r0 r2 r1 r3 r5 r6 _ _ (batch t) h (query t j) M T e _ fun _ => rfl)

end Cert.KernelIdeal.Host

end
-- ==== Proof.RefRead.lean ====
/- The reference at an element of its result: the values of a head, each at its share `exp (score − T) / Σ exp (score − T)`, `T` the
   greatest score. -/
module

public import proofs.«01_k».proof.Proof.Gen.ReferenceIdeal.Read
public import Idealize.ShloMosaic.Lib.Pointwise

@[expose] public section

set_option maxRecDepth 16384

noncomputable section

namespace Cert.ReferenceIdeal.Read

open Cert.ReferenceIdeal Cert.ReferenceIdeal.Facts₀ Idealize.ShloMosaic

/-- The greatest of a row of scores, never below the maximum's start. -/
def top (X : FVec Ideal S2x8x8192x8448 .f32) : FVec Ideal S2x8x8192 .f32 :=
  maximumf (val_main_v10 (F := Ideal)) (Host.reduce FloatOps.maximumf X (val_main_cst_0 (F := Ideal)) reducesTo_S2x8x8192x8448_S2x8x8192_d3 h_S_)

/-- A row of scores less `T`, exponentiated. -/
def expo (X : FVec Ideal S2x8x8192x8448 .f32) (T : FVec Ideal S2x8x8192 .f32) : FVec Ideal S2x8x8192x8448 .f32 :=
  Host.exp (subf X (broadcastInDim S2x8x8192x8448 ![0, 1, 2, 3] bcast_S2x8x8192x1_S2x8x8192x8448_0_1_2_3
    (broadcastInDim S2x8x8192x1 ![0, 1, 2] bcast_S2x8x8192_S2x8x8192x1_0_1_2 T)))

/-- Its elements over their sum. -/
def share (X : FVec Ideal S2x8x8192x8448 .f32) : FVec Ideal S2x8x8192x8448 .f32 :=
  Host.divf X (broadcastInDim S2x8x8192x8448 ![0, 1, 2, 3] bcast_S2x8x8192x1_S2x8x8192x8448_0_1_2_3
    (broadcastInDim S2x8x8192x1 ![0, 1, 2] bcast_S2x8x8192_S2x8x8192x1_0_1_2
      (Host.reduceAdd X (val_main_cst_2 (F := Ideal)) reducesTo_S2x8x8192x8448_S2x8x8192_d3 h_S_)))

variable (b : Fin 2) (h : Fin 8) (j : Fin 8192)

theorem fold_apply (X : FVec Ideal S2x8x8192x8448 .f32) :
    Host.reduce FloatOps.maximumf X (val_main_cst_0 (F := Ideal)) reducesTo_S2x8x8192x8448_S2x8x8192_d3 h_S_ (ix3 b h j)
      = Finset.fold max (Ideal.ofBits FTy.f32 0xFF800000#32) (fun n => X (ix4 b h j n)) Finset.univ := by
  pointwise [val_main_cst_0]

theorem start_apply : val_main_v10 (F := Ideal) (ix3 b h j) = Ideal.ofBits FTy.f32 0xFF800000#32 := by
  pointwise [val_main_v10, val_main_cst_1]

theorem top_apply (X : FVec Ideal S2x8x8192x8448 .f32) :
    top X (ix3 b h j) = max (Ideal.ofBits FTy.f32 0xFF800000#32)
      (Finset.fold max (Ideal.ofBits FTy.f32 0xFF800000#32) (fun n => X (ix4 b h j n)) Finset.univ) :=
  (maximumf_apply _ _ _).trans (congrArg₂ max (start_apply b h j) (fold_apply b h j X))

theorem expo_apply (X : FVec Ideal S2x8x8192x8448 .f32) (T : FVec Ideal S2x8x8192 .f32) (n : Fin 8448) :
    expo X T (ix4 b h j n) = Ideal.exp (X (ix4 b h j n) - T (ix3 b h j)) := by
  pointwise [expo]

theorem share_apply (X : FVec Ideal S2x8x8192x8448 .f32) (n : Fin 8448) :
    share X (ix4 b h j n) = Ideal.div (X (ix4 b h j n)) (∑ n', X (ix4 b h j n')) := by
  pointwise [share, val_main_cst_2]

variable (x0 x2 x4 : FVec Ideal S2x8192x8x64 .f32) (x1 : FVec Ideal S2x8192x8x32 .f32) (x3 : FVec Ideal S2x8192x32 .f32)
  (x5 x7 : FVec Ideal S2x256x8x64 .f32) (x6 : FVec Ideal S2x256x32 .f32)

theorem shares_eq : val_main_v19 (F := Ideal) x0 x1 x2 x3 x5 x6
    = share (expo (val_main_v8 (F := Ideal) x0 x1 x2 x3 x5 x6) (top (val_main_v8 (F := Ideal) x0 x1 x2 x3 x5 x6))) := by
  unfold val_main_v19 val_main_v18 val_main_v17 val_main_v16 val_main_v15 val_main_v14 val_main_v13 val_main_v12 val_main_v11 val_main_v9
    share expo top
  rfl

/-- A score. -/
theorem score_apply (n : Fin 8448) : val_main_v8 (F := Ideal) x0 x1 x2 x3 x5 x6 (ix4 b h j n)
    = ((∑ d : Fin 64, x0 (ix4 b j h d) * if h1 : n.val < 8192 then x2 (ix4 b ⟨n.val, h1⟩ h d) else x5 (ix4 b ⟨n.val - 8192, by omega⟩ h d))
        + ∑ d : Fin 32, (if h1 : n.val < 8192 then x3 (ix3 b ⟨n.val, h1⟩ d) else x6 (ix3 b ⟨n.val - 8192, by omega⟩ d)) * x1 (ix4 b j h d))
      * Ideal.ofBits .f32 0x3DD105EC#32 := by
  pointwise [val_main_v8, val_main_v6, val_main_v3, val_main_v0, val_main_v5, val_main_v4, val_main_v1, val_main_v7, val_main_cst]

/-- The result. -/
theorem result_apply (e : Fin 64) :
    val_main_v23 (F := Ideal) x0 x1 x2 x3 x4 x5 x6 x7 (ix2 ⟨8192 * b.val + j.val, by omega⟩ ⟨64 * h.val + e.val, by omega⟩)
      = (∑ n : Fin 8192, x4 (ix4 b n h e) * val_main_v19 (F := Ideal) x0 x1 x2 x3 x5 x6 (ix4 b h j ⟨n.val, by omega⟩))
        + ∑ n : Fin 256, x7 (ix4 b n h e) * val_main_v19 (F := Ideal) x0 x1 x2 x3 x5 x6 (ix4 b h j ⟨8192 + n.val, by omega⟩) := by
  pointwise [val_main_v23, val_main_v22, val_main_v21, val_main_v20, val_main_v2]

end Cert.ReferenceIdeal.Read

end
-- ==== Proof.Value.lean ====
/- The kernel's result is the reference's, for real queries and keys. -/
module

public import proofs.«01_k».proof.Proof.KernelValue
public import proofs.«01_k».proof.Proof.RefRead

@[expose] public section

set_option maxRecDepth 16384

noncomputable section

namespace Cert.ReferenceIdeal.Read

open Cert.Score Idealize.ShloMosaic

section
variable (r0 r2 : S2x8192x8x64.Idx → ℝ) (r1 : S2x8192x8x32.Idx → ℝ) (r3 : S2x8192x32.Idx → ℝ) (r5 : S2x256x8x64.Idx → ℝ) (r6 : S2x256x32.Idx → ℝ)
  (x0 x2 x4 : FVec Ideal S2x8192x8x64 .f32) (x1 : FVec Ideal S2x8192x8x32 .f32) (x3 : FVec Ideal S2x8192x32 .f32)
  (x5 x7 : FVec Ideal S2x256x8x64 .f32) (x6 : FVec Ideal S2x256x32 .f32)
  (h0 : ∀ i, x0 i = (r0 i : EReal)) (h1 : ∀ i, x1 i = (r1 i : EReal)) (h2 : ∀ i, x2 i = (r2 i : EReal)) (h3 : ∀ i, x3 i = (r3 i : EReal))
  (h5 : ∀ i, x5 i = (r5 i : EReal)) (h6 : ∀ i, x6 i = (r6 i : EReal)) (b : Fin 2) (h : Fin 8) (j : Fin 8192)

include h0 h1 h2 h3 h5 h6 in
theorem score_real (n : Fin 8448) :
    val_main_v8 (F := Ideal) x0 x1 x2 x3 x5 x6 (ix4 b h j n) = (score r0 r2 r1 r3 r5 r6 b h j n.val : EReal) := by
  have kN : ∀ d : Fin 64, (if h1 : n.val < 8192 then x2 (ix4 b ⟨n.val, h1⟩ h d) else x5 (ix4 b ⟨n.val - 8192, by omega⟩ h d))
      = (keyN r2 r5 b h n.val d : EReal) := fun d => by
    unfold keyN
    by_cases hn : n.val < 8192
    · simp only [hn, dite_true, h2]
    · have hm : n.val - 8192 < 256 := by omega
      simp only [hn, hm, dite_true, dite_false, h5]
  have kR : ∀ d : Fin 32, (if h1 : n.val < 8192 then x3 (ix3 b ⟨n.val, h1⟩ d) else x6 (ix3 b ⟨n.val - 8192, by omega⟩ d))
      = (keyR r3 r6 b n.val d : EReal) := fun d => by
    unfold keyR
    by_cases hn : n.val < 8192
    · simp only [hn, dite_true, h3]
    · have hm : n.val - 8192 < 256 := by omega
      simp only [hn, hm, dite_true, dite_false, h6]
  rw [score_apply, Finset.sum_congr rfl fun d _ => congrArg₂ (· * ·) (h0 (ix4 b j h d)) (kN d),
    Finset.sum_congr rfl fun d _ => congrArg₂ (· * ·) (kR d) (h1 (ix4 b j h d)), scale_eq]
  unfold score
  rw [EReal.coe_mul, EReal.coe_add, Online.coe_sum, Online.coe_sum]
  simp only [EReal.coe_mul]

include h0 h1 h2 h3 h5 h6 in
theorem shares_real : ∃ T : ℝ, ∀ n : Fin 8448, val_main_v19 (F := Ideal) x0 x1 x2 x3 x5 x6 (ix4 b h j n)
    = ((Real.exp (score r0 r2 r1 r3 r5 r6 b h j n.val - T)
        / ∑ n' ∈ Finset.range 8448, Real.exp (score r0 r2 r1 r3 r5 r6 b h j n' - T) : ℝ) : EReal) := by
  have hb : Ideal.ofBits FTy.f32 0xFF800000#32 = (⊥ : EReal) := by simp [Ideal.ofBits, Ideal.ieee]
  obtain ⟨T, hT⟩ := Online.fold_real (n := 8448) (by norm_num) ⊥ bot_lt_top fun n => score r0 r2 r1 r3 r5 r6 b h j n.val
  have htop : top (val_main_v8 (F := Ideal) x0 x1 x2 x3 x5 x6) (ix3 b h j) = (T : EReal) := by
    rw [top_apply, hb, max_eq_right bot_le, ← hT]
    exact congrArg (fun f => Finset.fold max ⊥ f Finset.univ) (funext fun n => score_real r0 r2 r1 r3 r5 r6 x0 x2 x1 x3 x5 x6 h0 h1 h2 h3 h5 h6 b h j n)
  have he : ∀ n : Fin 8448, expo (val_main_v8 (F := Ideal) x0 x1 x2 x3 x5 x6) (top (val_main_v8 (F := Ideal) x0 x1 x2 x3 x5 x6)) (ix4 b h j n)
      = (Real.exp (score r0 r2 r1 r3 r5 r6 b h j n.val - T) : EReal) := fun n => by
    rw [expo_apply, htop, score_real r0 r2 r1 r3 r5 r6 x0 x2 x1 x3 x5 x6 h0 h1 h2 h3 h5 h6 b h j n, ← EReal.coe_sub, Ideal.exp_coe]
  have hpos : (0 : ℝ) < ∑ n' ∈ Finset.range 8448, Real.exp (score r0 r2 r1 r3 r5 r6 b h j n' - T) :=
    Finset.sum_pos (fun _ _ => Real.exp_pos _) ⟨0, Finset.mem_range.mpr (by norm_num)⟩
  refine ⟨T, fun n => ?_⟩
  rw [shares_eq, share_apply, he n, Finset.sum_congr rfl fun n' _ => he n', ← Online.coe_sum,
    Fin.sum_univ_eq_sum_range (fun n' => Real.exp (score r0 r2 r1 r3 r5 r6 b h j n' - T)) 8448, Ideal.div_coe hpos.ne', ← EReal.coe_mul,
    mul_one_div]

theorem sum_split (f : ℕ → EReal) : ∑ n ∈ Finset.range 8448, f n = (∑ n : Fin 8192, f n.val) + ∑ n : Fin 256, f (8192 + n.val) := by
  rw [Fin.sum_univ_eq_sum_range f 8192, Fin.sum_univ_eq_sum_range (fun n => f (8192 + n)) 256]
  exact Finset.sum_range_add f 8192 256

include h0 h1 h2 h3 h5 h6 in
theorem result_real (T : ℝ) (e : Fin 64) :
    val_main_v23 (F := Ideal) x0 x1 x2 x3 x4 x5 x6 x7 (ix2 ⟨8192 * b.val + j.val, by omega⟩ ⟨64 * h.val + e.val, by omega⟩)
      = att r0 r2 r1 r3 r5 r6 x4 x7 b h j T e := by
  obtain ⟨T', hT⟩ := shares_real r0 r2 r1 r3 r5 r6 x0 x2 x1 x3 x5 x6 h0 h1 h2 h3 h5 h6 b h j
  rw [att_shift r0 r2 r1 r3 r5 r6 x4 x7 b h j T T' e, result_apply]
  unfold att
  rw [sum_split]
  refine congrArg₂ (· + ·) (Finset.sum_congr rfl fun n _ => ?_) (Finset.sum_congr rfl fun n _ => ?_)
  · rw [hT]
    refine congrArg (· * _) ?_
    simp only [val, n.isLt, dite_true, Fin.eta]
  · rw [hT]
    refine congrArg (· * _) ?_
    have hn : ¬ 8192 + n.val < 8192 := by omega
    simp only [val, hn, dite_false, Nat.add_sub_cancel_left, n.isLt, dite_true, Fin.eta]

end

end Cert.ReferenceIdeal.Read

namespace Cert.KernelIdeal.Host

open Cert.KernelIdeal Cert.KernelIdeal.Gen Cert.KernelIdeal.Step Cert.Score Idealize.ShloMosaic Idealize.ShloMosaic.TcCoe

variable (m : (ℓ : Loc nD τ sig) → Buf (Elt Ideal) ℓ) (c : Dev nD)
variable (r0 r2 : S2x8192x8x64.Idx → ℝ) (r1 : S2x8192x8x32.Idx → ℝ) (r3 : S2x8192x32.Idx → ℝ) (r5 : S2x256x8x64.Idx → ℝ) (r6 : S2x256x32.Idx → ℝ)

/-- The reference's result of the kernel's arguments. -/
def result : Buf (Elt Ideal) ((c.tc : Thread nD τ).loc main_v28) :=
  Cert.ReferenceIdeal.Read.val_main_v23 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

variable (R : Reals m c r0 r2 r1 r3 r5 r6)

include R in
theorem result_eq (t : Fin cfg0.N) (j i : Fin 512) : Launch.outT m c t (ix2 j i)
    = result m c (ix2 ⟨512 * t.val + j.val, by have := lt_points t; omega⟩ i) := by
  have hi : i = row ⟨i.val / 64, by omega⟩ ⟨i.val % 64, by omega⟩ := Fin.ext (show i.val = 64 * (i.val / 64) + i.val % 64 by omega)
  have hk := out_apply m c r0 r2 r1 r3 r5 r6 R t ⟨i.val / 64, by omega⟩ j ⟨i.val % 64, by omega⟩ 0
  rw [← hi] at hk
  have hr := Cert.ReferenceIdeal.Read.result_real r0 r2 r1 r3 r5 r6 _ _ (m ((c.tc : Thread nD τ).loc main_arg4)) _ _ _
    (m ((c.tc : Thread nD τ).loc main_arg7)) _ R.h0 R.h1 R.h2 R.h3 R.h5 R.h6 (batch t) ⟨i.val / 64, by omega⟩ (query t j) 0 ⟨i.val % 64, by omega⟩
  refine hk.trans (hr.symm.trans ?_)
  refine congrArg₂ (fun x y => result m c (ix2 x y)) (Fin.ext ?_) hi.symm
  show 8192 * (t.val / 16) + (512 * (t.val % 16) + j.val) = 512 * t.val + j.val
  omega

include R in
/-- The result's array after the run. -/
theorem final : (Launch.data m 0 c).arrAt 5 cfg0.N = result m c := by
  refine (Launch.data m 0 c).arrAt_eq_of_covers 5 _ (by decide +kernel) fun t hf y => ?_
  blk_simp
  rw [Launch.data_after5]
  have hy : y = ix2 (y 0) (y 1) := funext fun a => match a with | ⟨0, _⟩ => rfl | ⟨1, _⟩ => rfl
  rw [hy]
  refine (result_eq m c r0 r2 r1 r3 r5 r6 R t (y 0) (y 1)).trans (congrArg (result m c) (funext fun x => Fin.ext ?_))
  match x with
  | ⟨0, _⟩ => blk_simp [(index_eq t).2.2.2.2.2]; exact congrArg (· + (y 0).val) (Nat.mul_comm _ _)
  | ⟨1, _⟩ => blk_simp [(index_eq t).2.2.2.2.2]

end Cert.KernelIdeal.Host

end
-- ==== Proof.Finite.lean ====
/- The precondition read back: the queries and keys are real numbers. -/
module

public import proofs.«01_k».proof.Pre_finite_queries_keys
public import Idealize.ShloMosaic.Lib.Affine
public import Idealize.ShloMosaic.Lib.Decide
public import Idealize.ShloMosaic.Lib.ReduceAll
public import Idealize.ShloMosaic.Lib.Pointwise

@[expose] public section

noncomputable section

namespace Cert.Finite

open Cert.Pre_finite_queries_keys Idealize.ShloMosaic

/-- The shapes the precondition's operations name fit. -/
instance facts : Cert.Pre_finite_queries_keys.Facts where
  bcast_S_S2x8192x8x64 := by decide
  reducesTo_S2x8192x8x64_S_d0_1_2_3 := by decide
  h_S_ := by decide
  bcast_S_S2x8192x8x32 := by decide
  reducesTo_S2x8192x8x32_S_d0_1_2_3 := by decide
  bcast_S_S2x8192x32 := by decide
  reducesTo_S2x8192x32_S_d0_1_2 := by decide
  bcast_S_S2x256x8x64 := by decide
  reducesTo_S2x256x8x64_S_d0_1_2_3 := by decide
  bcast_S_S2x256x32 := by decide
  reducesTo_S2x256x32_S_d0_1_2 := by decide
  bcast_S_S1 := by decide

/-- An extended real whose absolute value is below infinity is a real number. -/
theorem real_of_abs_lt (x : EReal) (h : BitVec.ofBool (decide (((max x (-x) : EReal)) < Ideal.ofBits .f32 0x7F800000#32)) = 1#1) :
    ∃ r : ℝ, x = (r : EReal) := by
  have e : Ideal.ofBits .f32 0x7F800000#32 = (⊤ : EReal) := by
    simp [Ideal.ofBits, Ideal.ieee]
  rw [e] at h
  induction x using EReal.rec with
  | bot => simp at h
  | coe r => exact ⟨r, rfl⟩
  | top => simp at h

instance : Subsingleton S_.Idx := ⟨fun a b => funext fun i => i.elim0⟩

/-- An array whose elements are all below infinity in absolute value is an array of reals. -/
theorem reals_of_all {s : Shape} {axes : List (Fin s.rank)} (x : FVec Ideal s .f32) (hb : S_.BroadcastsInDim s (![] : Fin 0 → Fin s.rank)) (h : s.ReducesTo axes S_) (hu : 0 < S_.numel)
    (j : S_.Idx) (e : Host.reduce IntOp.andi (cmpf .olt (Host.absf x) (broadcastInDim s ![] hb (constant S_ .f32 0x7F800000#32))) (constantI S_ 1 1#1) h hu j = 1#1) :
    ∃ r : s.Idx → ℝ, ∀ i, x i = (r i : EReal) := by
  have hx : ∀ i, ∃ r : ℝ, x i = (r : EReal) := fun i =>
    real_of_abs_lt (x i) (Host.reduce_andi_all _ _ h hu j e i)
  exact ⟨fun i => (hx i).choose, fun i => (hx i).choose_spec⟩

/-- The precondition makes real arrays of the queries and of the keys. -/
theorem reals_of_pre (x0 : FVec Ideal S2x8192x8x64 .f32) (x1 : FVec Ideal S2x8192x8x32 .f32) (x2 : FVec Ideal S2x8192x8x64 .f32) (x3 : FVec Ideal S2x8192x32 .f32)
    (x4 : FVec Ideal S2x8192x8x64 .f32) (x5 : FVec Ideal S2x256x8x64 .f32) (x6 : FVec Ideal S2x256x32 .f32) (x7 : FVec Ideal S2x256x8x64 .f32)
    (e : fn x0 x1 x2 x3 x4 x5 x6 x7 = fun _ => 1#1) :
    (∃ r : S2x8192x8x64.Idx → ℝ, ∀ i, x0 i = (r i : EReal)) ∧ (∃ r : S2x8192x8x32.Idx → ℝ, ∀ i, x1 i = (r i : EReal))
      ∧ (∃ r : S2x8192x8x64.Idx → ℝ, ∀ i, x2 i = (r i : EReal)) ∧ (∃ r : S2x8192x32.Idx → ℝ, ∀ i, x3 i = (r i : EReal))
      ∧ (∃ r : S2x256x8x64.Idx → ℝ, ∀ i, x5 i = (r i : EReal)) ∧ (∃ r : S2x256x32.Idx → ℝ, ∀ i, x6 i = (r i : EReal)) := by
  have e' := congrFun e (ix1 0)
  unfold fn at e'
  dsimp only at e'
  unfold fn_part1 at e'
  dsimp only at e'
  obtain ⟨e', e6⟩ := IntOp.andi_eq_one.1 e'
  obtain ⟨e', e5⟩ := IntOp.andi_eq_one.1 e'
  obtain ⟨e', e3⟩ := IntOp.andi_eq_one.1 e'
  obtain ⟨e', e2⟩ := IntOp.andi_eq_one.1 e'
  obtain ⟨e0, e1⟩ := IntOp.andi_eq_one.1 e'
  exact ⟨reals_of_all x0 _ _ _ _ e0, reals_of_all x1 _ _ _ _ e1, reals_of_all x2 _ _ _ _ e2, reals_of_all x3 _ _ _ _ e3,
    reals_of_all x5 _ _ _ _ e5, reals_of_all x6 _ _ _ _ e6⟩

end Cert.Finite

end
-- ==== Proof.MergeSpec.lean ====
/- The second call's result at an element, as an expression over the rows it reads. -/
module

public import Idealize.ShloMosaic.Lib.Pointwise
public import Idealize.ShloMosaic.PureOps.Ideal.Laws

@[expose] public section

noncomputable section

namespace Cert.Merge

open Idealize.ShloMosaic

/-- A row over the root of its mean square, times the gains. -/
def rowNorm (x g : Fin 1024 → EReal) (i : Fin 1024) : EReal :=
  x i * Ideal.rsqrt (Ideal.div (∑ k, x k * x k) (Ideal.ofBits FTy.f32 0x44800000#32) + Ideal.ofBits FTy.f32 0x358637BD#32) * g i

/-- A normalized row, modulated. -/
def hiddenRow (x g scale shift : Fin 1024 → EReal) (i : Fin 1024) : EReal := rowNorm x g i * (1 + scale i) + shift i

/-- The short convolution of a column at one row: the row before it, the row, the row after it. -/
def conv (w0 w1 w2 before here after : EReal) : EReal := w0 * before + w1 * here + w2 * after

/-- A branch at one column: the gate times the projected, gated branch output. -/
def branch (h wg : Fin 1024 → EReal) (y z wb : Fin 512 → EReal) : EReal :=
  Ideal.logistic (∑ k, h k * wg k) * ∑ e, y e * z e * wb e

/-- A row of the sum of the branches, projected. -/
def project (s : Fin 1024 → EReal) (wo : Fin 1024 → Fin 1024 → EReal) (i : Fin 1024) : EReal := ∑ k, s k * wo k i

/-- The row plus its gated, normalized update. -/
def result (x gate o g : Fin 1024 → EReal) (i : Fin 1024) : EReal := x i + gate i * rowNorm o g i

end Cert.Merge

end
-- ==== Proof.MergePay.lean ====
/- What the second call's body computes from its blocks, at an element. -/
module

public import proofs.«01_k».proof.Proof.MergeSpec
public import proofs.«01_k».proof.Proof.Gen.Kernel2Ideal.Skeleton

@[expose] public section

set_option maxRecDepth 16384

noncomputable section

namespace Cert.Kernel2Ideal.Merge

open Cert.Kernel2Ideal Cert.Kernel2Ideal.Gen Cert.Merge Idealize.ShloMosaic

variable (r : Fin 512)

theorem pay2_apply (x : Vec Ideal S512x1024 .f32) (g : Vec Ideal S1x1024 .f32) (sc sh : Vec Ideal S1x1x1024 .f32) (i : Fin 1024) :
    k0_pay2 (F := Ideal) x g sc sh (ix2 r i) = hiddenRow (fun k => x (ix2 r k)) (fun k => g (ix2 0 k)) (fun k => sc (ix3 0 0 k)) (fun k => sh (ix3 0 0 k)) i := by
  pointwise [k0_pay2, k0_pay1, hiddenRow, rowNorm]

theorem pay4_apply (v : FVec Ideal S512x512 .f32) (b : Vec Ideal S512x512 .bf16) (e : Fin 512) :
    k0_pay4 (F := Ideal) v b (ix2 r e) = b (ix2 r e) * v (ix2 r e) := by
  pointwise [k0_pay4]

theorem pay5_apply (h : FVec Ideal S512x1024 .bf16) (ya za yb zb : Vec Ideal S512x512 .bf16) (ga gb : Vec Ideal S1024x1024 .bf16)
    (wa wb : Vec Ideal S1x512x1024 .bf16) (i : Fin 1024) :
    k0_pay5 (F := Ideal) h ya za ga wa yb zb gb wb (ix2 r i)
      = branch (fun k => h (ix2 r k)) (fun k => ga (ix2 k i)) (fun e => ya (ix2 r e)) (fun e => za (ix2 r e)) (fun e => wa (ix3 0 e i))
        + branch (fun k => h (ix2 r k)) (fun k => gb (ix2 k i)) (fun e => yb (ix2 r e)) (fun e => zb (ix2 r e)) (fun e => wb (ix3 0 e i)) := by
  pointwise [k0_pay5, branch]

theorem pay6_apply (x : FVec Ideal S512x1024 .f32) (h : FVec Ideal S512x1024 .bf16) (yc : FVec Ideal S512x512 .f32) (s : FVec Ideal S512x1024 .f32)
    (zc : Vec Ideal S512x512 .bf16) (gc : Vec Ideal S1024x1024 .bf16) (wc : Vec Ideal S1x512x1024 .bf16) (wo : Vec Ideal S1024x1024 .bf16)
    (gate : Vec Ideal S1x1x1024 .f32) (g : Vec Ideal S1x1024 .f32) (i : Fin 1024) :
    k0_pay6 (F := Ideal) x h yc s zc gc wc wo gate g (ix2 r i)
      = result (fun k => x (ix2 r k)) (fun k => gate (ix3 0 0 k))
          (project (fun k => s (ix2 r k) + branch (fun k => h (ix2 r k)) (fun j => gc (ix2 j k)) (fun e => yc (ix2 r e)) (fun e => zc (ix2 r e)) (fun e => wc (ix3 0 e k)))
            (fun k j => wo (ix2 k j)))
          (fun k => g (ix2 0 k)) i := by
  pointwise [k0_pay6, result, project, branch, rowNorm]

theorem select_eq (p q : BitVec 32) (a b : EReal) : Scalar.select (IntOp.cmpi CmpIPredicate.eq p q) a b = if p = q then a else b := by
  by_cases h : p = q
  · subst h; simp [Scalar.select, IntOp.cmpi]
  · have hb : IntOp.cmpi CmpIPredicate.eq p q = 0#1 := by
      simp only [IntOp.cmpi, beq_eq_false_iff_ne.mpr h]; rfl
    rw [hb, if_neg h]; rfl

theorem pay3_apply (p : BitVec 32) (z : Vec Ideal S512x512 .bf16) (zp zn : Vec Ideal S1x512 .bf16) (w0 w1 w2 : Vec Ideal S1x512 .f32) (e : Fin 512) :
    k0_pay3 (F := Ideal) p z zp zn w0 w1 w2 (ix2 r e)
      = conv (w0 (ix2 0 e)) (w1 (ix2 0 e)) (w2 (ix2 0 e))
          (if r.val = 0 then (if p = 0#32 then 0 else zp (ix2 0 e)) else z (ix2 ⟨r.val - 1, by omega⟩ e))
          (z (ix2 r e))
          (if h : r.val < 511 then z (ix2 ⟨r.val + 1, by omega⟩ e) else (if p = 15#32 then 0 else zn (ix2 0 e))) := by
  pointwise [k0_pay3, conv]
  have hr : r.val < 512 := r.isLt
  have first : (BitVec.ofNat 32 r.val = 0#32) = (r.val = 0) := by
    rw [← BitVec.toNat_inj, BitVec.toNat_ofNat, Nat.mod_eq_of_lt (by omega)]; rfl
  have last : (BitVec.ofNat 32 r.val = 511#32) = (r.val = 511) := by
    rw [← BitVec.toNat_inj, BitVec.toNat_ofNat, Nat.mod_eq_of_lt (by omega)]; rfl
  have hp : Scalar.select (Scalar.cmpi CmpIPredicate.eq p 0#32) (0 : EReal) (zp (ix2 0 e)) = if p = 0#32 then 0 else zp (ix2 0 e) := select_eq _ _ _ _
  have hn : Scalar.select (Scalar.cmpi CmpIPredicate.eq p 15#32) (0 : EReal) (zn (ix2 0 e)) = if p = 15#32 then 0 else zn (ix2 0 e) := select_eq _ _ _ _
  rw [hp, hn]
  refine congrArg₂ (· + ·) (congrArg (· + _) (congrArg (_ * ·) ((select_eq _ _ _ _).trans ?_))) (congrArg (_ * ·) ((select_eq _ _ _ _).trans ?_))
  · rw [if_congr (iff_of_eq first) rfl rfl]
    split
    · rfl
    · exact congrArg (fun k => z (ix2 k e)) (Fin.ext (show (r.val + 512 - 1) % 512 = r.val - 1 by omega))
  · rw [if_congr (iff_of_eq last) rfl rfl]
    by_cases h : r.val < 511
    · rw [if_neg (by omega), dif_pos h]
      exact congrArg (fun k => z (ix2 k e)) (Fin.ext (show (r.val + 512 - 511) % 512 = r.val + 1 by omega))
    · rw [if_pos (by omega), dif_neg h]

end Cert.Kernel2Ideal.Merge

end
-- ==== Proof.MergeTile.lean ====
/- The second call's tile at an element of its blocks. -/
module

public import proofs.«01_k».proof.Proof.MergePay
public import proofs.«01_k».proof.Proof.Gen.Kernel2Ideal.Value

@[expose] public section

set_option maxRecDepth 16384

noncomputable section

namespace Cert.Kernel2Ideal.Merge

open Cert.Kernel2Ideal Cert.Kernel2Ideal.Gen Cert.Merge Idealize.ShloMosaic

/-- The tile's place in its sequence, as the body computes it from the grid point. -/
def place (n : ℕ) : BitVec 32 :=
  Scalar.select (Scalar.andi (Scalar.xori (Scalar.cmpi .slt (Scalar.remsi (BitVec.ofNat 32 n) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 n) (Scalar.select (Scalar.cmpi .eq 16#32 0#32) 1#32 16#32)) 0#32)) (Scalar.addi (Scalar.remsi (BitVec.ofNat 32 n) (Scalar.select (Scalar.cmpi .eq 16#32 0#32) 1#32 16#32)) (Scalar.select (Scalar.cmpi .eq 16#32 0#32) 1#32 16#32)) (Scalar.remsi (BitVec.ofNat 32 n) (Scalar.select (Scalar.cmpi .eq 16#32 0#32) 1#32 16#32))

theorem place_first : ∀ n : Fin 32, (place n.val = 0#32) = (n.val % 16 = 0) := fun n => propext ((by decide +kernel : ∀ n : Fin 32, place n.val = 0#32 ↔ n.val % 16 = 0) n)
theorem place_last : ∀ n : Fin 32, (place n.val = 15#32) = (n.val % 16 = 15) := fun n => propext ((by decide +kernel : ∀ n : Fin 32, place n.val = 15#32 ↔ n.val % 16 = 15) n)

section loads
theorem zero2 : (![0, 0] : Fin 2 → ℕ) = fun _ => 0 := by decide
theorem zero3 : (![0, 0, 0] : Fin 3 → ℕ) = fun _ => 0 := by decide

variable {e : EltTy}

/-- A row of an array. -/
def rowAt {n : ℕ} (a : Fin n) (x : (⟨2, ![n, 512]⟩ : Shape).Idx → Elt Ideal e) : Vec Ideal S1x512 e := fun j => x (ix2 a (j 1))

/-- A third of an array's columns. -/
def third (o : ℕ) (h : o + 1024 ≤ 3072) (x : Vec Ideal S1024x3072 e) : Vec Ideal S1024x1024 e :=
  fun j => x (ix2 (j 0) ⟨o + (j 1).val, lt_of_lt_of_le (Nat.add_lt_add_left (j 1).isLt o) h⟩)

/-- One of three arrays. -/
def part (a : Fin 3) (x : Vec Ideal S3x512x1024 e) : Vec Ideal S1x512x1024 e := fun j => x (ix3 a (j 1) (j 2))

theorem ld0 (x : Vec Ideal S512x1024 e) : View.ld x r0_0 = x := View.ld_unit_zero zero2 _ x
theorem ld1 (x : Vec Ideal S1x1024 e) : View.ld x r0_1 = x := View.ld_unit_zero zero2 _ x
theorem ld2 (x : Vec Ideal S1x1x1024 e) : View.ld x r0_2 = x := View.ld_unit_zero zero3 _ x
theorem ld3 (x : Vec Ideal S512x512 e) : View.ld x r0_3 = x := View.ld_unit_zero zero2 _ x
theorem ld15 (x : Vec Ideal S1024x1024 e) : View.ld x r0_15 = x := View.ld_unit_zero zero2 _ x
theorem ld4 (x : Vec Ideal S8x512 e) : View.ld x r0_4 = rowAt (n := 8) 7 x := funext fun j => by
  have h : j = ix2 0 (j 1) := funext fun a => match a with | ⟨0, _⟩ => Subsingleton.elim (α := Fin 1) (j 0) 0 | ⟨1, _⟩ => rfl
  rw [h]
  pointwise [View.ld_unit, rowAt]
theorem ld5 (x : Vec Ideal S8x512 e) : View.ld x r0_5 = rowAt (n := 8) 0 x := funext fun j => by
  have h : j = ix2 0 (j 1) := funext fun a => match a with | ⟨0, _⟩ => Subsingleton.elim (α := Fin 1) (j 0) 0 | ⟨1, _⟩ => rfl
  rw [h]
  pointwise [View.ld_unit, rowAt]
theorem ld6 (x : Vec Ideal S3x512 e) : View.ld x r0_6 = rowAt (n := 3) 0 x := funext fun j => by
  have h : j = ix2 0 (j 1) := funext fun a => match a with | ⟨0, _⟩ => Subsingleton.elim (α := Fin 1) (j 0) 0 | ⟨1, _⟩ => rfl
  rw [h]
  pointwise [View.ld_unit, rowAt]
theorem ld7 (x : Vec Ideal S3x512 e) : View.ld x r0_7 = rowAt (n := 3) 1 x := funext fun j => by
  have h : j = ix2 0 (j 1) := funext fun a => match a with | ⟨0, _⟩ => Subsingleton.elim (α := Fin 1) (j 0) 0 | ⟨1, _⟩ => rfl
  rw [h]
  pointwise [View.ld_unit, rowAt]
theorem ld8 (x : Vec Ideal S3x512 e) : View.ld x r0_8 = rowAt (n := 3) 2 x := funext fun j => by
  have h : j = ix2 0 (j 1) := funext fun a => match a with | ⟨0, _⟩ => Subsingleton.elim (α := Fin 1) (j 0) 0 | ⟨1, _⟩ => rfl
  rw [h]
  pointwise [View.ld_unit, rowAt]
theorem ld9 (x : Vec Ideal S1024x3072 e) : View.ld x r0_9 = third 0 (by norm_num) x := funext fun j => by
  pointwise [View.ld_unit, third]
theorem ld11 (x : Vec Ideal S1024x3072 e) : View.ld x r0_11 = third 1024 (by norm_num) x := funext fun j => by
  pointwise [View.ld_unit, third]
theorem ld13 (x : Vec Ideal S1024x3072 e) : View.ld x r0_13 = third 2048 (by norm_num) x := funext fun j => by
  pointwise [View.ld_unit, third]
theorem ld10 (x : Vec Ideal S3x512x1024 e) : View.ld x r0_10 = part 0 x := funext fun j => by
  pointwise [View.ld_unit, part]
theorem ld12 (x : Vec Ideal S3x512x1024 e) : View.ld x r0_12 = part 1 x := funext fun j => by
  pointwise [View.ld_unit, part]
theorem ld14 (x : Vec Ideal S3x512x1024 e) : View.ld x r0_14 = part 2 x := funext fun j => by
  pointwise [View.ld_unit, part]

end loads

theorem pay1_eq (x : Vec Ideal S512x1024 .f32) (r : Fin 512) (i : Fin 1024) : k0_pay1 (F := Ideal) x (ix2 r i) = x (ix2 r i) := by
  pointwise [k0_pay1]

section tile
variable (p : grid0.Coords) (x0 x1 x2 x3 x4 x5 x6 : Vec Ideal S512x512 .bf16) (x7 x8 : Vec Ideal S8x512 .bf16) (x9 : Vec Ideal S512x1024 .f32)
  (x10 x11 x12 : Vec Ideal S1x1x1024 .f32) (x13 x14 : Vec Ideal S1x1024 .f32) (x15 : Vec Ideal S3x512 .f32) (x16 : Vec Ideal S1024x3072 .bf16)
  (x17 : Vec Ideal S3x512x1024 .bf16) (x18 : Vec Ideal S1024x1024 .bf16) (r : Fin 512)

/-- The convolution of a tile's row. -/
def tileConv (n : ℕ) (e : Fin 512) : EReal :=
  conv (x15 (ix2 0 e)) (x15 (ix2 1 e)) (x15 (ix2 2 e))
    (if r.val = 0 then (if place n = 0#32 then 0 else x7 (ix2 7 e)) else x6 (ix2 ⟨r.val - 1, by omega⟩ e))
    (x6 (ix2 r e))
    (if h : r.val < 511 then x6 (ix2 ⟨r.val + 1, by omega⟩ e) else (if place n = 15#32 then 0 else x8 (ix2 0 e)))

/-- A tile's row, modulated. -/
def tileHidden (k : Fin 1024) : EReal :=
  hiddenRow (fun k => x9 (ix2 r k)) (fun k => x13 (ix2 0 k)) (fun k => x11 (ix3 0 0 k)) (fun k => x10 (ix3 0 0 k)) k

theorem tile_apply (i : Fin 1024) : out0_19 (F := Ideal) p x0 x1 x2 x3 x4 x5 x6 x7 x8 x9 x10 x11 x12 x13 x14 x15 x16 x17 x18 (ix2 r i)
    = result (fun k => x9 (ix2 r k)) (fun k => x12 (ix3 0 0 k))
        (project (fun k => branch (tileHidden x9 x10 x11 x13 r) (fun j => x16 (ix2 j ⟨0 + k.val, by omega⟩)) (fun e => x0 (ix2 r e)) (fun e => x2 (ix2 r e)) (fun e => x17 (ix3 0 e k))
            + branch (tileHidden x9 x10 x11 x13 r) (fun j => x16 (ix2 j ⟨1024 + k.val, by omega⟩)) (fun e => x1 (ix2 r e)) (fun e => x3 (ix2 r e)) (fun e => x17 (ix3 1 e k))
            + branch (tileHidden x9 x10 x11 x13 r) (fun j => x16 (ix2 j ⟨2048 + k.val, by omega⟩)) (fun e => x5 (ix2 r e) * tileConv x6 x7 x8 x15 r (p 0).val e) (fun e => x4 (ix2 r e))
                (fun e => x17 (ix3 2 e k)))
          (fun k j => x18 (ix2 k j)))
        (fun k => x14 (ix2 0 k)) i := by
  unfold out0_19 k0_pay7
  rw [View.canon_unit_zero zero2]
  simp only [ld0, ld1, ld2, ld3, ld4, ld5, ld6, ld7, ld8, ld9, ld10, ld11, ld12, ld13, ld14, ld15]
  rw [pay6_apply]
  simp only [pay1_eq, pay2_apply, pay3_apply, pay4_apply, pay5_apply]
  rfl

end tile

end Cert.Kernel2Ideal.Merge

end
-- ==== Proof.MergeHost.lean ====
/- What the second call's host code prepares, and its grid points' blocks, at an element of the arguments. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Merge

open Cert.Kernel2Ideal Cert.Kernel2Ideal.Gen Idealize.ShloMosaic Idealize.ShloMosaic.TcCoe

/-- Every window's block at every point. -/
theorem index_eq : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])
    ∧ (win0_7.index t = ![64 * t.val - 1, 0] ∧ win0_8.index t = ![min (64 * (t.val + 1)) 2047, 0] ∧ win0_9.index t = ![t.val, 0]
    ∧ win0_10.index t = ![t.val / 16, 0, 0] ∧ win0_11.index t = ![t.val / 16, 0, 1] ∧ win0_12.index t = ![t.val / 16, 0, 2])
    ∧ (win0_13.index t = ![0, 0] ∧ win0_14.index t = ![0, 0] ∧ win0_15.index t = ![0, 0] ∧ win0_16.index t = ![0, 0]
    ∧ win0_17.index t = ![0, 0, 0] ∧ win0_18.index t = ![0, 0] ∧ win0_19.index t = ![t.val, 0]) :=
  (by decide +kernel : ∀ t : Fin grid0.N, _)

theorem lt_points (t : Fin cfg0.N) : t.val < 32 := lt_of_lt_of_eq t.isLt (by decide +kernel)

section host
variable {F : FTy → Type} [FloatOps F]

/-- A branch's array, one row a token. -/
def rowsOf (x : FVec F S2x8192x512 .f32) : FVec F S16384x512 .bf16 :=
  truncf .bf16 (shapeCast S16384x512 x shapeCasts_S2x8192x512_S16384x512) bitsLt_bf16_f32

/-- An array times its logistic function. -/
def gated (x : FVec F S2x8192x512 .f32) : FVec F S2x8192x512 .f32 :=
  mulf x (Host.divf (broadcastInDim S2x8192x512 ![] bcast_S_S2x8192x512 (constant (F := F) S_ .f32 0x3F800000#32))
    (addf (broadcastInDim S2x8192x512 ![] bcast_S_S2x8192x512 (constant (F := F) S_ .f32 0x3F800000#32)) (Host.exp (Host.negf x))))

/-- The modulation's rows, with zero rows below them. -/
def modRows (x : FVec F S2x3072 .f32) : FVec F S8x1x3072 .f32 :=
  shapeCast S8x1x3072 (concatenate S8x3072 0 [⟨S2x3072, x⟩, ⟨S6x3072, broadcastInDim S6x3072 ![] bcast_S_S6x3072 (constant (F := F) S_ .f32 0x00000000#32)⟩]
    concatenates_S2x3072_S6x3072_S8x3072_d0) shapeCasts_S8x3072_S8x1x3072

variable (m : (ℓ : Loc nD τ sig) → Buf (Elt F) ℓ) (c : Dev nD)

theorem V_ya : V m c main_v36 = rowsOf (m ((c.tc : Thread nD τ).loc main_arg0)) := by
  show StableHlo.after hostOps0 _ (Proc.devRef .tc main_v36) = _
  after_results <;> rfl
theorem V_yb : V m c main_v38 = rowsOf (m ((c.tc : Thread nD τ).loc main_arg1)) := by
  show StableHlo.after hostOps0 _ (Proc.devRef .tc main_v38) = _
  after_results <;> rfl
theorem V_za : V m c main_v11 = rowsOf (gated (m ((c.tc : Thread nD τ).loc main_arg2))) := by
  show StableHlo.after hostOps0 _ (Proc.devRef .tc main_v11) = _
  after_results <;> rfl
theorem V_zb : V m c main_v20 = rowsOf (gated (m ((c.tc : Thread nD τ).loc main_arg3))) := by
  show StableHlo.after hostOps0 _ (Proc.devRef .tc main_v20) = _
  after_results <;> rfl
theorem V_zc : V m c main_v34 = rowsOf (gated (m ((c.tc : Thread nD τ).loc main_arg4))) := by
  show StableHlo.after hostOps0 _ (Proc.devRef .tc main_v34) = _
  after_results <;> rfl
theorem V_bc : V m c main_v22 = rowsOf (m ((c.tc : Thread nD τ).loc main_arg5)) := by
  show StableHlo.after hostOps0 _ (Proc.devRef .tc main_v22) = _
  after_results <;> rfl
theorem V_cu : V m c main_v25 = rowsOf (mulf (F := F) (φ := .f32) (s := S2x8192x512) (m ((c.tc : Thread nD τ).loc main_arg6)) (m ((c.tc : Thread nD τ).loc main_arg7))) := by
  show StableHlo.after hostOps0 _ (Proc.devRef .tc main_v25) = _
  after_results <;> rfl
theorem V_x : V m c main_v39 = shapeCast S16384x1024 (m ((c.tc : Thread nD τ).loc main_arg8)) shapeCasts_S2x8192x1024_S16384x1024 := by
  show StableHlo.after hostOps0 _ (Proc.devRef .tc main_v39) = _
  after_results <;> rfl
theorem V_mod : V m c main_v2 = modRows (m ((c.tc : Thread nD τ).loc main_arg9)) := by
  show StableHlo.after hostOps0 _ (Proc.devRef .tc main_v2) = _
  after_results <;> rfl
theorem V_gpre : V m c main_v40 = shapeCast S1x1024 (m ((c.tc : Thread nD τ).loc main_arg10)) shapeCasts_S1024_S1x1024 := by
  show StableHlo.after hostOps0 _ (Proc.devRef .tc main_v40) = _
  after_results <;> rfl
theorem V_gpost : V m c main_v41 = shapeCast S1x1024 (m ((c.tc : Thread nD τ).loc main_arg11)) shapeCasts_S1024_S1x1024 := by
  show StableHlo.after hostOps0 _ (Proc.devRef .tc main_v41) = _
  after_results <;> rfl
theorem V_wg : V m c main_v43 = extractStridedSlice S1024x3072 ![0, 4512] (truncf (F := F) (φ := .f32) (s := S1024x7584) .bf16 (m ((c.tc : Thread nD τ).loc main_arg12)) bitsLt_bf16_f32)
    slices_S1024x7584_S1024x3072_0_4512 := by
  show StableHlo.after hostOps0 _ (Proc.devRef .tc main_v43) = _
  after_results <;> rfl
theorem V_wbr : V m c main_v44 = truncf (F := F) (φ := .f32) (s := S3x512x1024) .bf16 (m ((c.tc : Thread nD τ).loc main_arg14)) bitsLt_bf16_f32 := by
  show StableHlo.after hostOps0 _ (Proc.devRef .tc main_v44) = _
  after_results <;> rfl
theorem V_wo : V m c main_v45 = truncf (F := F) (φ := .f32) (s := S1024x1024) .bf16 (m ((c.tc : Thread nD τ).loc main_arg15)) bitsLt_bf16_f32 := by
  show StableHlo.after hostOps0 _ (Proc.devRef .tc main_v45) = _
  after_results <;> rfl

end host

section blocks
variable (m : (ℓ : Loc nD τ sig) → Buf (Elt Ideal) ℓ) (c : Dev nD) (t : Fin cfg0.N)

theorem rowsOf_apply (x : FVec Ideal S2x8192x512 .f32) (r : Fin 16384) (e : Fin 512) :
    rowsOf x (ix2 r e) = x (ix3 ⟨r.val / 8192, by omega⟩ ⟨r.val % 8192, Nat.mod_lt _ (by norm_num)⟩ e) := by
  pointwise [rowsOf]

theorem gated_apply (x : FVec Ideal S2x8192x512 .f32) (b : Fin 2) (s : Fin 8192) (e : Fin 512) :
    gated x (ix3 b s e) = x (ix3 b s e) * Ideal.logistic (x (ix3 b s e)) := by
  pointwise [gated, Ideal.logistic]

theorem modRows_apply (x : FVec Ideal S2x3072 .f32) (b : Fin 8) (h : b.val < 2) (i : Fin 3072) : modRows x (ix3 b 0 i) = x (ix2 ⟨b.val, h⟩ i) := by
  pointwise [modRows]
  exact dif_pos h

/-! A point's rows of the arrays cut in blocks of 512 rows. -/

theorem block_ya (j e : Fin 512) : iblk m c 0 t (ix2 j e) = V m c main_v36 (ix2 ⟨512 * t.val + j.val, by have := lt_points t; omega⟩ e) := by
  unfold iblk
  blk_simp
  refine congrArg (V m c main_v36) (funext fun x => Fin.ext ?_)
  match x with
  | ⟨0, _⟩ => blk_simp [(index_eq t).1.1]; exact congrArg (· + j.val) (Nat.mul_comm _ _)
  | ⟨1, _⟩ => blk_simp [(index_eq t).1.1]
theorem block_yb (j e : Fin 512) : iblk m c 1 t (ix2 j e) = V m c main_v38 (ix2 ⟨512 * t.val + j.val, by have := lt_points t; omega⟩ e) := by
  unfold iblk
  blk_simp
  refine congrArg (V m c main_v38) (funext fun x => Fin.ext ?_)
  match x with
  | ⟨0, _⟩ => blk_simp [(index_eq t).1.2.1]; exact congrArg (· + j.val) (Nat.mul_comm _ _)
  | ⟨1, _⟩ => blk_simp [(index_eq t).1.2.1]
theorem block_za (j e : Fin 512) : iblk m c 2 t (ix2 j e) = V m c main_v11 (ix2 ⟨512 * t.val + j.val, by have := lt_points t; omega⟩ e) := by
  unfold iblk
  blk_simp
  refine congrArg (V m c main_v11) (funext fun x => Fin.ext ?_)
  match x with
  | ⟨0, _⟩ => blk_simp [(index_eq t).1.2.2.1]; exact congrArg (· + j.val) (Nat.mul_comm _ _)
  | ⟨1, _⟩ => blk_simp [(index_eq t).1.2.2.1]
theorem block_zb (j e : Fin 512) : iblk m c 3 t (ix2 j e) = V m c main_v20 (ix2 ⟨512 * t.val + j.val, by have := lt_points t; omega⟩ e) := by
  unfold iblk
  blk_simp
  refine congrArg (V m c main_v20) (funext fun x => Fin.ext ?_)
  match x with
  | ⟨0, _⟩ => blk_simp [(index_eq t).1.2.2.2.1]; exact congrArg (· + j.val) (Nat.mul_comm _ _)
  | ⟨1, _⟩ => blk_simp [(index_eq t).1.2.2.2.1]
theorem block_zc (j e : Fin 512) : iblk m c 4 t (ix2 j e) = V m c main_v34 (ix2 ⟨512 * t.val + j.val, by have := lt_points t; omega⟩ e) := by
  unfold iblk
  blk_simp
  refine congrArg (V m c main_v34) (funext fun x => Fin.ext ?_)
  match x with
  | ⟨0, _⟩ => blk_simp [(index_eq t).1.2.2.2.2.1]; exact congrArg (· + j.val) (Nat.mul_comm _ _)
  | ⟨1, _⟩ => blk_simp [(index_eq t).1.2.2.2.2.1]
theorem block_bc (j e : Fin 512) : iblk m c 5 t (ix2 j e) = V m c main_v22 (ix2 ⟨512 * t.val + j.val, by have := lt_points t; omega⟩ e) := by
  unfold iblk
  blk_simp
  refine congrArg (V m c main_v22) (funext fun x => Fin.ext ?_)
  match x with
  | ⟨0, _⟩ => blk_simp [(index_eq t).1.2.2.2.2.2.1]; exact congrArg (· + j.val) (Nat.mul_comm _ _)
  | ⟨1, _⟩ => blk_simp [(index_eq t).1.2.2.2.2.2.1]
theorem block_cu (j e : Fin 512) : iblk m c 6 t (ix2 j e) = V m c main_v25 (ix2 ⟨512 * t.val + j.val, by have := lt_points t; omega⟩ e) := by
  unfold iblk
  blk_simp
  refine congrArg (V m c main_v25) (funext fun x => Fin.ext ?_)
  match x with
  | ⟨0, _⟩ => blk_simp [(index_eq t).1.2.2.2.2.2.2]; exact congrArg (· + j.val) (Nat.mul_comm _ _)
  | ⟨1, _⟩ => blk_simp [(index_eq t).1.2.2.2.2.2.2]
theorem block_x (j : Fin 512) (k : Fin 1024) : iblk m c 9 t (ix2 j k) = V m c main_v39 (ix2 ⟨512 * t.val + j.val, by have := lt_points t; omega⟩ k) := by
  unfold iblk
  blk_simp
  refine congrArg (V m c main_v39) (funext fun x => Fin.ext ?_)
  match x with
  | ⟨0, _⟩ => blk_simp [(index_eq t).2.1.2.2.1]; exact congrArg (· + j.val) (Nat.mul_comm _ _)
  | ⟨1, _⟩ => blk_simp [(index_eq t).2.1.2.2.1]

/-! The eight rows before and after a point's. -/

theorem block_before (j : Fin 8) (e : Fin 512) : iblk m c 7 t (ix2 j e) = V m c main_v25 (ix2 ⟨8 * (64 * t.val - 1) + j.val, by have := lt_points t; omega⟩ e) := by
  unfold iblk
  blk_simp
  refine congrArg (V m c main_v25) (funext fun x => Fin.ext ?_)
  match x with
  | ⟨0, _⟩ => blk_simp [(index_eq t).2.1.1]; exact congrArg (· + j.val) (Nat.mul_comm _ _)
  | ⟨1, _⟩ => blk_simp [(index_eq t).2.1.1]
theorem block_after (j : Fin 8) (e : Fin 512) : iblk m c 8 t (ix2 j e) = V m c main_v25 (ix2 ⟨8 * min (64 * (t.val + 1)) 2047 + j.val, by have := lt_points t; omega⟩ e) := by
  unfold iblk
  blk_simp
  refine congrArg (V m c main_v25) (funext fun x => Fin.ext ?_)
  match x with
  | ⟨0, _⟩ => blk_simp [(index_eq t).2.1.2.1]; exact congrArg (· + j.val) (Nat.mul_comm _ _)
  | ⟨1, _⟩ => blk_simp [(index_eq t).2.1.2.1]

/-! The modulation of the point's sequence. -/

theorem block_shift (k : Fin 1024) : iblk m c 10 t (ix3 0 0 k) = V m c main_v2 (ix3 ⟨t.val / 16, by have := lt_points t; omega⟩ 0 ⟨k.val, by omega⟩) := by
  unfold iblk
  blk_simp
  refine congrArg (V m c main_v2) (funext fun x => Fin.ext ?_)
  match x with
  | ⟨0, _⟩ => blk_simp [(index_eq t).2.1.2.2.2.1]; rfl
  | ⟨1, _⟩ => blk_simp [(index_eq t).2.1.2.2.2.1]
  | ⟨2, _⟩ => blk_simp [(index_eq t).2.1.2.2.2.1]
theorem block_scale (k : Fin 1024) : iblk m c 11 t (ix3 0 0 k) = V m c main_v2 (ix3 ⟨t.val / 16, by have := lt_points t; omega⟩ 0 ⟨1024 + k.val, by omega⟩) := by
  unfold iblk
  blk_simp
  refine congrArg (V m c main_v2) (funext fun x => Fin.ext ?_)
  match x with
  | ⟨0, _⟩ => blk_simp [(index_eq t).2.1.2.2.2.2.1]; rfl
  | ⟨1, _⟩ => blk_simp [(index_eq t).2.1.2.2.2.2.1]
  | ⟨2, _⟩ => blk_simp [(index_eq t).2.1.2.2.2.2.1]
theorem block_gate (k : Fin 1024) : iblk m c 12 t (ix3 0 0 k) = V m c main_v2 (ix3 ⟨t.val / 16, by have := lt_points t; omega⟩ 0 ⟨2048 + k.val, by omega⟩) := by
  unfold iblk
  blk_simp
  refine congrArg (V m c main_v2) (funext fun x => Fin.ext ?_)
  match x with
  | ⟨0, _⟩ => blk_simp [(index_eq t).2.1.2.2.2.2.2]; rfl
  | ⟨1, _⟩ => blk_simp [(index_eq t).2.1.2.2.2.2.2]
  | ⟨2, _⟩ => blk_simp [(index_eq t).2.1.2.2.2.2.2]

/-! The arrays every point reads whole. -/

theorem block_gpre (k : Fin 1024) : iblk m c 13 t (ix2 0 k) = V m c main_v40 (ix2 0 k) := by
  unfold iblk
  blk_simp
  refine congrArg (V m c main_v40) (funext fun x => Fin.ext ?_)
  match x with
  | ⟨0, _⟩ => blk_simp [(index_eq t).2.2.1]
  | ⟨1, _⟩ => blk_simp [(index_eq t).2.2.1]
theorem block_gpost (k : Fin 1024) : iblk m c 14 t (ix2 0 k) = V m c main_v41 (ix2 0 k) := by
  unfold iblk
  blk_simp
  refine congrArg (V m c main_v41) (funext fun x => Fin.ext ?_)
  match x with
  | ⟨0, _⟩ => blk_simp [(index_eq t).2.2.2.1]
  | ⟨1, _⟩ => blk_simp [(index_eq t).2.2.2.1]
theorem block_conv (j : Fin 3) (e : Fin 512) : iblk m c 15 t (ix2 j e) = V m c main_arg13 (ix2 j e) := by
  unfold iblk
  blk_simp
  refine congrArg (V m c main_arg13) (funext fun x => Fin.ext ?_)
  match x with
  | ⟨0, _⟩ => blk_simp [(index_eq t).2.2.2.2.1]
  | ⟨1, _⟩ => blk_simp [(index_eq t).2.2.2.2.1]
theorem block_wg (k : Fin 1024) (i : Fin 3072) : iblk m c 16 t (ix2 k i) = V m c main_v43 (ix2 k i) := by
  unfold iblk
  blk_simp
  refine congrArg (V m c main_v43) (funext fun x => Fin.ext ?_)
  match x with
  | ⟨0, _⟩ => blk_simp [(index_eq t).2.2.2.2.2.1]
  | ⟨1, _⟩ => blk_simp [(index_eq t).2.2.2.2.2.1]
theorem block_wbr (j : Fin 3) (e : Fin 512) (i : Fin 1024) : iblk m c 17 t (ix3 j e i) = V m c main_v44 (ix3 j e i) := by
  unfold iblk
  blk_simp
  refine congrArg (V m c main_v44) (funext fun x => Fin.ext ?_)
  match x with
  | ⟨0, _⟩ => blk_simp [(index_eq t).2.2.2.2.2.2.1]
  | ⟨1, _⟩ => blk_simp [(index_eq t).2.2.2.2.2.2.1]
  | ⟨2, _⟩ => blk_simp [(index_eq t).2.2.2.2.2.2.1]
theorem block_wo (k i : Fin 1024) : iblk m c 18 t (ix2 k i) = V m c main_v45 (ix2 k i) := by
  unfold iblk
  blk_simp
  refine congrArg (V m c main_v45) (funext fun x => Fin.ext ?_)
  match x with
  | ⟨0, _⟩ => blk_simp [(index_eq t).2.2.2.2.2.2.2.1]
  | ⟨1, _⟩ => blk_simp [(index_eq t).2.2.2.2.2.2.2.1]

end blocks

end Cert.Kernel2Ideal.Merge

end
-- ==== Proof.MergeRef.lean ====
/- The second call's reference at an element. -/
module

public import proofs.«01_k».proof.Proof.MergeSpec
public import proofs.«01_k».proof.Proof.Gen.Reference2Ideal.Read

@[expose] public section

set_option maxRecDepth 16384

noncomputable section

namespace Cert.Reference2Ideal.Read

open Cert.Reference2Ideal Cert.Reference2Ideal.Facts₀ Cert.Merge Idealize.ShloMosaic

variable (x0 x1 x2 x3 x4 x5 x6 x7 : FVec Ideal S2x8192x512 .f32) (x8 : FVec Ideal S2x8192x1024 .f32) (x9 : FVec Ideal S2x3072 .f32)
  (x10 x11 : FVec Ideal S1024 .f32) (x12 : FVec Ideal S1024x7584 .f32) (x13 : FVec Ideal S3x512 .f32) (x14 : FVec Ideal S3x512x1024 .f32)
  (x15 : FVec Ideal S1024x1024 .f32) (b : Fin 2) (s : Fin 8192) (i : Fin 1024)

theorem hidden_apply : val_main_v24 (F := Ideal) x8 x9 x10 (ix3 b s i)
    = hiddenRow (fun k => x8 (ix3 b s k)) (fun k => x10 (ix1 k)) (fun k => x9 (ix2 b ⟨1024 + k.val, by omega⟩)) (fun k => x9 (ix2 b ⟨k.val, by omega⟩)) i := by
  pointwise [val_main_v24, val_main_v23, val_main_v22, val_main_v21, val_main_v20, val_main_v19, val_main_cst_2, val_main_v18, val_main_v17, val_main_v16,
    val_main_v15, val_main_v14, val_main_v13, val_main_v12, val_main_v11, val_main_cst_1, val_main_v10, val_main_v9, val_main_cst_0, val_main_v8, val_main_v7,
    val_main_cst, val_main_v6, val_main_v4, val_main_v3, val_main_v1, val_main_v0, hiddenRow, rowNorm]

theorem branch0_apply : val_main_v64 (F := Ideal) x0 x2 x8 x9 x10 x12 x14 (ix3 b s i)
    = branch (fun k => val_main_v24 (F := Ideal) x8 x9 x10 (ix3 b s k)) (fun k => x12 (ix2 k ⟨4512 + i.val, by omega⟩))
        (fun e => x0 (ix3 b s e)) (fun e => x2 (ix3 b s e) * Ideal.logistic (x2 (ix3 b s e))) (fun e => x14 (ix3 0 e i)) := by
  pointwise [val_main_v64, val_main_v63, val_main_v62, val_main_v61, val_main_v60, val_main_v59, val_main_v58, val_main_v57, val_main_cst_4, val_main_v56,
    val_main_v55, val_main_cst_3, val_main_v54, val_main_v53, val_main_v27, val_main_v26, val_main_v25, val_main_call1_v5, val_main_call1_v4, val_main_call1_cst_0, val_main_call1_v3,
    val_main_call1_v2, val_main_call1_cst, val_main_call1_v1, val_main_call1_v0, branch, Ideal.logistic]

theorem branch1_apply : val_main_v76 (F := Ideal) x1 x3 x8 x9 x10 x12 x14 (ix3 b s i)
    = branch (fun k => val_main_v24 (F := Ideal) x8 x9 x10 (ix3 b s k)) (fun k => x12 (ix2 k ⟨4512 + (1024 + i.val), by omega⟩))
        (fun e => x1 (ix3 b s e)) (fun e => x3 (ix3 b s e) * Ideal.logistic (x3 (ix3 b s e))) (fun e => x14 (ix3 1 e i)) := by
  pointwise [val_main_v76, val_main_v75, val_main_v74, val_main_v73, val_main_v72, val_main_v71, val_main_v70, val_main_v69, val_main_cst_6, val_main_v68,
    val_main_v67, val_main_cst_5, val_main_v66, val_main_v65, val_main_v28, val_main_v26, val_main_v25, val_main_call2_v5, val_main_call2_v4, val_main_call2_cst_0, val_main_call2_v3,
    val_main_call2_v2, val_main_call2_cst, val_main_call2_v1, val_main_call2_v0, branch, Ideal.logistic]

theorem branch2_apply : val_main_v89 (F := Ideal) x4 x5 x6 x7 x8 x9 x10 x12 x13 x14 (ix3 b s i)
    = branch (fun k => val_main_v24 (F := Ideal) x8 x9 x10 (ix3 b s k)) (fun k => x12 (ix2 k ⟨4512 + (2048 + i.val), by omega⟩))
        (fun e => x5 (ix3 b s e) * val_main_v51 (F := Ideal) x6 x7 x13 (ix3 b s e)) (fun e => x4 (ix3 b s e) * Ideal.logistic (x4 (ix3 b s e))) (fun e => x14 (ix3 2 e i)) := by
  pointwise [val_main_v89, val_main_v88, val_main_v87, val_main_v86, val_main_v85, val_main_v84, val_main_v83, val_main_v82, val_main_cst_8, val_main_v81,
    val_main_v80, val_main_cst_7, val_main_v79, val_main_v78, val_main_v29, val_main_v26, val_main_v25, val_main_call3_v5, val_main_call3_v4, val_main_call3_cst_0, val_main_call3_v3,
    val_main_call3_v2, val_main_call3_cst, val_main_call3_v1, val_main_call3_v0, val_main_v52, branch, Ideal.logistic]

theorem conv_apply (e : Fin 512) : val_main_v51 (F := Ideal) x6 x7 x13 (ix3 b s e)
    = conv (x13 (ix2 0 e)) (x13 (ix2 1 e)) (x13 (ix2 2 e))
        (if s.val = 0 then 0 else x6 (ix3 b ⟨s.val - 1, by omega⟩ e) * x7 (ix3 b ⟨s.val - 1, by omega⟩ e))
        (x6 (ix3 b s e) * x7 (ix3 b s e))
        (if h : s.val < 8191 then x6 (ix3 b ⟨s.val + 1, by omega⟩ e) * x7 (ix3 b ⟨s.val + 1, by omega⟩ e) else 0) := by
  pointwise [val_main_v51, val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31, val_main_v30,
    val_main_call0_v0, val_main_c, conv]
  have hs : s.val < 8192 := s.isLt
  have z : (FloatOps.sitofp (F := Ideal) FTy.f32 0#32 : EReal) = 0 := by
    show (((0#32 : BitVec 32).toInt : ℝ) : EReal) = 0
    simp
  refine congrArg₂ (· + ·) (congrArg (· + _) (congrArg (_ * ·) ?_)) (congrArg (_ * ·) ?_)
  · by_cases h : s.val = 0
    · rw [dif_neg (by omega), if_pos h]; exact z
    · rw [dif_pos (by omega), if_neg h]
  · by_cases h : s.val < 8191
    · rw [dif_pos (by omega), dif_pos h]
      have e2 : (⟨2 + s.val - 1, by omega⟩ : Fin 8192) = ⟨s.val + 1, by omega⟩ := Fin.ext (show 2 + s.val - 1 = s.val + 1 by omega)
      exact congrArg (fun k => x6 (ix3 b k e) * x7 (ix3 b k e)) e2
    · rw [dif_neg (by omega), dif_neg h]; exact z

theorem project_apply : val_main_v91 (F := Ideal) x0 x1 x2 x3 x4 x5 x6 x7 x8 x9 x10 x12 x13 x14 x15 (ix3 b s i)
    = project (fun k => val_main_v64 (F := Ideal) x0 x2 x8 x9 x10 x12 x14 (ix3 b s k) + val_main_v76 (F := Ideal) x1 x3 x8 x9 x10 x12 x14 (ix3 b s k)
        + val_main_v89 (F := Ideal) x4 x5 x6 x7 x8 x9 x10 x12 x13 x14 (ix3 b s k)) (fun k j => x15 (ix2 k j)) i := by
  pointwise [val_main_v91, val_main_v90, val_main_v77, project]

theorem result_apply : val_main_v107 (F := Ideal) x0 x1 x2 x3 x4 x5 x6 x7 x8 x9 x10 x11 x12 x13 x14 x15 (ix3 b s i)
    = result (fun k => x8 (ix3 b s k)) (fun k => x9 (ix2 b ⟨2048 + k.val, by omega⟩))
        (fun k => val_main_v91 (F := Ideal) x0 x1 x2 x3 x4 x5 x6 x7 x8 x9 x10 x12 x13 x14 x15 (ix3 b s k)) (fun k => x11 (ix1 k)) i := by
  pointwise [val_main_v107, val_main_v106, val_main_v105, val_main_v104, val_main_v103, val_main_v102, val_main_v101, val_main_v100, val_main_v99, val_main_v98,
    val_main_v97, val_main_cst_11, val_main_v96, val_main_v95, val_main_cst_10, val_main_v94, val_main_v93, val_main_cst_9, val_main_v92, val_main_v5, val_main_v2, result, rowNorm]

theorem rows_apply (r : Fin 16384) : val_main_v108 (F := Ideal) x0 x1 x2 x3 x4 x5 x6 x7 x8 x9 x10 x11 x12 x13 x14 x15 (ix2 r i)
    = val_main_v107 (F := Ideal) x0 x1 x2 x3 x4 x5 x6 x7 x8 x9 x10 x11 x12 x13 x14 x15 (ix3 ⟨r.val / 8192, by omega⟩ ⟨r.val % 8192, Nat.mod_lt _ (by norm_num)⟩ i) := by
  pointwise [val_main_v108]

/-- A token's row, modulated. -/
def hid (k : Fin 1024) : EReal :=
  hiddenRow (fun k => x8 (ix3 b s k)) (fun k => x10 (ix1 k)) (fun k => x9 (ix2 b ⟨1024 + k.val, by omega⟩)) (fun k => x9 (ix2 b ⟨k.val, by omega⟩)) k

theorem whole_apply (r : Fin 16384) (hr : r.val = 8192 * b.val + s.val) :
    val_main_v108 (F := Ideal) x0 x1 x2 x3 x4 x5 x6 x7 x8 x9 x10 x11 x12 x13 x14 x15 (ix2 r i)
    = result (fun k => x8 (ix3 b s k)) (fun k => x9 (ix2 b ⟨2048 + k.val, by omega⟩))
        (project (fun k => branch (hid x8 x9 x10 b s) (fun j => x12 (ix2 j ⟨4512 + k.val, by omega⟩))
              (fun e => x0 (ix3 b s e)) (fun e => x2 (ix3 b s e) * Ideal.logistic (x2 (ix3 b s e))) (fun e => x14 (ix3 0 e k))
            + branch (hid x8 x9 x10 b s) (fun j => x12 (ix2 j ⟨4512 + (1024 + k.val), by omega⟩))
              (fun e => x1 (ix3 b s e)) (fun e => x3 (ix3 b s e) * Ideal.logistic (x3 (ix3 b s e))) (fun e => x14 (ix3 1 e k))
            + branch (hid x8 x9 x10 b s) (fun j => x12 (ix2 j ⟨4512 + (2048 + k.val), by omega⟩))
              (fun e => x5 (ix3 b s e) * val_main_v51 (F := Ideal) x6 x7 x13 (ix3 b s e)) (fun e => x4 (ix3 b s e) * Ideal.logistic (x4 (ix3 b s e)))
              (fun e => x14 (ix3 2 e k)))
          (fun k j => x15 (ix2 k j)))
        (fun k => x11 (ix1 k)) i := by
  have hb : (⟨r.val / 8192, by omega⟩ : Fin 2) = b := Fin.ext (show r.val / 8192 = b.val by omega)
  have hs : (⟨r.val % 8192, Nat.mod_lt _ (by norm_num)⟩ : Fin 8192) = s := Fin.ext (show r.val % 8192 = s.val by omega)
  rw [rows_apply, hb, hs, result_apply]
  simp only [project_apply, branch0_apply, branch1_apply, branch2_apply, hidden_apply]
  rfl

end Cert.Reference2Ideal.Read

end
-- ==== Proof.MergeValue.lean ====
/- The second call's result is its reference's. -/
module

public import proofs.«01_k».proof.Proof.MergeTile
public import proofs.«01_k».proof.Proof.MergeHost
public import proofs.«01_k».proof.Proof.MergeRef

@[expose] public section

set_option maxRecDepth 16384

noncomputable section

namespace Cert.Kernel2Ideal.Merge

open Cert.Kernel2Ideal Cert.Kernel2Ideal.Gen Cert.Merge Idealize.ShloMosaic Idealize.ShloMosaic.TcCoe

theorem coord : ∀ t : Fin cfg0.N, ((grid0.coords t) 0).val = t.val := (by decide +kernel : ∀ t : Fin grid0.N, _)

/-- The sequence of a point. -/
def seqOf (t : Fin cfg0.N) : Fin 2 := ⟨t.val / 16, by have := lt_points t; omega⟩

/-- The token of a point's row. -/
def token (t : Fin cfg0.N) (j : Fin 512) : Fin 8192 := ⟨512 * (t.val % 16) + j.val, by omega⟩

theorem row_eq (t : Fin cfg0.N) (j : Fin 512) : 512 * t.val + j.val = 8192 * (seqOf t).val + (token t j).val := by
  show 512 * t.val + j.val = 8192 * (t.val / 16) + (512 * (t.val % 16) + j.val)
  omega

theorem rowsOf_at (x : FVec Ideal S2x8192x512 .f32) (r : Fin 16384) (b : Fin 2) (s : Fin 8192) (h : r.val = 8192 * b.val + s.val) (e : Fin 512) :
    rowsOf x (ix2 r e) = x (ix3 b s e) := by
  rw [rowsOf_apply]
  exact congrArg₂ (fun p q => x (ix3 p q e)) (Fin.ext (show r.val / 8192 = b.val by omega)) (Fin.ext (show r.val % 8192 = s.val by omega))

/-- A value times its logistic. -/
def swish (v : EReal) : EReal := v * Ideal.logistic v

/-- The product of two arrays at an index. -/
def times (x y : FVec Ideal S2x8192x512 .f32) (b : Fin 2) (s : Fin 8192) (e : Fin 512) : EReal := x (ix3 b s e) * y (ix3 b s e)

section
variable (m : (ℓ : Loc nD τ sig) → Buf (Elt Ideal) ℓ) (c : Dev nD) (t : Fin cfg0.N) (j : Fin 512)

theorem read_ya (e : Fin 512) : iblk m c 0 t (ix2 j e) = (m ((c.tc : Thread nD τ).loc main_arg0)) (ix3 (seqOf t) (token t j) e) :=
  (block_ya m c t j e).trans ((congrFun (V_ya m c) _).trans (rowsOf_at _ _ _ _ (row_eq t j) e))
theorem read_yb (e : Fin 512) : iblk m c 1 t (ix2 j e) = (m ((c.tc : Thread nD τ).loc main_arg1)) (ix3 (seqOf t) (token t j) e) :=
  (block_yb m c t j e).trans ((congrFun (V_yb m c) _).trans (rowsOf_at _ _ _ _ (row_eq t j) e))
theorem read_za (e : Fin 512) : iblk m c 2 t (ix2 j e)
    = swish ((m ((c.tc : Thread nD τ).loc main_arg2)) (ix3 (seqOf t) (token t j) e)) :=
  (block_za m c t j e).trans ((congrFun (V_za m c) _).trans ((rowsOf_at _ _ _ _ (row_eq t j) e).trans (gated_apply _ _ _ e)))
theorem read_zb (e : Fin 512) : iblk m c 3 t (ix2 j e)
    = swish ((m ((c.tc : Thread nD τ).loc main_arg3)) (ix3 (seqOf t) (token t j) e)) :=
  (block_zb m c t j e).trans ((congrFun (V_zb m c) _).trans ((rowsOf_at _ _ _ _ (row_eq t j) e).trans (gated_apply _ _ _ e)))
theorem read_zc (e : Fin 512) : iblk m c 4 t (ix2 j e)
    = swish ((m ((c.tc : Thread nD τ).loc main_arg4)) (ix3 (seqOf t) (token t j) e)) :=
  (block_zc m c t j e).trans ((congrFun (V_zc m c) _).trans ((rowsOf_at _ _ _ _ (row_eq t j) e).trans (gated_apply _ _ _ e)))
theorem read_bc (e : Fin 512) : iblk m c 5 t (ix2 j e) = (m ((c.tc : Thread nD τ).loc main_arg5)) (ix3 (seqOf t) (token t j) e) :=
  (block_bc m c t j e).trans ((congrFun (V_bc m c) _).trans (rowsOf_at _ _ _ _ (row_eq t j) e))

/-- The product the convolution runs over. -/
def prod (b : Fin 2) (s : Fin 8192) (e : Fin 512) : EReal :=
  times (m ((c.tc : Thread nD τ).loc main_arg6)) (m ((c.tc : Thread nD τ).loc main_arg7)) b s e

theorem cu_at (r : Fin 16384) (b : Fin 2) (s : Fin 8192) (h : r.val = 8192 * b.val + s.val) (e : Fin 512) :
    V m c main_v25 (ix2 r e) = prod m c b s e :=
  (congrFun (V_cu m c) _).trans (rowsOf_at _ _ _ _ h e)

theorem read_cu (e : Fin 512) : iblk m c 6 t (ix2 j e) = prod m c (seqOf t) (token t j) e :=
  (block_cu m c t j e).trans (cu_at m c _ _ _ (row_eq t j) e)

theorem read_x (k : Fin 1024) : iblk m c 9 t (ix2 j k) = (m ((c.tc : Thread nD τ).loc main_arg8)) (ix3 (seqOf t) (token t j) k) := by
  refine (block_x m c t j k).trans ((congrFun (V_x m c) _).trans ?_)
  have h : ∀ (x : FVec Ideal S2x8192x1024 .f32) (r : Fin 16384), shapeCast S16384x1024 x shapeCasts_S2x8192x1024_S16384x1024 (ix2 r k)
      = x (ix3 ⟨r.val / 8192, by omega⟩ ⟨r.val % 8192, Nat.mod_lt _ (by norm_num)⟩ k) := fun x r => by pointwise
  refine (h _ _).trans (congrArg₂ (fun p q => (m ((c.tc : Thread nD τ).loc main_arg8)) (ix3 p q k)) (Fin.ext ?_) (Fin.ext ?_))
  · show (512 * t.val + j.val) / 8192 = t.val / 16
    omega
  · show (512 * t.val + j.val) % 8192 = 512 * (t.val % 16) + j.val
    omega
theorem read_shift (k : Fin 1024) : iblk m c 10 t (ix3 0 0 k) = (m ((c.tc : Thread nD τ).loc main_arg9)) (ix2 (seqOf t) ⟨k.val, by omega⟩) :=
  (block_shift m c t k).trans ((congrFun (V_mod m c) _).trans (modRows_apply _ _ (by have := lt_points t; show t.val / 16 < 2; omega) _))
theorem read_scale (k : Fin 1024) : iblk m c 11 t (ix3 0 0 k) = (m ((c.tc : Thread nD τ).loc main_arg9)) (ix2 (seqOf t) ⟨1024 + k.val, by omega⟩) :=
  (block_scale m c t k).trans ((congrFun (V_mod m c) _).trans (modRows_apply _ _ (by have := lt_points t; show t.val / 16 < 2; omega) _))
theorem read_gate (k : Fin 1024) : iblk m c 12 t (ix3 0 0 k) = (m ((c.tc : Thread nD τ).loc main_arg9)) (ix2 (seqOf t) ⟨2048 + k.val, by omega⟩) :=
  (block_gate m c t k).trans ((congrFun (V_mod m c) _).trans (modRows_apply _ _ (by have := lt_points t; show t.val / 16 < 2; omega) _))
theorem read_gpre (k : Fin 1024) : iblk m c 13 t (ix2 0 k) = (m ((c.tc : Thread nD τ).loc main_arg10)) (ix1 k) := by
  refine (block_gpre m c t k).trans ((congrFun (V_gpre m c) _).trans ?_)
  have h : ∀ x : FVec Ideal S1024 .f32, shapeCast S1x1024 x shapeCasts_S1024_S1x1024 (ix2 0 k) = x (ix1 k) := fun x => by pointwise
  exact h _
theorem read_gpost (k : Fin 1024) : iblk m c 14 t (ix2 0 k) = (m ((c.tc : Thread nD τ).loc main_arg11)) (ix1 k) := by
  refine (block_gpost m c t k).trans ((congrFun (V_gpost m c) _).trans ?_)
  have h : ∀ x : FVec Ideal S1024 .f32, shapeCast S1x1024 x shapeCasts_S1024_S1x1024 (ix2 0 k) = x (ix1 k) := fun x => by pointwise
  exact h _
theorem read_conv (a : Fin 3) (e : Fin 512) : iblk m c 15 t (ix2 a e) = (m ((c.tc : Thread nD τ).loc main_arg13)) (ix2 a e) :=
  (block_conv m c t a e).trans (congrFun (V_main_arg13 m c) _)
theorem read_wg (k : Fin 1024) (i : Fin 3072) : iblk m c 16 t (ix2 k i) = (m ((c.tc : Thread nD τ).loc main_arg12)) (ix2 k ⟨4512 + i.val, by omega⟩) := by
  refine (block_wg m c t k i).trans ((congrFun (V_wg m c) _).trans ?_)
  have h : ∀ x : FVec Ideal S1024x7584 .f32, extractStridedSlice S1024x3072 ![0, 4512] (truncf (F := Ideal) (φ := .f32) .bf16 x bitsLt_bf16_f32)
      slices_S1024x7584_S1024x3072_0_4512 (ix2 k i) = x (ix2 k ⟨4512 + i.val, by omega⟩) := fun x => by pointwise
  exact h _
theorem read_wbr (a : Fin 3) (e : Fin 512) (i : Fin 1024) : iblk m c 17 t (ix3 a e i) = (m ((c.tc : Thread nD τ).loc main_arg14)) (ix3 a e i) :=
  (block_wbr m c t a e i).trans (congrFun (V_wbr m c) _)
theorem read_wo (k i : Fin 1024) : iblk m c 18 t (ix2 k i) = (m ((c.tc : Thread nD τ).loc main_arg15)) (ix2 k i) :=
  (block_wo m c t k i).trans (congrFun (V_wo m c) _)

theorem conv_congr {w0 w1 w2 w0' w1' w2' h h' p p' q q' : EReal} (h0 : w0 = w0') (h1 : w1 = w1') (h2 : w2 = w2') (hh : h = h') (hp : p = p')
    (hq : q = q') : conv w0 w1 w2 p h q = conv w0' w1' w2' p' h' q' := by
  rw [h0, h1, h2, hh, hp, hq]

theorem before_eq (e : Fin 512) :
    (if j.val = 0 then (if place t.val = 0#32 then 0 else iblk m c 7 t (ix2 7 e)) else iblk m c 6 t (ix2 ⟨j.val - 1, by omega⟩ e) : EReal)
      = if (token t j).val = 0 then 0 else prod m c (seqOf t) ⟨(token t j).val - 1, by omega⟩ e := by
  have ht := lt_points t
  have hj : j.val < 512 := j.isLt
  have hk : (token t j).val = 512 * (t.val % 16) + j.val := rfl
  have hf : (place t.val = 0#32) = (t.val % 16 = 0) := place_first ⟨t.val, ht⟩
  by_cases h0 : j.val = 0
  · rw [if_pos h0]
    by_cases h1 : t.val % 16 = 0
    · rw [if_pos (hf.mpr h1), if_pos (show (token t j).val = 0 by omega)]
    · rw [if_neg (fun h => h1 (hf.mp h)), if_neg (show ¬ (token t j).val = 0 by omega)]
      refine (block_before m c t 7 e).trans (cu_at m c _ _ _ ?_ e)
      show 8 * (64 * t.val - 1) + 7 = 8192 * (t.val / 16) + (512 * (t.val % 16) + j.val - 1)
      omega
  · rw [if_neg h0, if_neg (show ¬ (token t j).val = 0 by omega)]
    refine (block_cu m c t _ e).trans (cu_at m c _ _ _ ?_ e)
    show 512 * t.val + (j.val - 1) = 8192 * (t.val / 16) + (512 * (t.val % 16) + j.val - 1)
    omega

theorem after_eq (e : Fin 512) :
    (if h : j.val < 511 then iblk m c 6 t (ix2 ⟨j.val + 1, by omega⟩ e) else (if place t.val = 15#32 then 0 else iblk m c 8 t (ix2 0 e)) : EReal)
      = if h : (token t j).val < 8191 then prod m c (seqOf t) ⟨(token t j).val + 1, by omega⟩ e else 0 := by
  have ht := lt_points t
  have hj : j.val < 512 := j.isLt
  have hk : (token t j).val = 512 * (t.val % 16) + j.val := rfl
  have hl : (place t.val = 15#32) = (t.val % 16 = 15) := place_last ⟨t.val, ht⟩
  by_cases h0 : j.val < 511
  · rw [dif_pos h0, dif_pos (show (token t j).val < 8191 by omega)]
    refine (block_cu m c t _ e).trans (cu_at m c _ _ _ ?_ e)
    show 512 * t.val + (j.val + 1) = 8192 * (t.val / 16) + (512 * (t.val % 16) + j.val + 1)
    omega
  · rw [dif_neg h0]
    by_cases h1 : t.val % 16 = 15
    · rw [if_pos (hl.mpr h1), dif_neg (show ¬ (token t j).val < 8191 by omega)]
    · rw [if_neg (fun h => h1 (hl.mp h)), dif_pos (show (token t j).val < 8191 by omega)]
      refine (block_after m c t 0 e).trans (cu_at m c _ _ _ ?_ e)
      show 8 * min (64 * (t.val + 1)) 2047 + 0 = 8192 * (t.val / 16) + (512 * (t.val % 16) + j.val + 1)
      omega

/-- The convolution of a tile's row is the padded one: its neighbours outside the tile are the rows before and after it, and zero
    outside the sequence. -/
theorem conv_eq (e : Fin 512) :
    tileConv (iblk m c 6 t) (iblk m c 7 t) (iblk m c 8 t) (iblk m c 15 t) j ((grid0.coords t) 0).val e
      = Cert.Reference2Ideal.Read.val_main_v51 (F := Ideal) (m ((c.tc : Thread nD τ).loc main_arg6)) (m ((c.tc : Thread nD τ).loc main_arg7)) (m ((c.tc : Thread nD τ).loc main_arg13)) (ix3 (seqOf t) (token t j) e) := by
  refine (congrArg (fun n => tileConv (iblk m c 6 t) (iblk m c 7 t) (iblk m c 8 t) (iblk m c 15 t) j n e) (coord t)).trans ?_
  refine Eq.trans ?_ (Cert.Reference2Ideal.Read.conv_apply _ _ _ _ _ e).symm
  exact conv_congr (read_conv m c t 0 e) (read_conv m c t 1 e) (read_conv m c t 2 e) (read_cu m c t j e) (before_eq m c t j e) (after_eq m c t j e)

theorem hidden_eq : tileHidden (iblk m c 9 t) (iblk m c 10 t) (iblk m c 11 t) (iblk m c 13 t) j
    = Cert.Reference2Ideal.Read.hid (m ((c.tc : Thread nD τ).loc main_arg8)) (m ((c.tc : Thread nD τ).loc main_arg9)) (m ((c.tc : Thread nD τ).loc main_arg10)) (seqOf t) (token t j) := by
  funext k
  unfold tileHidden Cert.Reference2Ideal.Read.hid
  simp only [read_x, read_shift, read_scale, read_gpre]

/-- The reference's result of the call's arguments. -/
def out : Buf (Elt Ideal) ((c.tc : Thread nD τ).loc main_v46) :=
  Cert.Reference2Ideal.Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

theorem out_eq (i : Fin 1024) :
    out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 j i)
      = out m c (ix2 ⟨512 * t.val + j.val, by have := lt_points t; omega⟩ i) := by
  rw [tile_apply]
  unfold out
  rw [Cert.Reference2Ideal.Read.whole_apply _ _ _ _ _ _ _ _ _ _ _ _ _ _ _ _ (seqOf t) (token t j) i _ (row_eq t j)]
  simp only [hidden_eq, conv_eq, read_ya, read_yb, read_za, read_zb, read_zc, read_bc, read_x, read_gate, read_gpost, read_wg, read_wbr, read_wo, swish, Nat.zero_add]

/-- The result's array after the run. -/
theorem final : (dats m 0 c).arrAt 19 cfg0.N = out m c := by
  refine (dats m 0 c).arrAt_eq_of_covers 19 _ (by decide +kernel) fun t hf y => ?_
  blk_simp
  rw [show (dats m 0 c).after 19 t = out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) from by dsimp only [dats]]
  have hy : y = ix2 (y 0) (y 1) := funext fun a => match a with | ⟨0, _⟩ => rfl | ⟨1, _⟩ => rfl
  rw [hy]
  refine (out_eq m c t (y 0) (y 1)).trans (congrArg (out m c) (funext fun x => Fin.ext ?_))
  match x with
  | ⟨0, _⟩ => blk_simp [(index_eq t).2.2.2.2.2.2.2.2]; exact congrArg (· + (y 0).val) (Nat.mul_comm _ _)
  | ⟨1, _⟩ => blk_simp [(index_eq t).2.2.2.2.2.2.2.2]

end

end Cert.Kernel2Ideal.Merge

end
-- ==== Proof.ModRef.lean ====
/- The modulation at an element, and the third reference's result there. -/
module

public import proofs.«01_k».proof.Proof.Gen.Reference3Ideal.Read
public import Idealize.ShloMosaic.Lib.Pointwise

@[expose] public section

set_option maxRecDepth 16384

noncomputable section

namespace Cert.Modulation

open Idealize.ShloMosaic

/-- A value times its logistic. -/
def swish (v : EReal) : EReal := v * Ideal.logistic v

/-- One element of a modulation: a row of conditions, through silu, against a column of weights, plus a bias. -/
def mod (x w : Fin 1024 → EReal) (b : EReal) : EReal := (∑ k, swish (x k) * w k) + b

/-- The modulation of zeros is the bias, whatever the weights. -/
theorem mod_zero (w : Fin 1024 → EReal) (b : EReal) : mod (fun _ => 0) w b = b := by
  simp [mod, swish]

/-- The eight rows of conditions: a batch each, the context's, and zeros. -/
def conditions (x0 : Fin 2 → Fin 1024 → EReal) (x1 : Fin 1024 → EReal) (r : Fin 8) (k : Fin 1024) : EReal :=
  if h : r.val < 2 then x0 ⟨r.val, h⟩ k else if r.val = 2 then x1 k else 0

/-- The modulation of the eight rows, taken apart. -/
theorem mod_conditions (x0 : Fin 2 → Fin 1024 → EReal) (x1 w : Fin 1024 → EReal) (b : EReal) (r : Fin 8) :
    (if h : r.val < 2 then mod (x0 ⟨r.val, h⟩) w b else if r.val - 2 < 1 then mod x1 w b else b) = mod (conditions x0 x1 r) w b := by
  by_cases h : r.val < 2
  · rw [dif_pos h]
    exact congrArg (mod · w b) (funext fun k => by rw [conditions, dif_pos h])
  · rw [dif_neg h]
    by_cases h' : r.val = 2
    · rw [if_pos (show r.val - 2 < 1 by omega)]
      exact congrArg (mod · w b) (funext fun k => by rw [conditions, dif_neg h, if_pos h'])
    · rw [if_neg (show ¬ r.val - 2 < 1 by omega)]
      exact (mod_zero w b).symm.trans (congrArg (mod · w b) (funext fun k => by rw [conditions, dif_neg h, if_neg h']))

end Cert.Modulation

namespace Cert.Reference3Ideal.Read

open Cert.Reference3Ideal Cert.Reference3Ideal.Gen Cert.Modulation Idealize.ShloMosaic

variable (x0 : FVec Ideal S2x1024 .f32) (x1 : FVec Ideal S1024 .f32) (x2 : FVec Ideal S2x1024x3072 .f32) (x3 : FVec Ideal S2x3072 .f32)

theorem latent0_apply (b : Fin 2) (i : Fin 3072) : val_main_v9 (F := Ideal) x0 x2 x3 (ix2 b i)
    = mod (fun k => x0 (ix2 b k)) (fun k => x2 (ix3 0 k i)) (x3 (ix2 0 i)) := by
  pointwise [val_main_v9, val_main_v8, val_main_v7, val_main_v6, val_main_v5, val_main_v4, val_main_v3, val_main_v2, val_main_v0, val_main_call0_v5,
    val_main_call0_v4, val_main_call0_v3, val_main_call0_v2, val_main_call0_v1, val_main_call0_v0, val_main_call0_cst, val_main_call0_cst_0, mod, swish, Ideal.logistic]

theorem latent1_apply (b : Fin 2) (i : Fin 3072) : val_main_v28 (F := Ideal) x0 x2 x3 (ix2 b i)
    = mod (fun k => x0 (ix2 b k)) (fun k => x2 (ix3 1 k i)) (x3 (ix2 1 i)) := by
  pointwise [val_main_v28, val_main_v27, val_main_v26, val_main_v25, val_main_v24, val_main_v23, val_main_v22, val_main_v21, val_main_v0, val_main_call0_v5,
    val_main_call0_v4, val_main_call0_v3, val_main_call0_v2, val_main_call0_v1, val_main_call0_v0, val_main_call0_cst, val_main_call0_cst_0, mod, swish, Ideal.logistic]

theorem context0_apply (i : Fin 3072) : val_main_v15 (F := Ideal) x1 x2 x3 (ix1 i)
    = mod (fun k => x1 (ix1 k)) (fun k => x2 (ix3 0 k i)) (x3 (ix2 0 i)) := by
  pointwise [val_main_v15, val_main_v14, val_main_v13, val_main_v12, val_main_v11, val_main_v10, val_main_v1, val_main_call1_v5,
    val_main_call1_v4, val_main_call1_v3, val_main_call1_v2, val_main_call1_v1, val_main_call1_v0, val_main_call1_cst, val_main_call1_cst_0, mod, swish, Ideal.logistic]

theorem context1_apply (i : Fin 3072) : val_main_v34 (F := Ideal) x1 x2 x3 (ix1 i)
    = mod (fun k => x1 (ix1 k)) (fun k => x2 (ix3 1 k i)) (x3 (ix2 1 i)) := by
  pointwise [val_main_v34, val_main_v33, val_main_v32, val_main_v31, val_main_v30, val_main_v29, val_main_v1, val_main_call1_v5,
    val_main_call1_v4, val_main_call1_v3, val_main_call1_v2, val_main_call1_v1, val_main_call1_v0, val_main_call1_cst, val_main_call1_cst_0, mod, swish, Ideal.logistic]

theorem layer0_apply (r : Fin 8) (i : Fin 3072) : val_main_v20 (F := Ideal) x0 x1 x2 x3 (ix2 r i)
    = mod (conditions (fun b k => x0 (ix2 b k)) (fun k => x1 (ix1 k)) r) (fun k => x2 (ix3 0 k i)) (x3 (ix2 0 i)) := by
  pointwise [val_main_v20, val_main_v19, val_main_v18, val_main_v17, val_main_v16]
  simp only [latent0_apply, context0_apply]
  exact mod_conditions (fun b k => x0 (ix2 b k)) (fun k => x1 (ix1 k)) (fun k => x2 (ix3 0 k i)) (x3 (ix2 0 i)) r

theorem layer1_apply (r : Fin 8) (i : Fin 3072) : val_main_v39 (F := Ideal) x0 x1 x2 x3 (ix2 r i)
    = mod (conditions (fun b k => x0 (ix2 b k)) (fun k => x1 (ix1 k)) r) (fun k => x2 (ix3 1 k i)) (x3 (ix2 1 i)) := by
  pointwise [val_main_v39, val_main_v38, val_main_v37, val_main_v36, val_main_v35]
  simp only [latent1_apply, context1_apply]
  exact mod_conditions (fun b k => x0 (ix2 b k)) (fun k => x1 (ix1 k)) (fun k => x2 (ix3 1 k i)) (x3 (ix2 1 i)) r

/-- The reference's result: the modulation of the eight rows in each layer. -/
theorem modulation_apply (l : Fin 2) (r : Fin 8) (i : Fin 3072) : val_main_v42 (F := Ideal) x0 x1 x2 x3 (ix3 l r i)
    = mod (conditions (fun b k => x0 (ix2 b k)) (fun k => x1 (ix1 k)) r) (fun k => x2 (ix3 l k i)) (x3 (ix2 l i)) := by
  pointwise [val_main_v42, val_main_v41, val_main_v40]
  match l with
  | ⟨0, _⟩ => exact (dif_pos Nat.zero_lt_one).trans (layer0_apply x0 x1 x2 x3 r i)
  | ⟨1, _⟩ => exact (dif_neg (lt_irrefl 1)).trans (layer1_apply x0 x1 x2 x3 r i)

end Cert.Reference3Ideal.Read

end
-- ==== Proof.ModValue.lean ====
/- The third call's result is its reference's. -/
module

public import proofs.«01_k».proof.Proof.ModRef
public import proofs.«01_k».proof.Proof.Gen.Kernel3Ideal.Value
public import Idealize.ShloMosaic.Lib.Pipeline.ValueKit

@[expose] public section

set_option maxRecDepth 16384

noncomputable section

namespace Cert.Kernel3Ideal.Modulation

open Cert.Kernel3Ideal Cert.Kernel3Ideal.Gen Cert.Modulation Idealize.ShloMosaic Idealize.ShloMosaic.TcCoe

/-- Every window's block at every point: a layer's third of the columns. -/
theorem index_eq : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] :=
  (by decide +kernel : ∀ t : Fin grid0.N, _)

theorem lt_points (t : Fin cfg0.N) : t.val < 6 := lt_of_lt_of_eq t.isLt (by decide +kernel)

section body
variable (x0 : Vec Ideal S8x1024 .f32) (x1 : Vec Ideal S1x1024x1024 .f32) (x2 : Vec Ideal S1x1x1024 .f32) (r : Fin 8) (i : Fin 1024)

theorem pay_apply : k0_pay1 (F := Ideal) x0 x1 x2 (ix3 0 r i) = mod (fun k => x0 (ix2 r k)) (fun k => x1 (ix3 0 k i)) (x2 (ix3 0 0 i)) := by
  pointwise [k0_pay1, mod, swish, Ideal.logistic]

theorem zero2 : (![0, 0] : Fin 2 → ℕ) = fun _ => 0 := by decide
theorem zero3 : (![0, 0, 0] : Fin 3 → ℕ) = fun _ => 0 := by decide

/-- What a point writes, from its blocks. -/
theorem tile_apply : out0_3 (F := Ideal) x0 x1 x2 (ix3 0 r i) = mod (fun k => x0 (ix2 r k)) (fun k => x1 (ix3 0 k i)) (x2 (ix3 0 0 i)) := by
  rw [← pay_apply]
  unfold out0_3
  rw [show View.ld x0 r0_0 = x0 from View.ld_unit_zero zero2 _ x0, show View.ld x1 r0_1 = x1 from View.ld_unit_zero zero3 _ x1,
    show View.ld x2 r0_2 = x2 from View.ld_unit_zero zero3 _ x2]
  exact congrFun (View.canon_unit_zero zero3 _ _) _
end body

section
variable (m : (ℓ : Loc nD τ sig) → Buf (Elt Ideal) ℓ) (c : Dev nD) (t : Fin cfg0.N)

/-- The rows of conditions, as the host code lays them out. -/
def rows (x0 : FVec Ideal S2x1024 .f32) (x1 : FVec Ideal S1024 .f32) : FVec Ideal S8x1024 .f32 :=
  concatenate S8x1024 0 [⟨S2x1024, x0⟩, ⟨S1x1024, broadcastInDim S1x1024 ![1] bcast_S1024_S1x1024_1 x1⟩,
    ⟨S5x1024, broadcastInDim S5x1024 ![] bcast_S_S5x1024 (constant (F := Ideal) S_ .f32 0x00000000#32)⟩] concatenates_S2x1024_S1x1024_S5x1024_S8x1024_d0

theorem rows_apply (x0 : FVec Ideal S2x1024 .f32) (x1 : FVec Ideal S1024 .f32) (r : Fin 8) (k : Fin 1024) :
    rows x0 x1 (ix2 r k) = conditions (fun b k => x0 (ix2 b k)) (fun k => x1 (ix1 k)) r k := by
  pointwise [rows, conditions]
  by_cases h : r.val < 2
  · rw [dif_pos h, dif_pos h]
  · rw [dif_neg h, dif_neg h]
    by_cases h' : r.val = 2
    · rw [dif_pos (show r.val - 2 < 1 by omega), if_pos h']
    · rw [dif_neg (show ¬ r.val - 2 < 1 by omega), if_neg h']

theorem V_rows : V m c main_v2 = rows (m ((c.tc : Thread nD τ).loc main_arg0)) (m ((c.tc : Thread nD τ).loc main_arg1)) := by
  show StableHlo.after hostOps0 _ (Proc.devRef .tc main_v2) = _
  after_results <;> rfl
theorem V_bias : V m c main_v3 = shapeCast S2x1x3072 (m ((c.tc : Thread nD τ).loc main_arg3)) shapeCasts_S2x3072_S2x1x3072 := by
  show StableHlo.after hostOps0 _ (Proc.devRef .tc main_v3) = _
  after_results <;> rfl

/-- The layer of a point, -/
def layer : Fin 2 := ⟨t.val / 3, by have := lt_points t; omega⟩

/-- and its columns. -/
def col (i : Fin 1024) : Fin 3072 := ⟨t.val % 3 * 1024 + i.val, by omega⟩

theorem read_rows (r : Fin 8) (k : Fin 1024) : iblk m c 0 t (ix2 r k)
    = conditions (fun b k => (m ((c.tc : Thread nD τ).loc main_arg0)) (ix2 b k)) (fun k => (m ((c.tc : Thread nD τ).loc main_arg1)) (ix1 k)) r k := by
  refine Eq.trans ?_ ((congrFun (V_rows m c) (ix2 r k)).trans (rows_apply _ _ r k))
  unfold iblk
  blk_simp
  refine congrArg (V m c main_v2) (funext fun x => Fin.ext ?_)
  match x with
  | ⟨0, _⟩ => blk_simp [(index_eq t).1]
  | ⟨1, _⟩ => blk_simp [(index_eq t).1]

theorem read_weights (k i : Fin 1024) : iblk m c 1 t (ix3 0 k i) = (m ((c.tc : Thread nD τ).loc main_arg2)) (ix3 (layer t) k (col t i)) := by
  refine Eq.trans ?_ (congrFun (V_main_arg2 m c) _)
  unfold iblk
  blk_simp
  refine congrArg (V m c main_arg2) (funext fun x => Fin.ext ?_)
  match x with
  | ⟨0, _⟩ => blk_simp [(index_eq t).2.1]; rfl
  | ⟨1, _⟩ => blk_simp [(index_eq t).2.1]
  | ⟨2, _⟩ => blk_simp [(index_eq t).2.1]; rfl

theorem read_bias (i : Fin 1024) : iblk m c 2 t (ix3 0 0 i) = (m ((c.tc : Thread nD τ).loc main_arg3)) (ix2 (layer t) (col t i)) := by
  have h : ∀ (x : FVec Ideal S2x3072 .f32) (l : Fin 2) (i : Fin 3072), shapeCast S2x1x3072 x shapeCasts_S2x3072_S2x1x3072 (ix3 l 0 i) = x (ix2 l i) :=
    fun x l i => by pointwise
  refine Eq.trans ?_ ((congrFun (V_bias m c) (ix3 (layer t) 0 (col t i))).trans (h _ _ _))
  unfold iblk
  blk_simp
  refine congrArg (V m c main_v3) (funext fun x => Fin.ext ?_)
  match x with
  | ⟨0, _⟩ => blk_simp [(index_eq t).2.2.1]; rfl
  | ⟨1, _⟩ => blk_simp [(index_eq t).2.2.1]
  | ⟨2, _⟩ => blk_simp [(index_eq t).2.2.1]; rfl

/-- The reference's result of the call's arguments. -/
def out : Buf (Elt Ideal) ((c.tc : Thread nD τ).loc main_v4) :=
  Cert.Reference3Ideal.Read.val_main_v42 (F := Ideal) (m ((c.tc : Thread nD τ).loc main_arg0)) (m ((c.tc : Thread nD τ).loc main_arg1)) (m ((c.tc : Thread nD τ).loc main_arg2)) (m ((c.tc : Thread nD τ).loc main_arg3))

theorem out_eq (r : Fin 8) (i : Fin 1024) :
    out0_3 (F := Ideal) (iblk m c 0 t) (iblk m c 1 t) (iblk m c 2 t) (ix3 0 r i) = out m c (ix3 (layer t) r (col t i)) := by
  rw [tile_apply]
  unfold out
  refine Eq.trans ?_ (Cert.Reference3Ideal.Read.modulation_apply _ _ _ _ _ _ _).symm
  simp only [read_rows, read_weights, read_bias]

/-- The result's array after the run. -/
theorem final : (dats m 0 c).arrAt 3 cfg0.N = out m c := by
  refine (dats m 0 c).arrAt_eq_of_covers 3 _ (by decide +kernel) fun t hf y => ?_
  blk_simp
  rw [after0_3]
  have hy : y = ix3 0 (y 1) (y 2) := funext fun a => match a with
    | ⟨0, _⟩ => Subsingleton.elim (α := Fin 1) (y 0) 0 | ⟨1, _⟩ => rfl | ⟨2, _⟩ => rfl
  rw [hy]
  refine (out_eq m c t (y 1) (y 2)).trans (congrArg (out m c) (funext fun x => Fin.ext ?_))
  match x with
  | ⟨0, _⟩ => blk_simp [(index_eq t).2.2.2]; rfl
  | ⟨1, _⟩ => blk_simp [(index_eq t).2.2.2]
  | ⟨2, _⟩ => blk_simp [(index_eq t).2.2.2]; rfl

end

end Cert.Kernel3Ideal.Modulation

end
-- ==== Proof.lean ====
module

public import proofs.«01_k».proof.Defs
public import proofs.«01_k».proof.Proof.Gen.Kernel
public import proofs.«01_k».proof.Proof.Gen.KernelIdeal
public import proofs.«01_k».proof.Proof.Value
public import proofs.«01_k».proof.Proof.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.MergeValue
public import proofs.«01_k».proof.Proof.ModValue
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem Cert.Kernel

/-- The reference's run ends with its arguments unchanged, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

section same
variable {F : FTy → Type} [FloatOps F]

/-- The kernel's text is the same at both readings: its bodies, -/
theorem bodies_eq : Cert.Kernel.defs₀ (F := F) = Cert.KernelIdeal.defs₀ (F := F) :=
  congrArg Defs.onTc (funext fun l => funext fun a => match l, a with
    | 0, (_, _) => rfl
    | ⟨_ + 1, h⟩, _ => absurd h (Nat.not_lt.2 (Nat.le_add_left _ _)))

/-- and its table of bodies. -/
theorem defs_eq : Cert.Kernel.defs (F := F) = Cert.KernelIdeal.defs (F := F) :=
  congrArg (Pipeline.defs Cert.KernelIdeal.pcfgs) bodies_eq

end same

/-- The kernel's run: it ends with its arguments unchanged and every counter at zero. -/
theorem frame_kernel : Cert.quiescent_Kernel := fun m ρ _ =>
  defs_eq (F := Bits) ▸ Cert.KernelIdeal.Launch.frame (F := Bits) m ρ

/-- The same over the reals: it ends with its arguments unchanged and every counter at zero. -/
theorem frame_ideal : Cert.quiescent_KernelIdeal := fun m ρ _ =>
  Cert.KernelIdeal.Launch.frame m ρ

/-- On finite queries and keys the kernel and the reference end with the same result. -/
theorem algebraic : Cert.algebraic_KernelIdeal_ReferenceIdeal_pre_finite_queries_keys := by
  intro m g m' g' hpre hargs
  refine ⟨fun c => Cert.KernelIdeal.Host.result m c, ?_, ?_⟩
  · refine (θ_run (Cert.KernelIdeal.defs (F := Ideal)) _ _).mono (fun r h c => ⟨(h.1 c).1.trans ?_, (h.1 c).2⟩) (Cert.KernelIdeal.Launch.run m g)
    obtain ⟨⟨r0, h0⟩, ⟨r1, h1⟩, ⟨r2, h2⟩, ⟨r3, h3⟩, ⟨r5, h5⟩, ⟨r6, h6⟩⟩ := Cert.Finite.reals_of_pre _ _ _ _ _ _ _ _ (hpre c)
    exact Cert.KernelIdeal.Host.final m c r0 r2 r1 r3 r5 r6 ⟨h0, h1, h2, h3, h5, h6⟩
  · refine (θ_run Cert.ReferenceIdeal.defs _ _).mono (fun r h c => ⟨(h c).1.trans ?_, (h c).2⟩) (Cert.ReferenceIdeal.Value.run m' g')
    obtain ⟨h0, h1, h2, h3, h4, h5, h6, h7⟩ := hargs c
    rw [Cert.ReferenceIdeal.Read.val_main_v23_eq, h0, h1, h2, h3, h4, h5, h6, h7]
    rfl

/-- The second reference's run ends with its arguments unchanged, and it declares no semaphore. -/
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- The second call's run: it ends with its arguments unchanged and every counter at zero. -/
theorem frame_kernel2 : Cert.quiescent_Kernel2 := fun m ρ _ =>
  Cert.Kernel2.Gen.frame m ρ

/-- The same over the reals. -/
theorem frame_ideal2 : Cert.quiescent_Kernel2Ideal := fun m ρ _ => Cert.Kernel2Ideal.Gen.frame m ρ

/-- The second call and its reference end with the same result, whatever the arguments. -/
theorem algebraic2 : Cert.algebraic_Kernel2Ideal_Reference2Ideal := by
  intro m g m' g' _ hargs
  refine ⟨fun c => Cert.Kernel2Ideal.Merge.out m c, ?_, ?_⟩
  · exact (θ_run (Cert.Kernel2Ideal.defs (F := Ideal)) _ _).mono
      (fun r h c => ⟨(h c).1.trans (Cert.Kernel2Ideal.Merge.final m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨h0, h1, h2, h3, h4, h5, h6, h7, h8, h9, h10, h11, h12, h13, h14, h15⟩ := hargs c
    rw [Cert.Reference2Ideal.Read.val_main_v108_eq, h0, h1, h2, h3, h4, h5, h6, h7, h8, h9, h10, h11, h12, h13, h14, h15]
    rfl

/-- The third reference's run ends with its arguments unchanged, and it declares no semaphore. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- The third call and its reference end with the same result, whatever the arguments. -/
theorem algebraic3 : Cert.algebraic_Kernel3Ideal_Reference3Ideal := by
  intro m g m' g' _ hargs
  refine ⟨fun c => Cert.Kernel3Ideal.Modulation.out m c, ?_, ?_⟩
  · exact (θ_run (Cert.Kernel3Ideal.defs (F := Ideal)) _ _).mono
      (fun r h c => ⟨(h c).1.trans (Cert.Kernel3Ideal.Modulation.final m c), (h c).2⟩) (Cert.Kernel3Ideal.Value.run_blocks m g)
  · refine (θ_run Cert.Reference3Ideal.defs _ _).mono (fun r h c => ⟨(h c).1.trans ?_, (h c).2⟩) (Cert.Reference3Ideal.Value.run m' g')
    obtain ⟨h0, h1, h2, h3⟩ := hargs c
    rw [Cert.Reference3Ideal.Read.val_main_v42_eq, h0, h1, h2, h3]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Finite.facts,
    frame_kernel, frame_ideal, fun m ρ _ => frame_ideal m ρ trivial,
    frame_reference, fun m ρ _ => frame_reference m ρ trivial,
    frame_kernel2, frame_ideal2, frame_reference2,
    fun m ρ _ => Cert.Kernel3.Gen.frame m ρ, fun m ρ _ => Cert.Kernel3Ideal.Gen.frame m ρ, frame_reference3,
    trivial, algebraic, trivial, algebraic2, trivial, algebraic3⟩

end Cert.Proof

end
